-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.bf16_pair.BufferStatement Cert.KernelIdeal.S256x2x128 Cert.KernelIdeal.S256x1x128
  ∧ IdealRules.bf16_pair.Statement Cert.KernelIdeal.S1x8x2x128 Cert.KernelIdeal.S1x8x1x128
  ∧ IdealRules.bf16_pair.Statement Cert.KernelIdeal.S16x128 Cert.KernelIdeal.S8x128
  ∧ IdealRules.bf16_pair.Statement Cert.KernelIdeal.S8x2x128 Cert.KernelIdeal.S8x1x128
  ∧ IdealRules.bf16_pack.Statement Cert.KernelIdeal.S8x128
  ∧ IdealRules.sign_bit.MaskStatement Cert.KernelIdeal.S16x128 .bf16

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S12x2048x7168 : Shape := ⟨3, ![12, 2048, 7168]⟩
abbrev S12x512x7168 : Shape := ⟨3, ![12, 512, 7168]⟩
abbrev S_ : Shape := ⟨0, ![]⟩

class Facts : Prop where
  bitsLt_bf16_f32 : FTy.bits .bf16 < FTy.bits .f32
  bcast_S_S12x2048x7168 : S_.BroadcastsInDim S12x2048x7168 (![] : Fin 0 → Fin S12x2048x7168.rank)

variable [Facts]

def fn {F : FTy → Type} [FloatOps F] (main_arg0 : FVec F S12x2048x7168 .bf16) (main_arg1 : IVec S12x512x7168 32) : IVec S12x2048x7168 1 :=
  let main_v0 : FVec F S12x2048x7168 .f32 := (extf .f32 · bitsLt_bf16_f32) main_arg0
  let main_v1 : FVec F S12x2048x7168 .f32 := Host.absf main_v0
  let main_cst : FVec F S_ .f32 := constant S_ .f32 0x00000000#32
  let main_v2 : FVec F S12x2048x7168 .f32 := broadcastInDim S12x2048x7168 ![] bcast_S_S12x2048x7168 main_cst
  let main_v3 : IVec S12x2048x7168 1 := cmpf .oeq main_v1 main_v2
  let main_cst_0 : FVec F S_ .f32 := constant S_ .f32 0x08000000#32
  let main_v4 : FVec F S12x2048x7168 .f32 := broadcastInDim S12x2048x7168 ![] bcast_S_S12x2048x7168 main_cst_0
  let main_v5 : IVec S12x2048x7168 1 := cmpf .oge main_v1 main_v4
  let main_cst_1 : FVec F S_ .f32 := constant S_ .f32 0x7F7F0000#32
  let main_v6 : FVec F S12x2048x7168 .f32 := broadcastInDim S12x2048x7168 ![] bcast_S_S12x2048x7168 main_cst_1
  let main_v7 : IVec S12x2048x7168 1 := cmpf .ole main_v1 main_v6
  let main_v8 : IVec S12x2048x7168 1 := andi main_v5 main_v7
  let main_v9 : IVec S12x2048x7168 1 := ori main_v3 main_v8
  main_v9
-- ==== Kernel.lean ====
abbrev S12x2048x7168 : Shape := ⟨3, ![12, 2048, 7168]⟩
abbrev S12x512x7168 : Shape := ⟨3, ![12, 512, 7168]⟩
abbrev S12x1024x7168 : Shape := ⟨3, ![12, 1024, 7168]⟩
abbrev S12x16x7168 : Shape := ⟨3, ![12, 16, 7168]⟩
abbrev S12x256x7168 : Shape := ⟨3, ![12, 256, 7168]⟩
abbrev S1x2048x128 : Shape := ⟨3, ![1, 2048, 128]⟩
abbrev S1x512x128 : Shape := ⟨3, ![1, 512, 128]⟩
abbrev S1x1024x128 : Shape := ⟨3, ![1, 1024, 128]⟩
abbrev S1x16x128 : Shape := ⟨3, ![1, 16, 128]⟩
abbrev S1x256x128 : Shape := ⟨3, ![1, 256, 128]⟩
abbrev S256x128 : Shape := ⟨2, ![256, 128]⟩
abbrev S64x128 : Shape := ⟨2, ![64, 128]⟩
abbrev S8x128 : Shape := ⟨2, ![8, 128]⟩
abbrev S512x128 : Shape := ⟨2, ![512, 128]⟩
abbrev S1x1024x2x128 : Shape := ⟨4, ![1, 1024, 2, 128]⟩
abbrev S1x8x2x128 : Shape := ⟨4, ![1, 8, 2, 128]⟩
abbrev S1x8x1x128 : Shape := ⟨4, ![1, 8, 1, 128]⟩
abbrev S1x8x128 : Shape := ⟨3, ![1, 8, 128]⟩
abbrev S32x128 : Shape := ⟨2, ![32, 128]⟩
abbrev S1x32x128 : Shape := ⟨3, ![1, 32, 128]⟩
abbrev S16x128 : Shape := ⟨2, ![16, 128]⟩

abbrev nBuf : Space → Nat
  | .hbm => 5
  | .vmem => 15
  | .smem => 0
  | _ => 0

abbrev bufTy : (tb : Table) → Fin (tcTables nBuf tb) → BufTy
  | .hbm, ⟨0, _⟩ => ⟨S12x2048x7168, .bf16⟩
  | .hbm, ⟨1, _⟩ => ⟨S12x512x7168, .i32⟩
  | .hbm, ⟨2, _⟩ => ⟨S12x1024x7168, .fp8e5m2⟩
  | .hbm, ⟨3, _⟩ => ⟨S12x16x7168, .f32⟩
  | .hbm, ⟨4, _⟩ => ⟨S12x256x7168, .i8⟩
  | .local _ .vmem, ⟨0, _⟩ => ⟨S1x2048x128, .bf16⟩
  | .local _ .vmem, ⟨1, _⟩ => ⟨S1x2048x128, .bf16⟩
  | .local _ .vmem, ⟨2, _⟩ => ⟨S1x512x128, .i32⟩
  | .local _ .vmem, ⟨3, _⟩ => ⟨S1x512x128, .i32⟩
  | .local _ .vmem, ⟨4, _⟩ => ⟨S1x1024x128, .fp8e5m2⟩
  | .local _ .vmem, ⟨5, _⟩ => ⟨S1x1024x128, .fp8e5m2⟩
  | .local _ .vmem, ⟨6, _⟩ => ⟨S1x16x128, .f32⟩
  | .local _ .vmem, ⟨7, _⟩ => ⟨S1x16x128, .f32⟩
  | .local _ .vmem, ⟨8, _⟩ => ⟨S1x256x128, .i8⟩
  | .local _ .vmem, ⟨9, _⟩ => ⟨S1x256x128, .i8⟩
  | .local _ .vmem, ⟨10, _⟩ => ⟨S256x128, .i32⟩
  | .local _ .vmem, ⟨11, _⟩ => ⟨S256x128, .f32⟩
  | .local _ .vmem, ⟨12, _⟩ => ⟨S256x128, .i32⟩
  | .local _ .vmem, ⟨13, _⟩ => ⟨S64x128, .f32⟩
  | .local _ .vmem, ⟨14, _⟩ => ⟨S8x128, .f32⟩
  | _, _ => ⟨S12x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨2, ![12, 56], ![false, false]⟩

@[reducible] def k0_t1_loop : Scf.Loop 32 :=
  let c0_i32_1 : BitVec 32 := 0#32
  let c2_i32_2 : BitVec 32 := 2#32
  let v14 : BitVec 32 := Scalar.addi c0_i32_1 c2_i32_2
  let c1_i32_3 : BitVec 32 := 1#32
  ⟨c0_i32_1, v14, c1_i32_3⟩
def k0_mult1 (k0_t1 : Fin k0_t1_loop.trips) : BitVec 32 :=
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  v17
def k0_mult2 (k0_t1 : Fin k0_t1_loop.trips) : BitVec 32 :=
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  v19
def k0_off1 (k0_t1 : Fin k0_t1_loop.trips) : Fin 4 → Nat :=
  let c0_i32_8 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_9 : BitVec 32 := 0#32
  ![0, v20.toNat, 0, 0]
def k0_off2 (k0_t1 : Fin k0_t1_loop.trips) : Fin 4 → Nat :=
  let c0_i32_11 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_12 : BitVec 32 := 0#32
  ![0, Nat.add v20.toNat 1, 0, 0]
def k0_off3 (k0_t1 : Fin k0_t1_loop.trips) (c0_i32_14 : BitVec 32) : Fin 3 → Nat :=
  let c0_15 : Index := 0#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v29 : BitVec 32 := Scalar.addi v18 c0_i32_14
  let v30 : Index := Scalar.indexCast v29
  let c0_16 : Index := 0#32
  ![0, v30.toNat, 0]
def k0_off4 (k0_t1 : Fin k0_t1_loop.trips) : Fin 4 → Nat :=
  let c0_i32_30 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_31 : BitVec 32 := 0#32
  ![0, Nat.add v20.toNat 16, 0, 0]
def k0_off5 (k0_t1 : Fin k0_t1_loop.trips) : Fin 4 → Nat :=
  let c0_i32_33 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_34 : BitVec 32 := 0#32
  ![0, Nat.add v20.toNat 17, 0, 0]
def k0_off6 (k0_t1 : Fin k0_t1_loop.trips) : Fin 4 → Nat :=
  let c0_i32_54 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_55 : BitVec 32 := 0#32
  ![0, Nat.add v20.toNat 32, 0, 0]
def k0_off7 (k0_t1 : Fin k0_t1_loop.trips) : Fin 4 → Nat :=
  let c0_i32_57 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_58 : BitVec 32 := 0#32
  ![0, Nat.add v20.toNat 33, 0, 0]
def k0_off8 (k0_t1 : Fin k0_t1_loop.trips) : Fin 4 → Nat :=
  let c0_i32_79 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_80 : BitVec 32 := 0#32
  ![0, Nat.add v20.toNat 48, 0, 0]
def k0_off9 (k0_t1 : Fin k0_t1_loop.trips) : Fin 4 → Nat :=
  let c0_i32_82 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_83 : BitVec 32 := 0#32
  ![0, Nat.add v20.toNat 49, 0, 0]
def k0_off10 (k0_t1 : Fin k0_t1_loop.trips) : Fin 4 → Nat :=
  let c0_i32_104 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_105 : BitVec 32 := 0#32
  ![0, Nat.add v20.toNat 64, 0, 0]
def k0_off11 (k0_t1 : Fin k0_t1_loop.trips) : Fin 4 → Nat :=
  let c0_i32_107 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_108 : BitVec 32 := 0#32
  ![0, Nat.add v20.toNat 65, 0, 0]
def k0_off12 (k0_t1 : Fin k0_t1_loop.trips) : Fin 4 → Nat :=
  let c0_i32_128 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_129 : BitVec 32 := 0#32
  ![0, Nat.add v20.toNat 80, 0, 0]
def k0_off13 (k0_t1 : Fin k0_t1_loop.trips) : Fin 4 → Nat :=
  let c0_i32_131 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_132 : BitVec 32 := 0#32
  ![0, Nat.add v20.toNat 81, 0, 0]
def k0_off14 (k0_t1 : Fin k0_t1_loop.trips) : Fin 4 → Nat :=
  let c0_i32_151 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_152 : BitVec 32 := 0#32
  ![0, Nat.add v20.toNat 96, 0, 0]
def k0_off15 (k0_t1 : Fin k0_t1_loop.trips) : Fin 4 → Nat :=
  let c0_i32_154 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_155 : BitVec 32 := 0#32
  ![0, Nat.add v20.toNat 97, 0, 0]
def k0_off16 (k0_t1 : Fin k0_t1_loop.trips) : Fin 4 → Nat :=
  let c0_i32_175 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_176 : BitVec 32 := 0#32
  ![0, Nat.add v20.toNat 112, 0, 0]
def k0_off17 (k0_t1 : Fin k0_t1_loop.trips) : Fin 4 → Nat :=
  let c0_i32_178 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_179 : BitVec 32 := 0#32
  ![0, Nat.add v20.toNat 113, 0, 0]
def k0_off18 (k0_t1 : Fin k0_t1_loop.trips) : Fin 4 → Nat :=
  let c0_i32_200 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_201 : BitVec 32 := 0#32
  ![0, Nat.add v20.toNat 128, 0, 0]
def k0_off19 (k0_t1 : Fin k0_t1_loop.trips) : Fin 4 → Nat :=
  let c0_i32_203 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_204 : BitVec 32 := 0#32
  ![0, Nat.add v20.toNat 129, 0, 0]
def k0_off20 (k0_t1 : Fin k0_t1_loop.trips) : Fin 4 → Nat :=
  let c0_i32_224 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_225 : BitVec 32 := 0#32
  ![0, Nat.add v20.toNat 144, 0, 0]
def k0_off21 (k0_t1 : Fin k0_t1_loop.trips) : Fin 4 → Nat :=
  let c0_i32_227 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_228 : BitVec 32 := 0#32
  ![0, Nat.add v20.toNat 145, 0, 0]
def k0_off22 (k0_t1 : Fin k0_t1_loop.trips) : Fin 4 → Nat :=
  let c0_i32_247 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_248 : BitVec 32 := 0#32
  ![0, Nat.add v20.toNat 160, 0, 0]
def k0_off23 (k0_t1 : Fin k0_t1_loop.trips) : Fin 4 → Nat :=
  let c0_i32_250 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_251 : BitVec 32 := 0#32
  ![0, Nat.add v20.toNat 161, 0, 0]
def k0_off24 (k0_t1 : Fin k0_t1_loop.trips) : Fin 4 → Nat :=
  let c0_i32_271 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_272 : BitVec 32 := 0#32
  ![0, Nat.add v20.toNat 176, 0, 0]
def k0_off25 (k0_t1 : Fin k0_t1_loop.trips) : Fin 4 → Nat :=
  let c0_i32_274 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_275 : BitVec 32 := 0#32
  ![0, Nat.add v20.toNat 177, 0, 0]
def k0_off26 (k0_t1 : Fin k0_t1_loop.trips) : Fin 4 → Nat :=
  let c0_i32_296 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_297 : BitVec 32 := 0#32
  ![0, Nat.add v20.toNat 192, 0, 0]
def k0_off27 (k0_t1 : Fin k0_t1_loop.trips) : Fin 4 → Nat :=
  let c0_i32_299 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_300 : BitVec 32 := 0#32
  ![0, Nat.add v20.toNat 193, 0, 0]
def k0_off28 (k0_t1 : Fin k0_t1_loop.trips) : Fin 4 → Nat :=
  let c0_i32_320 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_321 : BitVec 32 := 0#32
  ![0, Nat.add v20.toNat 208, 0, 0]
def k0_off29 (k0_t1 : Fin k0_t1_loop.trips) : Fin 4 → Nat :=
  let c0_i32_323 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_324 : BitVec 32 := 0#32
  ![0, Nat.add v20.toNat 209, 0, 0]
def k0_off30 (k0_t1 : Fin k0_t1_loop.trips) : Fin 4 → Nat :=
  let c0_i32_343 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_344 : BitVec 32 := 0#32
  ![0, Nat.add v20.toNat 224, 0, 0]
def k0_off31 (k0_t1 : Fin k0_t1_loop.trips) : Fin 4 → Nat :=
  let c0_i32_346 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_347 : BitVec 32 := 0#32
  ![0, Nat.add v20.toNat 225, 0, 0]
def k0_off32 (k0_t1 : Fin k0_t1_loop.trips) : Fin 4 → Nat :=
  let c0_i32_367 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_368 : BitVec 32 := 0#32
  ![0, Nat.add v20.toNat 240, 0, 0]
def k0_off33 (k0_t1 : Fin k0_t1_loop.trips) : Fin 4 → Nat :=
  let c0_i32_370 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_371 : BitVec 32 := 0#32
  ![0, Nat.add v20.toNat 241, 0, 0]
def k0_off34 (k0_t1 : Fin k0_t1_loop.trips) : Fin 4 → Nat :=
  let c0_i32_392 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_393 : BitVec 32 := 0#32
  ![0, Nat.add v20.toNat 256, 0, 0]
def k0_off35 (k0_t1 : Fin k0_t1_loop.trips) : Fin 4 → Nat :=
  let c0_i32_395 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_396 : BitVec 32 := 0#32
  ![0, Nat.add v20.toNat 257, 0, 0]
def k0_off36 (k0_t1 : Fin k0_t1_loop.trips) : Fin 4 → Nat :=
  let c0_i32_416 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_417 : BitVec 32 := 0#32
  ![0, Nat.add v20.toNat 272, 0, 0]
def k0_off37 (k0_t1 : Fin k0_t1_loop.trips) : Fin 4 → Nat :=
  let c0_i32_419 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_420 : BitVec 32 := 0#32
  ![0, Nat.add v20.toNat 273, 0, 0]
def k0_off38 (k0_t1 : Fin k0_t1_loop.trips) : Fin 4 → Nat :=
  let c0_i32_439 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_440 : BitVec 32 := 0#32
  ![0, Nat.add v20.toNat 288, 0, 0]
def k0_off39 (k0_t1 : Fin k0_t1_loop.trips) : Fin 4 → Nat :=
  let c0_i32_442 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_443 : BitVec 32 := 0#32
  ![0, Nat.add v20.toNat 289, 0, 0]
def k0_off40 (k0_t1 : Fin k0_t1_loop.trips) : Fin 4 → Nat :=
  let c0_i32_463 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_464 : BitVec 32 := 0#32
  ![0, Nat.add v20.toNat 304, 0, 0]
def k0_off41 (k0_t1 : Fin k0_t1_loop.trips) : Fin 4 → Nat :=
  let c0_i32_466 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_467 : BitVec 32 := 0#32
  ![0, Nat.add v20.toNat 305, 0, 0]
def k0_off42 (k0_t1 : Fin k0_t1_loop.trips) : Fin 4 → Nat :=
  let c0_i32_488 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_489 : BitVec 32 := 0#32
  ![0, Nat.add v20.toNat 320, 0, 0]
def k0_off43 (k0_t1 : Fin k0_t1_loop.trips) : Fin 4 → Nat :=
  let c0_i32_491 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_492 : BitVec 32 := 0#32
  ![0, Nat.add v20.toNat 321, 0, 0]
def k0_off44 (k0_t1 : Fin k0_t1_loop.trips) : Fin 4 → Nat :=
  let c0_i32_512 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_513 : BitVec 32 := 0#32
  ![0, Nat.add v20.toNat 336, 0, 0]
def k0_off45 (k0_t1 : Fin k0_t1_loop.trips) : Fin 4 → Nat :=
  let c0_i32_515 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_516 : BitVec 32 := 0#32
  ![0, Nat.add v20.toNat 337, 0, 0]
def k0_off46 (k0_t1 : Fin k0_t1_loop.trips) : Fin 4 → Nat :=
  let c0_i32_535 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_536 : BitVec 32 := 0#32
  ![0, Nat.add v20.toNat 352, 0, 0]
def k0_off47 (k0_t1 : Fin k0_t1_loop.trips) : Fin 4 → Nat :=
  let c0_i32_538 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_539 : BitVec 32 := 0#32
  ![0, Nat.add v20.toNat 353, 0, 0]
def k0_off48 (k0_t1 : Fin k0_t1_loop.trips) : Fin 4 → Nat :=
  let c0_i32_559 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_560 : BitVec 32 := 0#32
  ![0, Nat.add v20.toNat 368, 0, 0]
def k0_off49 (k0_t1 : Fin k0_t1_loop.trips) : Fin 4 → Nat :=
  let c0_i32_562 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_563 : BitVec 32 := 0#32
  ![0, Nat.add v20.toNat 369, 0, 0]
def k0_off50 (k0_t1 : Fin k0_t1_loop.trips) : Fin 4 → Nat :=
  let c0_i32_584 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_585 : BitVec 32 := 0#32
  ![0, Nat.add v20.toNat 384, 0, 0]
def k0_off51 (k0_t1 : Fin k0_t1_loop.trips) : Fin 4 → Nat :=
  let c0_i32_587 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_588 : BitVec 32 := 0#32
  ![0, Nat.add v20.toNat 385, 0, 0]
def k0_off52 (k0_t1 : Fin k0_t1_loop.trips) : Fin 4 → Nat :=
  let c0_i32_608 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_609 : BitVec 32 := 0#32
  ![0, Nat.add v20.toNat 400, 0, 0]
def k0_off53 (k0_t1 : Fin k0_t1_loop.trips) : Fin 4 → Nat :=
  let c0_i32_611 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_612 : BitVec 32 := 0#32
  ![0, Nat.add v20.toNat 401, 0, 0]
def k0_off54 (k0_t1 : Fin k0_t1_loop.trips) : Fin 4 → Nat :=
  let c0_i32_631 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_632 : BitVec 32 := 0#32
  ![0, Nat.add v20.toNat 416, 0, 0]
def k0_off55 (k0_t1 : Fin k0_t1_loop.trips) : Fin 4 → Nat :=
  let c0_i32_634 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_635 : BitVec 32 := 0#32
  ![0, Nat.add v20.toNat 417, 0, 0]
def k0_off56 (k0_t1 : Fin k0_t1_loop.trips) : Fin 4 → Nat :=
  let c0_i32_655 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_656 : BitVec 32 := 0#32
  ![0, Nat.add v20.toNat 432, 0, 0]
def k0_off57 (k0_t1 : Fin k0_t1_loop.trips) : Fin 4 → Nat :=
  let c0_i32_658 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_659 : BitVec 32 := 0#32
  ![0, Nat.add v20.toNat 433, 0, 0]
def k0_off58 (k0_t1 : Fin k0_t1_loop.trips) : Fin 4 → Nat :=
  let c0_i32_680 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_681 : BitVec 32 := 0#32
  ![0, Nat.add v20.toNat 448, 0, 0]
def k0_off59 (k0_t1 : Fin k0_t1_loop.trips) : Fin 4 → Nat :=
  let c0_i32_683 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_684 : BitVec 32 := 0#32
  ![0, Nat.add v20.toNat 449, 0, 0]
def k0_off60 (k0_t1 : Fin k0_t1_loop.trips) : Fin 4 → Nat :=
  let c0_i32_704 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_705 : BitVec 32 := 0#32
  ![0, Nat.add v20.toNat 464, 0, 0]
def k0_off61 (k0_t1 : Fin k0_t1_loop.trips) : Fin 4 → Nat :=
  let c0_i32_707 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_708 : BitVec 32 := 0#32
  ![0, Nat.add v20.toNat 465, 0, 0]
def k0_off62 (k0_t1 : Fin k0_t1_loop.trips) : Fin 4 → Nat :=
  let c0_i32_727 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_728 : BitVec 32 := 0#32
  ![0, Nat.add v20.toNat 480, 0, 0]
def k0_off63 (k0_t1 : Fin k0_t1_loop.trips) : Fin 4 → Nat :=
  let c0_i32_730 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_731 : BitVec 32 := 0#32
  ![0, Nat.add v20.toNat 481, 0, 0]
def k0_off64 (k0_t1 : Fin k0_t1_loop.trips) : Fin 4 → Nat :=
  let c0_i32_751 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_752 : BitVec 32 := 0#32
  ![0, Nat.add v20.toNat 496, 0, 0]
def k0_off65 (k0_t1 : Fin k0_t1_loop.trips) : Fin 4 → Nat :=
  let c0_i32_754 : BitVec 32 := 0#32
  let c2_i32_7 : BitVec 32 := 2#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c256_i32 : BitVec 32 := 256#32
  let v17 : BitVec 32 := Scalar.muli v16 c256_i32
  let v18 : BitVec 32 := v17
  let v19 : BitVec 32 := Scalar.muli c2_i32_7 v18
  let v20 : BitVec 32 := v19
  let c0_i32_755 : BitVec 32 := 0#32
  ![0, Nat.add v20.toNat 497, 0, 0]
def k0_mult3 (k0_t1 : Fin k0_t1_loop.trips) : BitVec 32 :=
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c8_i32_814 : BitVec 32 := 8#32
  let v2593 : BitVec 32 := Scalar.muli v16 c8_i32_814
  v2593
def k0_off66 (k0_t1 : Fin k0_t1_loop.trips) : Fin 3 → Nat :=
  let c0_815 : Index := 0#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c8_i32_814 : BitVec 32 := 8#32
  let v2593 : BitVec 32 := Scalar.muli v16 c8_i32_814
  let v2594 : BitVec 32 := v2593
  let v2595 : Index := Scalar.indexCast v2594
  let c0_816 : Index := 0#32
  ![0, v2595.toNat, 0]
def k0_mult4 (k0_t1 : Fin k0_t1_loop.trips) : BitVec 32 :=
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c128_i32_865 : BitVec 32 := 128#32
  let v2666 : BitVec 32 := Scalar.muli v16 c128_i32_865
  v2666
def k0_off67 (k0_t1 : Fin k0_t1_loop.trips) (c0_i32_866 : BitVec 32) : Fin 3 → Nat :=
  let c0_867 : Index := 0#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c128_i32_865 : BitVec 32 := 128#32
  let v2666 : BitVec 32 := Scalar.muli v16 c128_i32_865
  let v2667 : BitVec 32 := v2666
  let v2668 : BitVec 32 := Scalar.addi v2667 c0_i32_866
  let v2669 : Index := Scalar.indexCast v2668
  let c0_868 : Index := 0#32
  ![0, v2669.toNat, 0]
def k0_mult5 (k0_t1 : Fin k0_t1_loop.trips) : BitVec 32 :=
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c128_i32_869 : BitVec 32 := 128#32
  let v2673 : BitVec 32 := Scalar.muli v16 c128_i32_869
  v2673
def k0_mult6 (k0_t1 : Fin k0_t1_loop.trips) : BitVec 32 :=
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c128_i32_873 : BitVec 32 := 128#32
  let v2680 : BitVec 32 := Scalar.muli v16 c128_i32_873
  v2680
def k0_mult7 (k0_t1 : Fin k0_t1_loop.trips) : BitVec 32 :=
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c128_i32_877 : BitVec 32 := 128#32
  let v2687 : BitVec 32 := Scalar.muli v16 c128_i32_877
  v2687
def k0_mult8 (k0_t1 : Fin k0_t1_loop.trips) : BitVec 32 :=
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c512_i32 : BitVec 32 := 512#32
  let v2772 : BitVec 32 := Scalar.muli v16 c512_i32
  v2772
def k0_off68 (k0_t1 : Fin k0_t1_loop.trips) (c0_i32_906 : BitVec 32) : Fin 3 → Nat :=
  let c0_907 : Index := 0#32
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c512_i32 : BitVec 32 := 512#32
  let v2772 : BitVec 32 := Scalar.muli v16 c512_i32
  let v2773 : BitVec 32 := v2772
  let v2774 : BitVec 32 := Scalar.addi v2773 c0_i32_906
  let v2775 : Index := Scalar.indexCast v2774
  let c0_908 : Index := 0#32
  ![0, v2775.toNat, 0]
def k0_mult9 (k0_t1 : Fin k0_t1_loop.trips) : BitVec 32 :=
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c512_i32_931 : BitVec 32 := 512#32
  let v2851 : BitVec 32 := Scalar.muli v16 c512_i32_931
  v2851
def k0_mult10 (k0_t1 : Fin k0_t1_loop.trips) : BitVec 32 :=
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c512_i32_961 : BitVec 32 := 512#32
  let v2936 : BitVec 32 := Scalar.muli v16 c512_i32_961
  v2936
def k0_mult11 (k0_t1 : Fin k0_t1_loop.trips) : BitVec 32 :=
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c512_i32_987 : BitVec 32 := 512#32
  let v3015 : BitVec 32 := Scalar.muli v16 c512_i32_987
  v3015
def k0_mult12 (k0_t1 : Fin k0_t1_loop.trips) : BitVec 32 :=
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c512_i32_1017 : BitVec 32 := 512#32
  let v3100 : BitVec 32 := Scalar.muli v16 c512_i32_1017
  v3100
def k0_mult13 (k0_t1 : Fin k0_t1_loop.trips) : BitVec 32 :=
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c512_i32_1043 : BitVec 32 := 512#32
  let v3179 : BitVec 32 := Scalar.muli v16 c512_i32_1043
  v3179
def k0_mult14 (k0_t1 : Fin k0_t1_loop.trips) : BitVec 32 :=
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c512_i32_1073 : BitVec 32 := 512#32
  let v3264 : BitVec 32 := Scalar.muli v16 c512_i32_1073
  v3264
def k0_mult15 (k0_t1 : Fin k0_t1_loop.trips) : BitVec 32 :=
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c512_i32_1099 : BitVec 32 := 512#32
  let v3343 : BitVec 32 := Scalar.muli v16 c512_i32_1099
  v3343
def k0_mult16 (k0_t1 : Fin k0_t1_loop.trips) : BitVec 32 :=
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c512_i32_1129 : BitVec 32 := 512#32
  let v3428 : BitVec 32 := Scalar.muli v16 c512_i32_1129
  v3428
def k0_mult17 (k0_t1 : Fin k0_t1_loop.trips) : BitVec 32 :=
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c512_i32_1155 : BitVec 32 := 512#32
  let v3507 : BitVec 32 := Scalar.muli v16 c512_i32_1155
  v3507
def k0_mult18 (k0_t1 : Fin k0_t1_loop.trips) : BitVec 32 :=
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c512_i32_1184 : BitVec 32 := 512#32
  let v3592 : BitVec 32 := Scalar.muli v16 c512_i32_1184
  v3592
def k0_mult19 (k0_t1 : Fin k0_t1_loop.trips) : BitVec 32 :=
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c512_i32_1209 : BitVec 32 := 512#32
  let v3671 : BitVec 32 := Scalar.muli v16 c512_i32_1209
  v3671
def k0_mult20 (k0_t1 : Fin k0_t1_loop.trips) : BitVec 32 :=
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c512_i32_1238 : BitVec 32 := 512#32
  let v3756 : BitVec 32 := Scalar.muli v16 c512_i32_1238
  v3756
def k0_mult21 (k0_t1 : Fin k0_t1_loop.trips) : BitVec 32 :=
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c512_i32_1263 : BitVec 32 := 512#32
  let v3835 : BitVec 32 := Scalar.muli v16 c512_i32_1263
  v3835
def k0_mult22 (k0_t1 : Fin k0_t1_loop.trips) : BitVec 32 :=
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c512_i32_1292 : BitVec 32 := 512#32
  let v3920 : BitVec 32 := Scalar.muli v16 c512_i32_1292
  v3920
def k0_mult23 (k0_t1 : Fin k0_t1_loop.trips) : BitVec 32 :=
  let c0_i32_6 : BitVec 32 := 0#32
  let c0_i32_1 : BitVec 32 := 0#32
  let c1_i32_3 : BitVec 32 := 1#32
  let arg12 : BitVec 32 := Scf.iv c0_i32_1 c1_i32_3 k0_t1
  let c1_i32_5 : BitVec 32 := 1#32
  let v15 : BitVec 32 := Scalar.muli arg12 c1_i32_5
  let v16 : BitVec 32 := Scalar.addi c0_i32_6 v15
  let c512_i32_1317 : BitVec 32 := 512#32
  let v3999 : BitVec 32 := Scalar.muli v16 c512_i32_1317
  v3999
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
abbrev S256x2x128 : Shape := ⟨3, ![256, 2, 128]⟩
abbrev S256x1x128 : Shape := ⟨3, ![256, 1, 128]⟩
abbrev S8x2x128 : Shape := ⟨3, ![8, 2, 128]⟩
abbrev S8x1x128 : Shape := ⟨3, ![8, 1, 128]⟩
  | .local _ .vmem, ⟨10, _⟩ => ⟨S256x2x128, .bf16⟩
variable {F : FTy → Type} [FloatOps F]
-- ==== ReferenceIdeal.lean ====
abbrev S12x2048x7168 : Shape := ⟨3, ![12, 2048, 7168]⟩
abbrev S12x512x7168 : Shape := ⟨3, ![12, 512, 7168]⟩
abbrev S12x1024x7168 : Shape := ⟨3, ![12, 1024, 7168]⟩
abbrev S12x16x7168 : Shape := ⟨3, ![12, 16, 7168]⟩
abbrev S12x256x7168 : Shape := ⟨3, ![12, 256, 7168]⟩
abbrev S12x512x28672 : Shape := ⟨3, ![12, 512, 28672]⟩
abbrev S12x16x32x7168 : Shape := ⟨4, ![12, 16, 32, 7168]⟩
abbrev S12x16x1x7168 : Shape := ⟨4, ![12, 16, 1, 7168]⟩
abbrev S12x512x14336 : Shape := ⟨3, ![12, 512, 14336]⟩
abbrev S12x256x14336 : Shape := ⟨3, ![12, 256, 14336]⟩

abbrev nBuf : Space → Nat
  | .hbm => 5
  | .vmem => 5
  | .smem => 0
  | _ => 0

abbrev bufTy : (tb : Table) → Fin (tcTables nBuf tb) → BufTy
  | .hbm, ⟨0, _⟩ => ⟨S12x2048x7168, .bf16⟩
  | .hbm, ⟨1, _⟩ => ⟨S12x512x7168, .i32⟩
  | .hbm, ⟨2, _⟩ => ⟨S12x1024x7168, .fp8e5m2⟩
  | .hbm, ⟨3, _⟩ => ⟨S12x16x7168, .f32⟩
  | .hbm, ⟨4, _⟩ => ⟨S12x256x7168, .i8⟩
  | .local _ .vmem, ⟨0, _⟩ => ⟨S12x2048x7168, .bf16⟩
  | .local _ .vmem, ⟨1, _⟩ => ⟨S12x512x7168, .i32⟩
  | .local _ .vmem, ⟨2, _⟩ => ⟨S12x1024x7168, .fp8e5m2⟩
  | .local _ .vmem, ⟨3, _⟩ => ⟨S12x16x7168, .f32⟩
  | .local _ .vmem, ⟨4, _⟩ => ⟨S12x256x7168, .i8⟩
  | _, _ => ⟨S12x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S12x2048x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x512x7168 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x1024x7168 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x16x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x256x7168 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Kern.Loops.lean ====
/- The counted loop over the two chunks of a block: what one trip touches, the trip itself run once at a symbolic
   chunk number, the pieces the trips before `k` have written, and the invariant the run goes through the loop by. -/
module

public import proofs.«01_k».proof.Proof.Gen.Kernel.Skeleton
public import Idealize.ShloMosaic.Lib.Exec
public import Idealize.ShloMosaic.Lib.Tactic
public import Idealize.ShloMosaic.Lib.Pipeline.Kit

@[expose] public section

-- the recursion over the trips applies every buffer of the body around the recursive call: its equation lemmas need a
-- deeper traversal and more heartbeats than Lean's defaults
set_option maxRecDepth 8192
set_option maxHeartbeats 4000000

noncomputable section

namespace Cert.Kernel.Own

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The logic the runs are stated in. -/
local notation "𝕄G" => MT nD τ sig Unit (Elt F) ℕ (UR sig nD τ) ℕ
/-! ## `cc0_mvue24` -/

/-- The class of invariants of the body's counted loop over the chunks of a block. Every store of a trip is at offsets
   that are a closed form of the trip number, and nothing is carried from trip to trip: an invariant is the pieces the
   trips before `k` have written. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x128 .i32) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11)

/-! ### `k0_t1_loop`: the invariant -/

/-- One trip's resources: what the region reads (arg2, arg3) at its contents, what it writes (arg4,
   arg5, arg6, arg7, arg8, arg9, arg10, arg11) at any. -/
abbrev Trip_k0_t1 (c : Dev nD) (arg2 : Memref sig .tc .vmem S1x2048x128 .bf16) (arg3 : Memref sig .tc .vmem S1x512x128 .i32) (arg4 : Memref sig .tc .vmem S1x1024x128 .fp8e5m2) (arg5 : Memref sig .tc .vmem S1x16x128 .f32) (arg6 : Memref sig .tc .vmem S1x256x128 .i8) (arg7 : Memref sig .tc .vmem S256x128 .i32) (arg8 : Memref sig .tc .vmem S256x128 .f32) (arg9 : Memref sig .tc .vmem S256x128 .i32) (arg10 : Memref sig .tc .vmem S64x128 .f32) (arg11 : Memref sig .tc .vmem S8x128 .f32) (X_arg2 : BufTy.Contents (Elt F) arg2.view.ty) (X_arg3 : BufTy.Contents (Elt F) arg3.view.ty) (f_arg4 : BufTy.Contents (Elt F) arg4.view.ty) (f_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} f_arg4) ∗ (arg5.view.loc (c : Thread nD τ) ↦[arg5.view.set]{fullShare} f_arg5) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11))

/-- ONE TRIP of `k0_t1_loop` at a symbolic `k`, run by `sl_exec` (its rectangles' offsets closed
   forms of `k`, their geometry linear arithmetic): the pieces it writes into arg4, arg5, arg6,
   arg7, arg8, arg9, arg10, arg11 are the run's own finds — the witnesses `sl_close` assigns handing
   the buffers to the continuation. `@[irreducible]`: cited, never unfolded. -/
@[irreducible] def trip_k0_t1 (𝒱 : Variants) (c : Dev nD) (bd : Option 𝒱.V) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x128 .i32) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole) (X_arg2 : BufTy.Contents (Elt F) arg2.view.ty) (X_arg3 : BufTy.Contents (Elt F) arg3.view.ty) (k : Fin k0_t1_loop.trips) :
    Σ' (L_arg4 : List (View.Piece (Elt F) S1x1024x128 .fp8e5m2)) (L_arg5 : List (View.Piece (Elt F) S1x16x128 .f32)) (L_arg6 : List (View.Piece (Elt F) S1x256x128 .i8)) (L_arg7 : List (View.Piece (Elt F) S256x128 .i32)) (L_arg8 : List (View.Piece (Elt F) S256x128 .f32)) (L_arg9 : List (View.Piece (Elt F) S256x128 .i32)) (L_arg10 : List (View.Piece (Elt F) S64x128 .f32)) , { L_arg11 : List (View.Piece (Elt F) S8x128 .f32) // ∀ (E : Set ℕ) (f_arg4 : BufTy.Contents (Elt F) arg4.view.ty) (f_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty),
      Trip_k0_t1 (F := F) c arg2 arg3 arg4 arg5 arg6 arg7 arg8 arg9 arg10 arg11 X_arg2 X_arg3 f_arg4 f_arg5 f_arg6 f_arg7 f_arg8 f_arg9 f_arg10 f_arg11
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 k PUnit.unit)
          (fun _ => Trip_k0_t1 (F := F) c arg2 arg3 arg4 arg5 arg6 arg7 arg8 arg9 arg10 arg11 X_arg2 X_arg3 (arg4.view.writes (Elt F) f_arg4 L_arg4) (arg5.view.writes (Elt F) f_arg5 L_arg5) (arg6.view.writes (Elt F) f_arg6 L_arg6) (arg7.view.writes (Elt F) f_arg7 L_arg7) (arg8.view.writes (Elt F) f_arg8 L_arg8) (arg9.view.writes (Elt F) f_arg9 L_arg9) (arg10.view.writes (Elt F) f_arg10 L_arg10) (arg11.view.writes (Elt F) f_arg11 L_arg11)) } := by
  have hk : k.val < 2 := Nat.lt_of_lt_of_le k.isLt k0_t1_abs.2.1
  refine ⟨?_, ?_, ?_, ?_, ?_, ?_, ?_, ?_, fun E f_arg4 f_arg5 f_arg6 f_arg7 f_arg8 f_arg9 f_arg10 f_arg11 => ?run⟩
  case run =>
    unfold k0_t1_body
    iintro ⟨HR_arg2, HR_arg3, HW_arg4, HW_arg5, HW_arg6, HW_arg7, HW_arg8, HW_arg9, HW_arg10, HW_arg11⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x128 .i32) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole) (X_arg2 : BufTy.Contents (Elt F) arg2.view.ty) (X_arg3 : BufTy.Contents (Elt F) arg3.view.ty) (k : Fin k0_t1_loop.trips) : List (View.Piece (Elt F) S1x1024x128 .fp8e5m2) × List (View.Piece (Elt F) S1x16x128 .f32) × List (View.Piece (Elt F) S1x256x128 .i8) × List (View.Piece (Elt F) S256x128 .i32) × List (View.Piece (Elt F) S256x128 .f32) × List (View.Piece (Elt F) S256x128 .i32) × List (View.Piece (Elt F) S64x128 .f32) × List (View.Piece (Elt F) S8x128 .f32) :=
  ((trip_k0_t1 (F := F) 𝒱 c bd i arg2 harg2 arg3 harg3 arg4 harg4 arg5 harg5 arg6 harg6 arg7 harg7 arg8 harg8 arg9 harg9 arg10 harg10 arg11 harg11 X_arg2 X_arg3 k).1, (trip_k0_t1 (F := F) 𝒱 c bd i arg2 harg2 arg3 harg3 arg4 harg4 arg5 harg5 arg6 harg6 arg7 harg7 arg8 harg8 arg9 harg9 arg10 harg10 arg11 harg11 X_arg2 X_arg3 k).2.1, (trip_k0_t1 (F := F) 𝒱 c bd i arg2 harg2 arg3 harg3 arg4 harg4 arg5 harg5 arg6 harg6 arg7 harg7 arg8 harg8 arg9 harg9 arg10 harg10 arg11 harg11 X_arg2 X_arg3 k).2.2.1, (trip_k0_t1 (F := F) 𝒱 c bd i arg2 harg2 arg3 harg3 arg4 harg4 arg5 harg5 arg6 harg6 arg7 harg7 arg8 harg8 arg9 harg9 arg10 harg10 arg11 harg11 X_arg2 X_arg3 k).2.2.2.1, (trip_k0_t1 (F := F) 𝒱 c bd i arg2 harg2 arg3 harg3 arg4 harg4 arg5 harg5 arg6 harg6 arg7 harg7 arg8 harg8 arg9 harg9 arg10 harg10 arg11 harg11 X_arg2 X_arg3 k).2.2.2.2.1, (trip_k0_t1 (F := F) 𝒱 c bd i arg2 harg2 arg3 harg3 arg4 harg4 arg5 harg5 arg6 harg6 arg7 harg7 arg8 harg8 arg9 harg9 arg10 harg10 arg11 harg11 X_arg2 X_arg3 k).2.2.2.2.2.1, (trip_k0_t1 (F := F) 𝒱 c bd i arg2 harg2 arg3 harg3 arg4 harg4 arg5 harg5 arg6 harg6 arg7 harg7 arg8 harg8 arg9 harg9 arg10 harg10 arg11 harg11 X_arg2 X_arg3 k).2.2.2.2.2.2.1, (trip_k0_t1 (F := F) 𝒱 c bd i arg2 harg2 arg3 harg3 arg4 harg4 arg5 harg5 arg6 harg6 arg7 harg7 arg8 harg8 arg9 harg9 arg10 harg10 arg11 harg11 X_arg2 X_arg3 k).2.2.2.2.2.2.2.1)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x128 .i32) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole) (X_arg2 : BufTy.Contents (Elt F) arg2.view.ty) (X_arg3 : BufTy.Contents (Elt F) arg3.view.ty) (k : ℕ) (prev : List (View.Piece (Elt F) S1x1024x128 .fp8e5m2) × List (View.Piece (Elt F) S1x16x128 .f32) × List (View.Piece (Elt F) S1x256x128 .i8) × List (View.Piece (Elt F) S256x128 .i32) × List (View.Piece (Elt F) S256x128 .f32) × List (View.Piece (Elt F) S256x128 .i32) × List (View.Piece (Elt F) S64x128 .f32) × List (View.Piece (Elt F) S8x128 .f32)) : List (View.Piece (Elt F) S1x1024x128 .fp8e5m2) × List (View.Piece (Elt F) S1x16x128 .f32) × List (View.Piece (Elt F) S1x256x128 .i8) × List (View.Piece (Elt F) S256x128 .i32) × List (View.Piece (Elt F) S256x128 .f32) × List (View.Piece (Elt F) S256x128 .i32) × List (View.Piece (Elt F) S64x128 .f32) × List (View.Piece (Elt F) S8x128 .f32) :=
  if h : k < k0_t1_loop.trips then
    ((tripL_k0_t1 (F := F) 𝒱 c bd i arg2 harg2 arg3 harg3 arg4 harg4 arg5 harg5 arg6 harg6 arg7 harg7 arg8 harg8 arg9 harg9 arg10 harg10 arg11 harg11 X_arg2 X_arg3 ⟨k, h⟩).1 ++ prev.1, (tripL_k0_t1 (F := F) 𝒱 c bd i arg2 harg2 arg3 harg3 arg4 harg4 arg5 harg5 arg6 harg6 arg7 harg7 arg8 harg8 arg9 harg9 arg10 harg10 arg11 harg11 X_arg2 X_arg3 ⟨k, h⟩).2.1 ++ prev.2.1, (tripL_k0_t1 (F := F) 𝒱 c bd i arg2 harg2 arg3 harg3 arg4 harg4 arg5 harg5 arg6 harg6 arg7 harg7 arg8 harg8 arg9 harg9 arg10 harg10 arg11 harg11 X_arg2 X_arg3 ⟨k, h⟩).2.2.1 ++ prev.2.2.1, (tripL_k0_t1 (F := F) 𝒱 c bd i arg2 harg2 arg3 harg3 arg4 harg4 arg5 harg5 arg6 harg6 arg7 harg7 arg8 harg8 arg9 harg9 arg10 harg10 arg11 harg11 X_arg2 X_arg3 ⟨k, h⟩).2.2.2.1 ++ prev.2.2.2.1, (tripL_k0_t1 (F := F) 𝒱 c bd i arg2 harg2 arg3 harg3 arg4 harg4 arg5 harg5 arg6 harg6 arg7 harg7 arg8 harg8 arg9 harg9 arg10 harg10 arg11 harg11 X_arg2 X_arg3 ⟨k, h⟩).2.2.2.2.1 ++ prev.2.2.2.2.1, (tripL_k0_t1 (F := F) 𝒱 c bd i arg2 harg2 arg3 harg3 arg4 harg4 arg5 harg5 arg6 harg6 arg7 harg7 arg8 harg8 arg9 harg9 arg10 harg10 arg11 harg11 X_arg2 X_arg3 ⟨k, h⟩).2.2.2.2.2.1 ++ prev.2.2.2.2.2.1, (tripL_k0_t1 (F := F) 𝒱 c bd i arg2 harg2 arg3 harg3 arg4 harg4 arg5 harg5 arg6 harg6 arg7 harg7 arg8 harg8 arg9 harg9 arg10 harg10 arg11 harg11 X_arg2 X_arg3 ⟨k, h⟩).2.2.2.2.2.2.1 ++ prev.2.2.2.2.2.2.1, (tripL_k0_t1 (F := F) 𝒱 c bd i arg2 harg2 arg3 harg3 arg4 harg4 arg5 harg5 arg6 harg6 arg7 harg7 arg8 harg8 arg9 harg9 arg10 harg10 arg11 harg11 X_arg2 X_arg3 ⟨k, h⟩).2.2.2.2.2.2.2 ++ prev.2.2.2.2.2.2.2)
  else prev

/-- The pieces of the trips before `k` (last first), per written memref. -/
def pb_k0_t1 (𝒱 : Variants) (c : Dev nD) (bd : Option 𝒱.V) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x128 .i32) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole) (X_arg2 : BufTy.Contents (Elt F) arg2.view.ty) (X_arg3 : BufTy.Contents (Elt F) arg3.view.ty) : ℕ → List (View.Piece (Elt F) S1x1024x128 .fp8e5m2) × List (View.Piece (Elt F) S1x16x128 .f32) × List (View.Piece (Elt F) S1x256x128 .i8) × List (View.Piece (Elt F) S256x128 .i32) × List (View.Piece (Elt F) S256x128 .f32) × List (View.Piece (Elt F) S256x128 .i32) × List (View.Piece (Elt F) S64x128 .f32) × List (View.Piece (Elt F) S8x128 .f32)
  | 0 => ([], [], [], [], [], [], [], [])
  | k + 1 => pb_k0_t1Step 𝒱 c bd i arg2 harg2 arg3 harg3 arg4 harg4 arg5 harg5 arg6 harg6 arg7 harg7 arg8 harg8 arg9 harg9 arg10 harg10 arg11 harg11 X_arg2 X_arg3 k (pb_k0_t1 𝒱 c bd i arg2 harg2 arg3 harg3 arg4 harg4 arg5 harg5 arg6 harg6 arg7 harg7 arg8 harg8 arg9 harg9 arg10 harg10 arg11 harg11 X_arg2 X_arg3 k)

theorem pb_k0_t1_succ (𝒱 : Variants) (c : Dev nD) (bd : Option 𝒱.V) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x128 .i32) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole) (X_arg2 : BufTy.Contents (Elt F) arg2.view.ty) (X_arg3 : BufTy.Contents (Elt F) arg3.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 X_arg2 X_arg3 (k.val + 1)
      = ((tripL_k0_t1 (F := F) 𝒱 c bd i arg2 harg2 arg3 harg3 arg4 harg4 arg5 harg5 arg6 harg6 arg7 harg7 arg8 harg8 arg9 harg9 arg10 harg10 arg11 harg11 X_arg2 X_arg3 k).1 ++ (pb_k0_t1 (F := F) 𝒱 c bd i arg2 harg2 arg3 harg3 arg4 harg4 arg5 harg5 arg6 harg6 arg7 harg7 arg8 harg8 arg9 harg9 arg10 harg10 arg11 harg11 X_arg2 X_arg3 k.val).1, (tripL_k0_t1 (F := F) 𝒱 c bd i arg2 harg2 arg3 harg3 arg4 harg4 arg5 harg5 arg6 harg6 arg7 harg7 arg8 harg8 arg9 harg9 arg10 harg10 arg11 harg11 X_arg2 X_arg3 k).2.1 ++ (pb_k0_t1 (F := F) 𝒱 c bd i arg2 harg2 arg3 harg3 arg4 harg4 arg5 harg5 arg6 harg6 arg7 harg7 arg8 harg8 arg9 harg9 arg10 harg10 arg11 harg11 X_arg2 X_arg3 k.val).2.1, (tripL_k0_t1 (F := F) 𝒱 c bd i arg2 harg2 arg3 harg3 arg4 harg4 arg5 harg5 arg6 harg6 arg7 harg7 arg8 harg8 arg9 harg9 arg10 harg10 arg11 harg11 X_arg2 X_arg3 k).2.2.1 ++ (pb_k0_t1 (F := F) 𝒱 c bd i arg2 harg2 arg3 harg3 arg4 harg4 arg5 harg5 arg6 harg6 arg7 harg7 arg8 harg8 arg9 harg9 arg10 harg10 arg11 harg11 X_arg2 X_arg3 k.val).2.2.1, (tripL_k0_t1 (F := F) 𝒱 c bd i arg2 harg2 arg3 harg3 arg4 harg4 arg5 harg5 arg6 harg6 arg7 harg7 arg8 harg8 arg9 harg9 arg10 harg10 arg11 harg11 X_arg2 X_arg3 k).2.2.2.1 ++ (pb_k0_t1 (F := F) 𝒱 c bd i arg2 harg2 arg3 harg3 arg4 harg4 arg5 harg5 arg6 harg6 arg7 harg7 arg8 harg8 arg9 harg9 arg10 harg10 arg11 harg11 X_arg2 X_arg3 k.val).2.2.2.1, (tripL_k0_t1 (F := F) 𝒱 c bd i arg2 harg2 arg3 harg3 arg4 harg4 arg5 harg5 arg6 harg6 arg7 harg7 arg8 harg8 arg9 harg9 arg10 harg10 arg11 harg11 X_arg2 X_arg3 k).2.2.2.2.1 ++ (pb_k0_t1 (F := F) 𝒱 c bd i arg2 harg2 arg3 harg3 arg4 harg4 arg5 harg5 arg6 harg6 arg7 harg7 arg8 harg8 arg9 harg9 arg10 harg10 arg11 harg11 X_arg2 X_arg3 k.val).2.2.2.2.1, (tripL_k0_t1 (F := F) 𝒱 c bd i arg2 harg2 arg3 harg3 arg4 harg4 arg5 harg5 arg6 harg6 arg7 harg7 arg8 harg8 arg9 harg9 arg10 harg10 arg11 harg11 X_arg2 X_arg3 k).2.2.2.2.2.1 ++ (pb_k0_t1 (F := F) 𝒱 c bd i arg2 harg2 arg3 harg3 arg4 harg4 arg5 harg5 arg6 harg6 arg7 harg7 arg8 harg8 arg9 harg9 arg10 harg10 arg11 harg11 X_arg2 X_arg3 k.val).2.2.2.2.2.1, (tripL_k0_t1 (F := F) 𝒱 c bd i arg2 harg2 arg3 harg3 arg4 harg4 arg5 harg5 arg6 harg6 arg7 harg7 arg8 harg8 arg9 harg9 arg10 harg10 arg11 harg11 X_arg2 X_arg3 k).2.2.2.2.2.2.1 ++ (pb_k0_t1 (F := F) 𝒱 c bd i arg2 harg2 arg3 harg3 arg4 harg4 arg5 harg5 arg6 harg6 arg7 harg7 arg8 harg8 arg9 harg9 arg10 harg10 arg11 harg11 X_arg2 X_arg3 k.val).2.2.2.2.2.2.1, (tripL_k0_t1 (F := F) 𝒱 c bd i arg2 harg2 arg3 harg3 arg4 harg4 arg5 harg5 arg6 harg6 arg7 harg7 arg8 harg8 arg9 harg9 arg10 harg10 arg11 harg11 X_arg2 X_arg3 k).2.2.2.2.2.2.2 ++ (pb_k0_t1 (F := F) 𝒱 c bd i arg2 harg2 arg3 harg3 arg4 harg4 arg5 harg5 arg6 harg6 arg7 harg7 arg8 harg8 arg9 harg9 arg10 harg10 arg11 harg11 X_arg2 X_arg3 k.val).2.2.2.2.2.2.2) := by
  rw [pb_k0_t1.eq_2]; unfold pb_k0_t1Step; exact dif_pos k.isLt

/-- THE INVARIANT before trip `k`: arg2, arg3 read at `X_·`; arg4, arg5, arg6, arg7, arg8, arg9,
   arg10, arg11 holding the pieces of the trips before `k` written over the contents at loop entry
   `G_·` (stated `∃ f, … ∗ ⌜f = …⌝`, so that a hypothesis of any contents matches and the equation
   is what is proved). -/
abbrev inv_k0_t1 (𝒱 : Variants) (c : Dev nD) (bd : Option 𝒱.V) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x128 .i32) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole) (X_arg2 : BufTy.Contents (Elt F) arg2.view.ty) (X_arg3 : BufTy.Contents (Elt F) arg3.view.ty) (G_arg4 : BufTy.Contents (Elt F) arg4.view.ty) (G_arg5 : BufTy.Contents (Elt F) arg5.view.ty) (G_arg6 : BufTy.Contents (Elt F) arg6.view.ty) (G_arg7 : BufTy.Contents (Elt F) arg7.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (∃ f, (arg4.view.loc (c : Thread nD τ) ↦[arg4.view.set]{fullShare} f) ∗ ⌜f = arg4.view.writes (Elt F) G_arg4 (pb_k0_t1 (F := F) 𝒱 c bd i arg2 harg2 arg3 harg3 arg4 harg4 arg5 harg5 arg6 harg6 arg7 harg7 arg8 harg8 arg9 harg9 arg10 harg10 arg11 harg11 X_arg2 X_arg3 k).1⌝) ∗ (∃ f, (arg5.view.loc (c : Thread nD τ) ↦[arg5.view.set]{fullShare} f) ∗ ⌜f = arg5.view.writes (Elt F) G_arg5 (pb_k0_t1 (F := F) 𝒱 c bd i arg2 harg2 arg3 harg3 arg4 harg4 arg5 harg5 arg6 harg6 arg7 harg7 arg8 harg8 arg9 harg9 arg10 harg10 arg11 harg11 X_arg2 X_arg3 k).2.1⌝) ∗ (∃ f, (arg6.view.loc (c : Thread nD τ) ↦[arg6.view.set]{fullShare} f) ∗ ⌜f = arg6.view.writes (Elt F) G_arg6 (pb_k0_t1 (F := F) 𝒱 c bd i arg2 harg2 arg3 harg3 arg4 harg4 arg5 harg5 arg6 harg6 arg7 harg7 arg8 harg8 arg9 harg9 arg10 harg10 arg11 harg11 X_arg2 X_arg3 k).2.2.1⌝) ∗ (∃ f, (arg7.view.loc (c : Thread nD τ) ↦[arg7.view.set]{fullShare} f) ∗ ⌜f = arg7.view.writes (Elt F) G_arg7 (pb_k0_t1 (F := F) 𝒱 c bd i arg2 harg2 arg3 harg3 arg4 harg4 arg5 harg5 arg6 harg6 arg7 harg7 arg8 harg8 arg9 harg9 arg10 harg10 arg11 harg11 X_arg2 X_arg3 k).2.2.2.1⌝) ∗ (∃ f, (arg8.view.loc (c : Thread nD τ) ↦[arg8.view.set]{fullShare} f) ∗ ⌜f = arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 X_arg2 X_arg3 k).2.2.2.2.1⌝) ∗ (∃ f, (arg9.view.loc (c : Thread nD τ) ↦[arg9.view.set]{fullShare} f) ∗ ⌜f = arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 X_arg2 X_arg3 k).2.2.2.2.2.1⌝) ∗ (∃ f, (arg10.view.loc (c : Thread nD τ) ↦[arg10.view.set]{fullShare} f) ∗ ⌜f = arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 X_arg2 X_arg3 k).2.2.2.2.2.2.1⌝) ∗ (∃ f, (arg11.view.loc (c : Thread nD τ) ↦[arg11.view.set]{fullShare} f) ∗ ⌜f = arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 X_arg2 X_arg3 k).2.2.2.2.2.2.2⌝))

set_option warn.classDefReducibility false in
/-- The loop by its invariant (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x128 .i32) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole) (X_arg2 : BufTy.Contents (Elt F) arg2.view.ty) (X_arg3 : BufTy.Contents (Elt F) arg3.view.ty) (G_arg4 : BufTy.Contents (Elt F) arg4.view.ty) (G_arg5 : BufTy.Contents (Elt F) arg5.view.ty) (G_arg6 : BufTy.Contents (Elt F) arg6.view.ty) (G_arg7 : BufTy.Contents (Elt F) arg7.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 where
  inv := inv_k0_t1 (F := F) 𝒱 c bd i arg2 harg2 arg3 harg3 arg4 harg4 arg5 harg5 arg6 harg6 arg7 harg7 arg8 harg8 arg9 harg9 arg10 harg10 arg11 harg11 X_arg2 X_arg3 G_arg4 G_arg5 G_arg6 G_arg7 G_arg8 G_arg9 G_arg10 G_arg11
  step k acc := by
    iintro ⟨HR_arg2, HR_arg3, ⟨%f_arg4, HW_arg4, %h_arg4⟩, ⟨%f_arg5, HW_arg5, %h_arg5⟩, ⟨%f_arg6, HW_arg6, %h_arg6⟩, ⟨%f_arg7, HW_arg7, %h_arg7⟩, ⟨%f_arg8, HW_arg8, %h_arg8⟩, ⟨%f_arg9, HW_arg9, %h_arg9⟩, ⟨%f_arg10, HW_arg10, %h_arg10⟩, ⟨%f_arg11, HW_arg11, %h_arg11⟩⟩
    iapply (wp_wand_r Idealize.ShloMosaic.frame (wpE (defs₀ (F := F)) 𝒱 (c : Thread nD τ) bd) E)
    isplitl [HR_arg2 HR_arg3 HW_arg4 HW_arg5 HW_arg6 HW_arg7 HW_arg8 HW_arg9 HW_arg10 HW_arg11]
    · iapply ((trip_k0_t1 (F := F) 𝒱 c bd i arg2 harg2 arg3 harg3 arg4 harg4 arg5 harg5 arg6 harg6 arg7 harg7 arg8 harg8 arg9 harg9 arg10 harg10 arg11 harg11 X_arg2 X_arg3 k).2.2.2.2.2.2.2.2 E f_arg4 f_arg5 f_arg6 f_arg7 f_arg8 f_arg9 f_arg10 f_arg11)
      isplitl [HR_arg2]; · iexact HR_arg2
      isplitl [HR_arg3]; · iexact HR_arg3
      isplitl [HW_arg4]; · iexact HW_arg4
      isplitl [HW_arg5]; · iexact HW_arg5
      isplitl [HW_arg6]; · iexact HW_arg6
      isplitl [HW_arg7]; · iexact HW_arg7
      isplitl [HW_arg8]; · iexact HW_arg8
      isplitl [HW_arg9]; · iexact HW_arg9
      isplitl [HW_arg10]; · iexact HW_arg10
      iexact HW_arg11
    · iintro %_ ⟨HR_arg2, HR_arg3, HW_arg4, HW_arg5, HW_arg6, HW_arg7, HW_arg8, HW_arg9, HW_arg10, HW_arg11⟩
      isplitl [HR_arg2]; · iexact HR_arg2
      isplitl [HR_arg3]; · iexact HR_arg3
      rw [pb_k0_t1_succ]
      isplitl [HW_arg4]
      · iexists _; isplitl [HW_arg4]; · iexact HW_arg4
        ipureintro; rw [h_arg4, ← View.writes_append]
      isplitl [HW_arg5]
      · iexists _; isplitl [HW_arg5]; · iexact HW_arg5
        ipureintro; rw [h_arg5, ← View.writes_append]
      isplitl [HW_arg6]
      · iexists _; isplitl [HW_arg6]; · iexact HW_arg6
        ipureintro; rw [h_arg6, ← View.writes_append]
      isplitl [HW_arg7]
      · iexists _; isplitl [HW_arg7]; · iexact HW_arg7
        ipureintro; rw [h_arg7, ← View.writes_append]
      isplitl [HW_arg8]
      · iexists _; isplitl [HW_arg8]; · iexact HW_arg8
        ipureintro; rw [h_arg8, ← View.writes_append]
      isplitl [HW_arg9]
      · iexists _; isplitl [HW_arg9]; · iexact HW_arg9
        ipureintro; rw [h_arg9, ← View.writes_append]
      isplitl [HW_arg10]
      · iexists _; isplitl [HW_arg10]; · iexact HW_arg10
        ipureintro; rw [h_arg10, ← View.writes_append]
      iexists _; isplitl [HW_arg11]; · iexact HW_arg11
      ipureintro; rw [h_arg11, ← View.writes_append]

end Cert.Kernel.Own

end
-- ==== Proof.Kern.Runs.lean ====
/- What the run of the body shares with the launch: the buffers of the pipeline as the region finds them, the blocks of
   the windows, and the reading of the frame claim off the run. -/
module

public import proofs.«01_k».proof.Proof.Gen.Kernel.Launch
public import proofs.«01_k».proof.Proof.Gen.Kernel.Skeleton
public import proofs.«01_k».proof.Proof.Kern.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Own

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x128 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x128 .i8 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S256x128 .i32 := Memref.whole cc0_scratch0
abbrev scM0_1 : Memref sig .tc .vmem S256x128 .f32 := Memref.whole cc0_scratch1
abbrev scM0_2 : Memref sig .tc .vmem S256x128 .i32 := Memref.whole cc0_scratch2
abbrev scM0_3 : Memref sig .tc .vmem S64x128 .f32 := Memref.whole cc0_scratch3
abbrev scM0_4 : Memref sig .tc .vmem S8x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Own

end
-- ==== Proof.Kern.RunA.lean ====
/- The body run once at a symbolic grid point: the pieces it writes into each output block are found by the run. -/
module

public import proofs.«01_k».proof.Proof.Kern.Runs

@[expose] public section

-- membership in a rectangle of production extents (`View.cover_of_tiled`): the elaborator's structural look
-- recurses once per coordinate of the long axes
set_option maxRecDepth 16384

noncomputable section

namespace Cert.Kernel.Own

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (2, 3, 4) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x128 .i32) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole)
    (x0 : Vec F S1x2048x128 .bf16) (x1 : Vec F S1x512x128 .i32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_mvue24 i arg2 harg2 arg3 harg3 arg4 harg4 arg5 harg5 arg6 harg6 arg7 harg7 arg8 harg8 arg9 harg9 arg10 harg10 arg11 harg11) K := by
    intro E K
    simp only [cc0_mvue24_eq_skeleton]; unfold cc0_mvue24_skel
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Own

end
-- ==== Proof.Kern.Frame.lean ====
/- The launch: the body obligation at every grid point, the whole run, and the frame claim (arguments unchanged, every
   semaphore counter at zero). -/
module

public import proofs.«01_k».proof.Proof.Kern.RunA
public import Idealize.ShloMosaic.Lib.Claim

@[expose] public section

-- membership in a rectangle of production extents (`View.cover_of_tiled`): the elaborator's structural look
-- recurses once per coordinate of the long axes
set_option maxRecDepth 16384

noncomputable section

namespace Cert.Kernel.Own

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (2, 3, 4): nothing reads what the kernel leaves in them, so nothing
    of it is named (Lib/Pipeline/Dat.lean `Dat.toRForget`). -/
def forgets0 : Fin 5 → Bool := fun w => w.val == 2 || w.val == 3 || w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare d)
    ∗ (∃ d, owns (c : Thread nD τ) (ms0_3 t) fullShare d)
    ∗ (∃ d, owns (c : Thread nD τ) (ms0_4 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ _ _ _ _ _ _ _ _ (iblk m c 0 t) (iblk m c 1 t)) Set.univ _)
  isplitl [H0]; · iexact H0
  isplitl [H1]; · iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  isplitl [HS4]; · iexact HS4
  iintro ⟨H0, H1, H2, H3, H4, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 2, 3, 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Own

end
-- ==== Proof.KernI.Loops.lean ====
/- The counted loop over the two chunks of a block: what one trip touches, the trip itself run once at a symbolic
   chunk number, the pieces the trips before `k` have written, and the invariant the run goes through the loop by. -/
module

public import proofs.«01_k».proof.Proof.Gen.KernelIdeal.Skeleton
public import Idealize.ShloMosaic.Lib.Exec
public import Idealize.ShloMosaic.Lib.Tactic
public import Idealize.ShloMosaic.Lib.Pipeline.Kit

@[expose] public section

-- the recursion over the trips applies every buffer of the body around the recursive call: its equation lemmas need a
-- deeper traversal and more heartbeats than Lean's defaults
set_option maxRecDepth 8192
set_option maxHeartbeats 4000000

noncomputable section

namespace Cert.KernelIdeal.Own

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The logic the runs are stated in. -/
local notation "𝕄G" => MT nD τ sig Unit (Elt F) ℕ (UR sig nD τ) ℕ
/-! ## `cc0_mvue24` -/

/-- The class of invariants of the body's counted loop over the chunks of a block. Every store of a trip is at offsets
   that are a closed form of the trip number, and nothing is carried from trip to trip: an invariant is the pieces the
   trips before `k` have written. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x2x128 .bf16) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11)

/-! ### `k0_t1_loop`: the invariant -/

/-- One trip's resources: what the region reads (arg2, arg3) at its contents, what it writes (arg4,
   arg5, arg6, arg7, arg8, arg9, arg10, arg11) at any. -/
abbrev Trip_k0_t1 (c : Dev nD) (arg2 : Memref sig .tc .vmem S1x2048x128 .bf16) (arg3 : Memref sig .tc .vmem S1x512x128 .i32) (arg4 : Memref sig .tc .vmem S1x1024x128 .fp8e5m2) (arg5 : Memref sig .tc .vmem S1x16x128 .f32) (arg6 : Memref sig .tc .vmem S1x256x128 .i8) (arg7 : Memref sig .tc .vmem S256x2x128 .bf16) (arg8 : Memref sig .tc .vmem S256x128 .f32) (arg9 : Memref sig .tc .vmem S256x128 .i32) (arg10 : Memref sig .tc .vmem S64x128 .f32) (arg11 : Memref sig .tc .vmem S8x128 .f32) (X_arg2 : BufTy.Contents (Elt F) arg2.view.ty) (X_arg3 : BufTy.Contents (Elt F) arg3.view.ty) (f_arg4 : BufTy.Contents (Elt F) arg4.view.ty) (f_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} f_arg4) ∗ (arg5.view.loc (c : Thread nD τ) ↦[arg5.view.set]{fullShare} f_arg5) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11))

/-- ONE TRIP of `k0_t1_loop` at a symbolic `k`, run by `sl_exec` (its rectangles' offsets closed
   forms of `k`, their geometry linear arithmetic): the pieces it writes into arg4, arg5, arg6,
   arg7, arg8, arg9, arg10, arg11 are the run's own finds — the witnesses `sl_close` assigns handing
   the buffers to the continuation. `@[irreducible]`: cited, never unfolded. -/
@[irreducible] def trip_k0_t1 (𝒱 : Variants) (c : Dev nD) (bd : Option 𝒱.V) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x2x128 .bf16) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole) (X_arg2 : BufTy.Contents (Elt F) arg2.view.ty) (X_arg3 : BufTy.Contents (Elt F) arg3.view.ty) (k : Fin k0_t1_loop.trips) :
    Σ' (L_arg4 : List (View.Piece (Elt F) S1x1024x128 .fp8e5m2)) (L_arg5 : List (View.Piece (Elt F) S1x16x128 .f32)) (L_arg6 : List (View.Piece (Elt F) S1x256x128 .i8)) (L_arg7 : List (View.Piece (Elt F) S256x2x128 .bf16)) (L_arg8 : List (View.Piece (Elt F) S256x128 .f32)) (L_arg9 : List (View.Piece (Elt F) S256x128 .i32)) (L_arg10 : List (View.Piece (Elt F) S64x128 .f32)) , { L_arg11 : List (View.Piece (Elt F) S8x128 .f32) // ∀ (E : Set ℕ) (f_arg4 : BufTy.Contents (Elt F) arg4.view.ty) (f_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty),
      Trip_k0_t1 (F := F) c arg2 arg3 arg4 arg5 arg6 arg7 arg8 arg9 arg10 arg11 X_arg2 X_arg3 f_arg4 f_arg5 f_arg6 f_arg7 f_arg8 f_arg9 f_arg10 f_arg11
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 k PUnit.unit)
          (fun _ => Trip_k0_t1 (F := F) c arg2 arg3 arg4 arg5 arg6 arg7 arg8 arg9 arg10 arg11 X_arg2 X_arg3 (arg4.view.writes (Elt F) f_arg4 L_arg4) (arg5.view.writes (Elt F) f_arg5 L_arg5) (arg6.view.writes (Elt F) f_arg6 L_arg6) (arg7.view.writes (Elt F) f_arg7 L_arg7) (arg8.view.writes (Elt F) f_arg8 L_arg8) (arg9.view.writes (Elt F) f_arg9 L_arg9) (arg10.view.writes (Elt F) f_arg10 L_arg10) (arg11.view.writes (Elt F) f_arg11 L_arg11)) } := by
  have hk : k.val < 2 := Nat.lt_of_lt_of_le k.isLt k0_t1_abs.2.1
  refine ⟨?_, ?_, ?_, ?_, ?_, ?_, ?_, ?_, fun E f_arg4 f_arg5 f_arg6 f_arg7 f_arg8 f_arg9 f_arg10 f_arg11 => ?run⟩
  case run =>
    unfold k0_t1_body
    iintro ⟨HR_arg2, HR_arg3, HW_arg4, HW_arg5, HW_arg6, HW_arg7, HW_arg8, HW_arg9, HW_arg10, HW_arg11⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x2x128 .bf16) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole) (X_arg2 : BufTy.Contents (Elt F) arg2.view.ty) (X_arg3 : BufTy.Contents (Elt F) arg3.view.ty) (k : Fin k0_t1_loop.trips) : List (View.Piece (Elt F) S1x1024x128 .fp8e5m2) × List (View.Piece (Elt F) S1x16x128 .f32) × List (View.Piece (Elt F) S1x256x128 .i8) × List (View.Piece (Elt F) S256x2x128 .bf16) × List (View.Piece (Elt F) S256x128 .f32) × List (View.Piece (Elt F) S256x128 .i32) × List (View.Piece (Elt F) S64x128 .f32) × List (View.Piece (Elt F) S8x128 .f32) :=
  ((trip_k0_t1 (F := F) 𝒱 c bd i arg2 harg2 arg3 harg3 arg4 harg4 arg5 harg5 arg6 harg6 arg7 harg7 arg8 harg8 arg9 harg9 arg10 harg10 arg11 harg11 X_arg2 X_arg3 k).1, (trip_k0_t1 (F := F) 𝒱 c bd i arg2 harg2 arg3 harg3 arg4 harg4 arg5 harg5 arg6 harg6 arg7 harg7 arg8 harg8 arg9 harg9 arg10 harg10 arg11 harg11 X_arg2 X_arg3 k).2.1, (trip_k0_t1 (F := F) 𝒱 c bd i arg2 harg2 arg3 harg3 arg4 harg4 arg5 harg5 arg6 harg6 arg7 harg7 arg8 harg8 arg9 harg9 arg10 harg10 arg11 harg11 X_arg2 X_arg3 k).2.2.1, (trip_k0_t1 (F := F) 𝒱 c bd i arg2 harg2 arg3 harg3 arg4 harg4 arg5 harg5 arg6 harg6 arg7 harg7 arg8 harg8 arg9 harg9 arg10 harg10 arg11 harg11 X_arg2 X_arg3 k).2.2.2.1, (trip_k0_t1 (F := F) 𝒱 c bd i arg2 harg2 arg3 harg3 arg4 harg4 arg5 harg5 arg6 harg6 arg7 harg7 arg8 harg8 arg9 harg9 arg10 harg10 arg11 harg11 X_arg2 X_arg3 k).2.2.2.2.1, (trip_k0_t1 (F := F) 𝒱 c bd i arg2 harg2 arg3 harg3 arg4 harg4 arg5 harg5 arg6 harg6 arg7 harg7 arg8 harg8 arg9 harg9 arg10 harg10 arg11 harg11 X_arg2 X_arg3 k).2.2.2.2.2.1, (trip_k0_t1 (F := F) 𝒱 c bd i arg2 harg2 arg3 harg3 arg4 harg4 arg5 harg5 arg6 harg6 arg7 harg7 arg8 harg8 arg9 harg9 arg10 harg10 arg11 harg11 X_arg2 X_arg3 k).2.2.2.2.2.2.1, (trip_k0_t1 (F := F) 𝒱 c bd i arg2 harg2 arg3 harg3 arg4 harg4 arg5 harg5 arg6 harg6 arg7 harg7 arg8 harg8 arg9 harg9 arg10 harg10 arg11 harg11 X_arg2 X_arg3 k).2.2.2.2.2.2.2.1)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x2x128 .bf16) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole) (X_arg2 : BufTy.Contents (Elt F) arg2.view.ty) (X_arg3 : BufTy.Contents (Elt F) arg3.view.ty) (k : ℕ) (prev : List (View.Piece (Elt F) S1x1024x128 .fp8e5m2) × List (View.Piece (Elt F) S1x16x128 .f32) × List (View.Piece (Elt F) S1x256x128 .i8) × List (View.Piece (Elt F) S256x2x128 .bf16) × List (View.Piece (Elt F) S256x128 .f32) × List (View.Piece (Elt F) S256x128 .i32) × List (View.Piece (Elt F) S64x128 .f32) × List (View.Piece (Elt F) S8x128 .f32)) : List (View.Piece (Elt F) S1x1024x128 .fp8e5m2) × List (View.Piece (Elt F) S1x16x128 .f32) × List (View.Piece (Elt F) S1x256x128 .i8) × List (View.Piece (Elt F) S256x2x128 .bf16) × List (View.Piece (Elt F) S256x128 .f32) × List (View.Piece (Elt F) S256x128 .i32) × List (View.Piece (Elt F) S64x128 .f32) × List (View.Piece (Elt F) S8x128 .f32) :=
  if h : k < k0_t1_loop.trips then
    ((tripL_k0_t1 (F := F) 𝒱 c bd i arg2 harg2 arg3 harg3 arg4 harg4 arg5 harg5 arg6 harg6 arg7 harg7 arg8 harg8 arg9 harg9 arg10 harg10 arg11 harg11 X_arg2 X_arg3 ⟨k, h⟩).1 ++ prev.1, (tripL_k0_t1 (F := F) 𝒱 c bd i arg2 harg2 arg3 harg3 arg4 harg4 arg5 harg5 arg6 harg6 arg7 harg7 arg8 harg8 arg9 harg9 arg10 harg10 arg11 harg11 X_arg2 X_arg3 ⟨k, h⟩).2.1 ++ prev.2.1, (tripL_k0_t1 (F := F) 𝒱 c bd i arg2 harg2 arg3 harg3 arg4 harg4 arg5 harg5 arg6 harg6 arg7 harg7 arg8 harg8 arg9 harg9 arg10 harg10 arg11 harg11 X_arg2 X_arg3 ⟨k, h⟩).2.2.1 ++ prev.2.2.1, (tripL_k0_t1 (F := F) 𝒱 c bd i arg2 harg2 arg3 harg3 arg4 harg4 arg5 harg5 arg6 harg6 arg7 harg7 arg8 harg8 arg9 harg9 arg10 harg10 arg11 harg11 X_arg2 X_arg3 ⟨k, h⟩).2.2.2.1 ++ prev.2.2.2.1, (tripL_k0_t1 (F := F) 𝒱 c bd i arg2 harg2 arg3 harg3 arg4 harg4 arg5 harg5 arg6 harg6 arg7 harg7 arg8 harg8 arg9 harg9 arg10 harg10 arg11 harg11 X_arg2 X_arg3 ⟨k, h⟩).2.2.2.2.1 ++ prev.2.2.2.2.1, (tripL_k0_t1 (F := F) 𝒱 c bd i arg2 harg2 arg3 harg3 arg4 harg4 arg5 harg5 arg6 harg6 arg7 harg7 arg8 harg8 arg9 harg9 arg10 harg10 arg11 harg11 X_arg2 X_arg3 ⟨k, h⟩).2.2.2.2.2.1 ++ prev.2.2.2.2.2.1, (tripL_k0_t1 (F := F) 𝒱 c bd i arg2 harg2 arg3 harg3 arg4 harg4 arg5 harg5 arg6 harg6 arg7 harg7 arg8 harg8 arg9 harg9 arg10 harg10 arg11 harg11 X_arg2 X_arg3 ⟨k, h⟩).2.2.2.2.2.2.1 ++ prev.2.2.2.2.2.2.1, (tripL_k0_t1 (F := F) 𝒱 c bd i arg2 harg2 arg3 harg3 arg4 harg4 arg5 harg5 arg6 harg6 arg7 harg7 arg8 harg8 arg9 harg9 arg10 harg10 arg11 harg11 X_arg2 X_arg3 ⟨k, h⟩).2.2.2.2.2.2.2 ++ prev.2.2.2.2.2.2.2)
  else prev

/-- The pieces of the trips before `k` (last first), per written memref. -/
def pb_k0_t1 (𝒱 : Variants) (c : Dev nD) (bd : Option 𝒱.V) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x2x128 .bf16) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole) (X_arg2 : BufTy.Contents (Elt F) arg2.view.ty) (X_arg3 : BufTy.Contents (Elt F) arg3.view.ty) : ℕ → List (View.Piece (Elt F) S1x1024x128 .fp8e5m2) × List (View.Piece (Elt F) S1x16x128 .f32) × List (View.Piece (Elt F) S1x256x128 .i8) × List (View.Piece (Elt F) S256x2x128 .bf16) × List (View.Piece (Elt F) S256x128 .f32) × List (View.Piece (Elt F) S256x128 .i32) × List (View.Piece (Elt F) S64x128 .f32) × List (View.Piece (Elt F) S8x128 .f32)
  | 0 => ([], [], [], [], [], [], [], [])
  | k + 1 => pb_k0_t1Step 𝒱 c bd i arg2 harg2 arg3 harg3 arg4 harg4 arg5 harg5 arg6 harg6 arg7 harg7 arg8 harg8 arg9 harg9 arg10 harg10 arg11 harg11 X_arg2 X_arg3 k (pb_k0_t1 𝒱 c bd i arg2 harg2 arg3 harg3 arg4 harg4 arg5 harg5 arg6 harg6 arg7 harg7 arg8 harg8 arg9 harg9 arg10 harg10 arg11 harg11 X_arg2 X_arg3 k)

theorem pb_k0_t1_succ (𝒱 : Variants) (c : Dev nD) (bd : Option 𝒱.V) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x2x128 .bf16) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole) (X_arg2 : BufTy.Contents (Elt F) arg2.view.ty) (X_arg3 : BufTy.Contents (Elt F) arg3.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 X_arg2 X_arg3 (k.val + 1)
      = ((tripL_k0_t1 (F := F) 𝒱 c bd i arg2 harg2 arg3 harg3 arg4 harg4 arg5 harg5 arg6 harg6 arg7 harg7 arg8 harg8 arg9 harg9 arg10 harg10 arg11 harg11 X_arg2 X_arg3 k).1 ++ (pb_k0_t1 (F := F) 𝒱 c bd i arg2 harg2 arg3 harg3 arg4 harg4 arg5 harg5 arg6 harg6 arg7 harg7 arg8 harg8 arg9 harg9 arg10 harg10 arg11 harg11 X_arg2 X_arg3 k.val).1, (tripL_k0_t1 (F := F) 𝒱 c bd i arg2 harg2 arg3 harg3 arg4 harg4 arg5 harg5 arg6 harg6 arg7 harg7 arg8 harg8 arg9 harg9 arg10 harg10 arg11 harg11 X_arg2 X_arg3 k).2.1 ++ (pb_k0_t1 (F := F) 𝒱 c bd i arg2 harg2 arg3 harg3 arg4 harg4 arg5 harg5 arg6 harg6 arg7 harg7 arg8 harg8 arg9 harg9 arg10 harg10 arg11 harg11 X_arg2 X_arg3 k.val).2.1, (tripL_k0_t1 (F := F) 𝒱 c bd i arg2 harg2 arg3 harg3 arg4 harg4 arg5 harg5 arg6 harg6 arg7 harg7 arg8 harg8 arg9 harg9 arg10 harg10 arg11 harg11 X_arg2 X_arg3 k).2.2.1 ++ (pb_k0_t1 (F := F) 𝒱 c bd i arg2 harg2 arg3 harg3 arg4 harg4 arg5 harg5 arg6 harg6 arg7 harg7 arg8 harg8 arg9 harg9 arg10 harg10 arg11 harg11 X_arg2 X_arg3 k.val).2.2.1, (tripL_k0_t1 (F := F) 𝒱 c bd i arg2 harg2 arg3 harg3 arg4 harg4 arg5 harg5 arg6 harg6 arg7 harg7 arg8 harg8 arg9 harg9 arg10 harg10 arg11 harg11 X_arg2 X_arg3 k).2.2.2.1 ++ (pb_k0_t1 (F := F) 𝒱 c bd i arg2 harg2 arg3 harg3 arg4 harg4 arg5 harg5 arg6 harg6 arg7 harg7 arg8 harg8 arg9 harg9 arg10 harg10 arg11 harg11 X_arg2 X_arg3 k.val).2.2.2.1, (tripL_k0_t1 (F := F) 𝒱 c bd i arg2 harg2 arg3 harg3 arg4 harg4 arg5 harg5 arg6 harg6 arg7 harg7 arg8 harg8 arg9 harg9 arg10 harg10 arg11 harg11 X_arg2 X_arg3 k).2.2.2.2.1 ++ (pb_k0_t1 (F := F) 𝒱 c bd i arg2 harg2 arg3 harg3 arg4 harg4 arg5 harg5 arg6 harg6 arg7 harg7 arg8 harg8 arg9 harg9 arg10 harg10 arg11 harg11 X_arg2 X_arg3 k.val).2.2.2.2.1, (tripL_k0_t1 (F := F) 𝒱 c bd i arg2 harg2 arg3 harg3 arg4 harg4 arg5 harg5 arg6 harg6 arg7 harg7 arg8 harg8 arg9 harg9 arg10 harg10 arg11 harg11 X_arg2 X_arg3 k).2.2.2.2.2.1 ++ (pb_k0_t1 (F := F) 𝒱 c bd i arg2 harg2 arg3 harg3 arg4 harg4 arg5 harg5 arg6 harg6 arg7 harg7 arg8 harg8 arg9 harg9 arg10 harg10 arg11 harg11 X_arg2 X_arg3 k.val).2.2.2.2.2.1, (tripL_k0_t1 (F := F) 𝒱 c bd i arg2 harg2 arg3 harg3 arg4 harg4 arg5 harg5 arg6 harg6 arg7 harg7 arg8 harg8 arg9 harg9 arg10 harg10 arg11 harg11 X_arg2 X_arg3 k).2.2.2.2.2.2.1 ++ (pb_k0_t1 (F := F) 𝒱 c bd i arg2 harg2 arg3 harg3 arg4 harg4 arg5 harg5 arg6 harg6 arg7 harg7 arg8 harg8 arg9 harg9 arg10 harg10 arg11 harg11 X_arg2 X_arg3 k.val).2.2.2.2.2.2.1, (tripL_k0_t1 (F := F) 𝒱 c bd i arg2 harg2 arg3 harg3 arg4 harg4 arg5 harg5 arg6 harg6 arg7 harg7 arg8 harg8 arg9 harg9 arg10 harg10 arg11 harg11 X_arg2 X_arg3 k).2.2.2.2.2.2.2 ++ (pb_k0_t1 (F := F) 𝒱 c bd i arg2 harg2 arg3 harg3 arg4 harg4 arg5 harg5 arg6 harg6 arg7 harg7 arg8 harg8 arg9 harg9 arg10 harg10 arg11 harg11 X_arg2 X_arg3 k.val).2.2.2.2.2.2.2) := by
  rw [pb_k0_t1.eq_2]; unfold pb_k0_t1Step; exact dif_pos k.isLt

/-- THE INVARIANT before trip `k`: arg2, arg3 read at `X_·`; arg4, arg5, arg6, arg7, arg8, arg9,
   arg10, arg11 holding the pieces of the trips before `k` written over the contents at loop entry
   `G_·` (stated `∃ f, … ∗ ⌜f = …⌝`, so that a hypothesis of any contents matches and the equation
   is what is proved). -/
abbrev inv_k0_t1 (𝒱 : Variants) (c : Dev nD) (bd : Option 𝒱.V) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x2x128 .bf16) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole) (X_arg2 : BufTy.Contents (Elt F) arg2.view.ty) (X_arg3 : BufTy.Contents (Elt F) arg3.view.ty) (G_arg4 : BufTy.Contents (Elt F) arg4.view.ty) (G_arg5 : BufTy.Contents (Elt F) arg5.view.ty) (G_arg6 : BufTy.Contents (Elt F) arg6.view.ty) (G_arg7 : BufTy.Contents (Elt F) arg7.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (∃ f, (arg4.view.loc (c : Thread nD τ) ↦[arg4.view.set]{fullShare} f) ∗ ⌜f = arg4.view.writes (Elt F) G_arg4 (pb_k0_t1 (F := F) 𝒱 c bd i arg2 harg2 arg3 harg3 arg4 harg4 arg5 harg5 arg6 harg6 arg7 harg7 arg8 harg8 arg9 harg9 arg10 harg10 arg11 harg11 X_arg2 X_arg3 k).1⌝) ∗ (∃ f, (arg5.view.loc (c : Thread nD τ) ↦[arg5.view.set]{fullShare} f) ∗ ⌜f = arg5.view.writes (Elt F) G_arg5 (pb_k0_t1 (F := F) 𝒱 c bd i arg2 harg2 arg3 harg3 arg4 harg4 arg5 harg5 arg6 harg6 arg7 harg7 arg8 harg8 arg9 harg9 arg10 harg10 arg11 harg11 X_arg2 X_arg3 k).2.1⌝) ∗ (∃ f, (arg6.view.loc (c : Thread nD τ) ↦[arg6.view.set]{fullShare} f) ∗ ⌜f = arg6.view.writes (Elt F) G_arg6 (pb_k0_t1 (F := F) 𝒱 c bd i arg2 harg2 arg3 harg3 arg4 harg4 arg5 harg5 arg6 harg6 arg7 harg7 arg8 harg8 arg9 harg9 arg10 harg10 arg11 harg11 X_arg2 X_arg3 k).2.2.1⌝) ∗ (∃ f, (arg7.view.loc (c : Thread nD τ) ↦[arg7.view.set]{fullShare} f) ∗ ⌜f = arg7.view.writes (Elt F) G_arg7 (pb_k0_t1 (F := F) 𝒱 c bd i arg2 harg2 arg3 harg3 arg4 harg4 arg5 harg5 arg6 harg6 arg7 harg7 arg8 harg8 arg9 harg9 arg10 harg10 arg11 harg11 X_arg2 X_arg3 k).2.2.2.1⌝) ∗ (∃ f, (arg8.view.loc (c : Thread nD τ) ↦[arg8.view.set]{fullShare} f) ∗ ⌜f = arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 X_arg2 X_arg3 k).2.2.2.2.1⌝) ∗ (∃ f, (arg9.view.loc (c : Thread nD τ) ↦[arg9.view.set]{fullShare} f) ∗ ⌜f = arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 X_arg2 X_arg3 k).2.2.2.2.2.1⌝) ∗ (∃ f, (arg10.view.loc (c : Thread nD τ) ↦[arg10.view.set]{fullShare} f) ∗ ⌜f = arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 X_arg2 X_arg3 k).2.2.2.2.2.2.1⌝) ∗ (∃ f, (arg11.view.loc (c : Thread nD τ) ↦[arg11.view.set]{fullShare} f) ∗ ⌜f = arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 X_arg2 X_arg3 k).2.2.2.2.2.2.2⌝))

set_option warn.classDefReducibility false in
/-- The loop by its invariant (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x2x128 .bf16) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole) (X_arg2 : BufTy.Contents (Elt F) arg2.view.ty) (X_arg3 : BufTy.Contents (Elt F) arg3.view.ty) (G_arg4 : BufTy.Contents (Elt F) arg4.view.ty) (G_arg5 : BufTy.Contents (Elt F) arg5.view.ty) (G_arg6 : BufTy.Contents (Elt F) arg6.view.ty) (G_arg7 : BufTy.Contents (Elt F) arg7.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 where
  inv := inv_k0_t1 (F := F) 𝒱 c bd i arg2 harg2 arg3 harg3 arg4 harg4 arg5 harg5 arg6 harg6 arg7 harg7 arg8 harg8 arg9 harg9 arg10 harg10 arg11 harg11 X_arg2 X_arg3 G_arg4 G_arg5 G_arg6 G_arg7 G_arg8 G_arg9 G_arg10 G_arg11
  step k acc := by
    iintro ⟨HR_arg2, HR_arg3, ⟨%f_arg4, HW_arg4, %h_arg4⟩, ⟨%f_arg5, HW_arg5, %h_arg5⟩, ⟨%f_arg6, HW_arg6, %h_arg6⟩, ⟨%f_arg7, HW_arg7, %h_arg7⟩, ⟨%f_arg8, HW_arg8, %h_arg8⟩, ⟨%f_arg9, HW_arg9, %h_arg9⟩, ⟨%f_arg10, HW_arg10, %h_arg10⟩, ⟨%f_arg11, HW_arg11, %h_arg11⟩⟩
    iapply (wp_wand_r Idealize.ShloMosaic.frame (wpE (defs₀ (F := F)) 𝒱 (c : Thread nD τ) bd) E)
    isplitl [HR_arg2 HR_arg3 HW_arg4 HW_arg5 HW_arg6 HW_arg7 HW_arg8 HW_arg9 HW_arg10 HW_arg11]
    · iapply ((trip_k0_t1 (F := F) 𝒱 c bd i arg2 harg2 arg3 harg3 arg4 harg4 arg5 harg5 arg6 harg6 arg7 harg7 arg8 harg8 arg9 harg9 arg10 harg10 arg11 harg11 X_arg2 X_arg3 k).2.2.2.2.2.2.2.2 E f_arg4 f_arg5 f_arg6 f_arg7 f_arg8 f_arg9 f_arg10 f_arg11)
      isplitl [HR_arg2]; · iexact HR_arg2
      isplitl [HR_arg3]; · iexact HR_arg3
      isplitl [HW_arg4]; · iexact HW_arg4
      isplitl [HW_arg5]; · iexact HW_arg5
      isplitl [HW_arg6]; · iexact HW_arg6
      isplitl [HW_arg7]; · iexact HW_arg7
      isplitl [HW_arg8]; · iexact HW_arg8
      isplitl [HW_arg9]; · iexact HW_arg9
      isplitl [HW_arg10]; · iexact HW_arg10
      iexact HW_arg11
    · iintro %_ ⟨HR_arg2, HR_arg3, HW_arg4, HW_arg5, HW_arg6, HW_arg7, HW_arg8, HW_arg9, HW_arg10, HW_arg11⟩
      isplitl [HR_arg2]; · iexact HR_arg2
      isplitl [HR_arg3]; · iexact HR_arg3
      rw [pb_k0_t1_succ]
      isplitl [HW_arg4]
      · iexists _; isplitl [HW_arg4]; · iexact HW_arg4
        ipureintro; rw [h_arg4, ← View.writes_append]
      isplitl [HW_arg5]
      · iexists _; isplitl [HW_arg5]; · iexact HW_arg5
        ipureintro; rw [h_arg5, ← View.writes_append]
      isplitl [HW_arg6]
      · iexists _; isplitl [HW_arg6]; · iexact HW_arg6
        ipureintro; rw [h_arg6, ← View.writes_append]
      isplitl [HW_arg7]
      · iexists _; isplitl [HW_arg7]; · iexact HW_arg7
        ipureintro; rw [h_arg7, ← View.writes_append]
      isplitl [HW_arg8]
      · iexists _; isplitl [HW_arg8]; · iexact HW_arg8
        ipureintro; rw [h_arg8, ← View.writes_append]
      isplitl [HW_arg9]
      · iexists _; isplitl [HW_arg9]; · iexact HW_arg9
        ipureintro; rw [h_arg9, ← View.writes_append]
      isplitl [HW_arg10]
      · iexists _; isplitl [HW_arg10]; · iexact HW_arg10
        ipureintro; rw [h_arg10, ← View.writes_append]
      iexists _; isplitl [HW_arg11]; · iexact HW_arg11
      ipureintro; rw [h_arg11, ← View.writes_append]

end Cert.KernelIdeal.Own

end
-- ==== Proof.KernI.Runs.lean ====
/- What the run of the body shares with the launch: the buffers of the pipeline as the region finds them, the blocks of
   the windows, and the reading of the frame claim off the run. -/
module

public import proofs.«01_k».proof.Proof.Gen.KernelIdeal.Launch
public import proofs.«01_k».proof.Proof.Gen.KernelIdeal.Skeleton
public import proofs.«01_k».proof.Proof.KernI.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c)))⟩) h

/-! ## The kernel body on any staging memrefs: a subtype the run finds -/

/-- One staging buffer of output window 2, through which its contents are stated (`View.read_writes_of_cover`: the
    choice does not matter). -/
abbrev VO0_2 : View sig .tc .vmem S1x1024x128 .fp8e5m2 := (Memref.whole cc0_stg2_0 : Memref sig .tc .vmem S1x1024x128 .fp8e5m2).view
/-- One staging buffer of output window 3, through which its contents are stated (`View.read_writes_of_cover`: the
    choice does not matter). -/
abbrev VO0_3 : View sig .tc .vmem S1x16x128 .f32 := (Memref.whole cc0_stg3_0 : Memref sig .tc .vmem S1x16x128 .f32).view
/-- One staging buffer of output window 4, through which its contents are stated (`View.read_writes_of_cover`: the
    choice does not matter). -/
abbrev VO0_4 : View sig .tc .vmem S1x256x128 .i8 := (Memref.whole cc0_stg4_0 : Memref sig .tc .vmem S1x256x128 .i8).view
/-- Each window's current staging memref at point `t`, spelled as the pipeline passes it (`bodyAt0`), and its wholeness. -/
abbrev ms0_0 (t : Fin cfg0.N) : Memref sig .tc .vmem S1x2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x128 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x128 .i8 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S256x2x128 .bf16 := Memref.whole cc0_scratch0
abbrev scM0_1 : Memref sig .tc .vmem S256x128 .f32 := Memref.whole cc0_scratch1
abbrev scM0_2 : Memref sig .tc .vmem S256x128 .i32 := Memref.whole cc0_scratch2
abbrev scM0_3 : Memref sig .tc .vmem S64x128 .f32 := Memref.whole cc0_scratch3
abbrev scM0_4 : Memref sig .tc .vmem S8x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Own

end
-- ==== Proof.KernI.RunA.lean ====
/- The body run once at a symbolic grid point: the pieces it writes into each output block are found by the run. -/
module

public import proofs.«01_k».proof.Proof.KernI.Runs

@[expose] public section

-- membership in a rectangle of production extents (`View.cover_of_tiled`): the elaborator's structural look
-- recurses once per coordinate of the long axes
set_option maxRecDepth 16384

noncomputable section

namespace Cert.KernelIdeal.Own

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x2x128 .bf16) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole)
    (x0 : Vec F S1x2048x128 .bf16) (x1 : Vec F S1x512x128 .i32) :
    Σ' (L2 : List (View.Piece (Elt F) S1x1024x128 .fp8e5m2)), Σ' (L3 : List (View.Piece (Elt F) S1x16x128 .f32)), { L4 : List (View.Piece (Elt F) S1x256x128 .i8) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_mvue24 i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_mvue24_eq_skeleton]; unfold cc0_mvue24_skel
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Own

end
-- ==== Proof.KernI.Frame.lean ====
/- The launch: the body obligation at every grid point, the whole run, and the frame claim (arguments unchanged, every
   semaphore counter at zero). -/
module

public import proofs.«01_k».proof.Proof.KernI.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Own

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 2 tile its block (32 stores of `S1x32x128`, checked by the kernel's evaluation: Lib/Ring.lean `Piece.tiledL`, linear in the pieces, through a loop's `@[irreducible]` trip theorem too), so they cover it. -/
theorem cover0_A_2 (c : Dev nD) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x2x128 .bf16) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole)
    (x0 : Vec F S1x2048x128 .bf16) (x1 : Vec F S1x512x128 .i32) (y : S1x1024x128.Idx) :
    ∃ pc ∈ (kernelRun0_A c i arg2 harg2 arg3 harg3 arg4 harg4 arg5 harg5 arg6 harg6 arg7 harg7 arg8 harg8 arg9 harg9 arg10 harg10 arg11 harg11 x0 x1).1, y ∈ pc.1.set :=
  View.cover_of_tiledL (kernelRun0_A c i arg2 harg2 arg3 harg3 arg4 harg4 arg5 harg5 arg6 harg6 arg7 harg7 arg8 harg8 arg9 harg9 arg10 harg10 arg11 harg11 x0 x1).1 S1x32x128.size (by sl_kernel_rfl) y

/-- What the run leaves in output 2's staging buffer: its pieces read back over junk. -/
def out0_A_2 (c : Dev nD) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x2x128 .bf16) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole)
    (x0 : Vec F S1x2048x128 .bf16) (x1 : Vec F S1x512x128 .i32) : Vec F S1x1024x128 .fp8e5m2 :=
  VO0_2.read (Elt F) (VO0_2.writes (Elt F) VO0_2.junk (kernelRun0_A c i arg2 harg2 arg3 harg3 arg4 harg4 arg5 harg5 arg6 harg6 arg7 harg7 arg8 harg8 arg9 harg9 arg10 harg10 arg11 harg11 x0 x1).1)

/-- The run's pieces for output 3 tile its block (2 stores of `S1x8x128`, checked by the kernel's evaluation: Lib/Ring.lean `Piece.tiledL`, linear in the pieces, through a loop's `@[irreducible]` trip theorem too), so they cover it. -/
theorem cover0_A_3 (c : Dev nD) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x2x128 .bf16) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole)
    (x0 : Vec F S1x2048x128 .bf16) (x1 : Vec F S1x512x128 .i32) (y : S1x16x128.Idx) :
    ∃ pc ∈ (kernelRun0_A c i arg2 harg2 arg3 harg3 arg4 harg4 arg5 harg5 arg6 harg6 arg7 harg7 arg8 harg8 arg9 harg9 arg10 harg10 arg11 harg11 x0 x1).2.1, y ∈ pc.1.set :=
  View.cover_of_tiledL (kernelRun0_A c i arg2 harg2 arg3 harg3 arg4 harg4 arg5 harg5 arg6 harg6 arg7 harg7 arg8 harg8 arg9 harg9 arg10 harg10 arg11 harg11 x0 x1).2.1 S1x8x128.size (by sl_kernel_rfl) y

/-- What the run leaves in output 3's staging buffer: its pieces read back over junk. -/
def out0_A_3 (c : Dev nD) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x2x128 .bf16) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole)
    (x0 : Vec F S1x2048x128 .bf16) (x1 : Vec F S1x512x128 .i32) : Vec F S1x16x128 .f32 :=
  VO0_3.read (Elt F) (VO0_3.writes (Elt F) VO0_3.junk (kernelRun0_A c i arg2 harg2 arg3 harg3 arg4 harg4 arg5 harg5 arg6 harg6 arg7 harg7 arg8 harg8 arg9 harg9 arg10 harg10 arg11 harg11 x0 x1).2.1)

/-- The run's pieces for output 4 tile its block (8 stores of `S1x32x128`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x2x128 .bf16) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole)
    (x0 : Vec F S1x2048x128 .bf16) (x1 : Vec F S1x512x128 .i32) (y : S1x256x128.Idx) :
    ∃ pc ∈ (kernelRun0_A c i arg2 harg2 arg3 harg3 arg4 harg4 arg5 harg5 arg6 harg6 arg7 harg7 arg8 harg8 arg9 harg9 arg10 harg10 arg11 harg11 x0 x1).2.2.1, y ∈ pc.1.set :=
  View.cover_of_tiledL (kernelRun0_A c i arg2 harg2 arg3 harg3 arg4 harg4 arg5 harg5 arg6 harg6 arg7 harg7 arg8 harg8 arg9 harg9 arg10 harg10 arg11 harg11 x0 x1).2.2.1 S1x32x128.size (by sl_kernel_rfl) y

/-- What the run leaves in output 4's staging buffer: its pieces read back over junk. -/
def out0_A_4 (c : Dev nD) (i : grid0.Coords) (arg2 : Memref sig .tc .vmem S1x2048x128 .bf16) (harg2 : arg2.IsWhole) (arg3 : Memref sig .tc .vmem S1x512x128 .i32) (harg3 : arg3.IsWhole) (arg4 : Memref sig .tc .vmem S1x1024x128 .fp8e5m2) (harg4 : arg4.IsWhole) (arg5 : Memref sig .tc .vmem S1x16x128 .f32) (harg5 : arg5.IsWhole) (arg6 : Memref sig .tc .vmem S1x256x128 .i8) (harg6 : arg6.IsWhole) (arg7 : Memref sig .tc .vmem S256x2x128 .bf16) (harg7 : arg7.IsWhole) (arg8 : Memref sig .tc .vmem S256x128 .f32) (harg8 : arg8.IsWhole) (arg9 : Memref sig .tc .vmem S256x128 .i32) (harg9 : arg9.IsWhole) (arg10 : Memref sig .tc .vmem S64x128 .f32) (harg10 : arg10.IsWhole) (arg11 : Memref sig .tc .vmem S8x128 .f32) (harg11 : arg11.IsWhole)
    (x0 : Vec F S1x2048x128 .bf16) (x1 : Vec F S1x512x128 .i32) : Vec F S1x256x128 .i8 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 x0 x1).2.2.1)

/-! ## What the outputs hold after each point -/

/-- What the outputs' staging buffers hold after the body at point `t` (as a tuple, in window order): the run's contents at
    the point's memrefs and input blocks. -/
def outsAt0 (c : Dev nD) (t : Fin cfg0.N) : Vec F S1x1024x128 .fp8e5m2 × Vec F S1x16x128 .f32 × Vec F S1x256x128 .i8 :=
  (out0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (iblk m c 0 t) (iblk m c 1 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t).1
    | ⟨3, _⟩ => (outsAt0 m c t).2.1
    | ⟨4, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t).1 := by dsimp only [dats]
theorem after0_3 (c : Dev nD) (t : Fin cfg0.N) : (dats m 0 c).after 3 t = (outsAt0 m c t).2.1 := by dsimp only [dats]
theorem after0_4 (c : Dev nD) (t : Fin cfg0.N) : (dats m 0 c).after 4 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold out0_A_2 out0_A_3 out0_A_4; (try dsimp only)
  iintro ⟨⟨⟨HS0, HS1, HS2, HS3, HS4⟩, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ _ _ _ _ _ _ _ _ (iblk m c 0 t) (iblk m c 1 t)).2.2.2 Set.univ _)
  isplitl [H0]; · iexact H0
  isplitl [H1]; · iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  isplitl [HS4]; · iexact HS4
  iintro ⟨H0, H1, ⟨%e2, H2⟩, ⟨%e3, H3⟩, ⟨%e4, H4⟩, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _ _ _ _ _ _ _ _ _ _ _)
  unfold owns; iexists _; isplitr
  swap; · iexact H4
  ipureintro; exact View.read_writes_of_cover _ _ _ _ _ (cover0_A_4 c _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Own

end
-- ==== Proof.Math.Group.lean ====
/- One group of four numbers and its random word: what the kernel computes of them, one number at a time. -/
module

public import Idealize.ShloMosaic.PureOps.Ideal

@[expose] public section

noncomputable section

namespace Cert.Mvue

open Idealize.ShloMosaic

/-- The absolute value, as the machine's operation writes it. -/
def ab (x : EReal) : EReal := max x (-x)

variable (x0 x1 x2 x3 : EReal) (b : BitVec 32)

/-- The sum of the four magnitudes, left to right. -/
def tot : EReal := ab x0 + ab x1 + ab x2 + ab x3

/-- The largest of the four magnitudes. -/
def top : EReal := max (max (ab x0) (ab x1)) (max (ab x2) (ab x3))

/-- Minus half the sum. -/
def halfNeg : EReal := tot x0 x1 x2 x3 * Ideal.ofBits .f32 0xBF000000#32

/-- The larger of minus half the sum and the largest magnitude less the sum. -/
def gap : EReal := max (halfNeg x0 x1 x2 x3) (top x0 x1 x2 x3 - tot x0 x1 x2 x3)

/-- The larger of half the sum and the largest magnitude. -/
def step : EReal := tot x0 x1 x2 x3 + gap x0 x1 x2 x3

/-- The first threshold: the random fraction of the gap, or something negative where there is no gap. -/
def thr1 : EReal :=
  Scalar.select (Ideal.cmp .oeq (gap x0 x1 x2 x3) (Ideal.ofBits .f32 0x00000000#32))
    (halfNeg x0 x1 x2 x3 - Ideal.ofBits .f32 0x00800000#32)
    ((((IntOp.shrui .vector b 8#32).toInt : ℝ) : EReal) * Ideal.ofBits .f32 0xB3800000#32 * gap x0 x1 x2 x3)

/-- The second threshold: one step above the first. -/
def thr2 : EReal := thr1 x0 x1 x2 x3 b + step x0 x1 x2 x3

/-- The first of the two kept: whichever of three alternatives the first threshold picks. -/
def pickLo {α : Type} (p0 p1 p2 : α) : α :=
  Scalar.select (Ideal.cmp .ole (ab x0 + ab x1) (thr1 x0 x1 x2 x3 b)) p2
    (Scalar.select (Ideal.cmp .ole (ab x0) (thr1 x0 x1 x2 x3 b)) p1 p0)

/-- The second of the two kept: whichever of three alternatives the second threshold picks. -/
def pickHi {α : Type} (p1 p2 p3 : α) : α :=
  Scalar.select (Ideal.cmp .ole (ab x0 + ab x1 + ab x2) (thr2 x0 x1 x2 x3 b)) p3
    (Scalar.select (Ideal.cmp .ole (ab x0 + ab x1) (thr2 x0 x1 x2 x3 b)) p2 p1)

/-- The first number kept, as it came. -/
def zLo : EReal := pickLo x0 x1 x2 x3 b x0 x1 x2

/-- The second number kept, as it came. -/
def zHi : EReal := pickHi x0 x1 x2 x3 b x1 x2 x3

/-- A small constant moved to the nibble of row `s` of eight. -/
def nib (s : BitVec 32) (c : BitVec 32) : BitVec 32 := IntOp.shli .vector c (IntOp.muli s 4#32)

/-- The two places kept, as a nibble in the place of row `s` of eight. -/
def word (s : BitVec 32) : BitVec 32 :=
  IntOp.ori (pickLo x0 x1 x2 x3 b 0#32 (nib s 1#32) (nib s 2#32)) (pickHi x0 x1 x2 x3 b (nib s 4#32) (nib s 8#32) (nib s 12#32))

/-! ## What follows once a block's largest step is known -/

variable (amax : EReal)

/-- The largest step over the largest code. -/
def ratio : EReal := amax * Ideal.ofBits .f32 0x37924925#32

/-- One rung of the exponent's ladder, on the value: scaled down where it is at least the rung's power. -/
def rungV (y : EReal) (big small : BitVec 32) : EReal :=
  Scalar.select (Ideal.cmp .oge y (Ideal.ofBits .f32 big)) (y * Ideal.ofBits .f32 small) y

/-- One rung of the exponent's ladder, on the count. -/
def rungE (y : EReal) (e : BitVec 32) (big : BitVec 32) (n : BitVec 32) : BitVec 32 :=
  Scalar.select (Ideal.cmp .oge y (Ideal.ofBits .f32 big)) (IntOp.addi e n) e

/-- The value before the ladder: a value below one is moved up by a power of two. -/
def lad0 : EReal :=
  Scalar.select (Ideal.cmp .olt (ratio amax) (Ideal.ofBits .f32 0x3F800000#32)) (ratio amax * Ideal.ofBits .f32 0x7F000000#32) (ratio amax)
def lad1 : EReal := rungV (lad0 amax) 0x5F800000#32 0x1F800000#32
def lad2 : EReal := rungV (lad1 amax) 0x4F800000#32 0x2F800000#32
def lad3 : EReal := rungV (lad2 amax) 0x47800000#32 0x37800000#32
def lad4 : EReal := rungV (lad3 amax) 0x43800000#32 0x3B800000#32
def lad5 : EReal := rungV (lad4 amax) 0x41800000#32 0x3D800000#32
def lad6 : EReal := rungV (lad5 amax) 0x40800000#32 0x3E800000#32

/-- The count before the ladder. -/
def cnt0 : BitVec 32 :=
  Scalar.select (Ideal.cmp .olt (ratio amax) (Ideal.ofBits .f32 0x3F800000#32)) 4294967170#32 1#32
def cnt1 : BitVec 32 := rungE (lad0 amax) (cnt0 amax) 0x5F800000#32 64#32
def cnt2 : BitVec 32 := rungE (lad1 amax) (cnt1 amax) 0x4F800000#32 32#32
def cnt3 : BitVec 32 := rungE (lad2 amax) (cnt2 amax) 0x47800000#32 16#32
def cnt4 : BitVec 32 := rungE (lad3 amax) (cnt3 amax) 0x43800000#32 8#32
def cnt5 : BitVec 32 := rungE (lad4 amax) (cnt4 amax) 0x41800000#32 4#32
def cnt6 : BitVec 32 := rungE (lad5 amax) (cnt5 amax) 0x40800000#32 2#32
def cnt7 : BitVec 32 := rungE (lad6 amax) (cnt6 amax) 0x40000000#32 1#32

/-- The block's exponent. -/
def expo : BitVec 32 := Scalar.select (Ideal.cmp .oeq amax (Ideal.ofBits .f32 0x00000000#32)) 0#32 (cnt7 amax)

/-- The block's scale: the power of two with that exponent, as the bits of a number. -/
def scale : EReal := Ideal.ofBits .f32 (IntOp.shli .vector (IntOp.addi (expo amax) 127#32) 23#32)

/-- The scale's inverse, likewise. -/
def inv : EReal := Ideal.ofBits .f32 (IntOp.shli .vector (IntOp.subi 127#32 (expo amax)) 23#32)

/-- The code of a kept number `z`, from its group's gap `g` and its block's inverse scale `v`, before its sign. -/
def mag (z g v : EReal) : EReal :=
  max (min ((Ideal.ofBits .bf16 0x0000#16 - ab z) * v) (g * v)) (Ideal.ofBits .bf16 0xC760#16)

/-- The code of a kept number. -/
def code (z g v : EReal) : EReal :=
  Scalar.select (Ideal.cmp .olt z (Ideal.ofBits .bf16 0x0000#16)) (Ideal.ofBits .bf16 0x0000#16 - ab (mag z g v)) (ab (mag z g v))

end Cert.Mvue
-- ==== Proof.Math.Ref.lean ====
/- One group of four numbers and its random word: what the reference computes of them, one number at a time. -/
module

public import proofs.«01_k».proof.Proof.Math.Group

@[expose] public section

noncomputable section

namespace Cert.Mvue.Ref

open Idealize.ShloMosaic

variable (x0 x1 x2 x3 : EReal) (b : BitVec 32)

/-- The position of the first largest magnitude. -/
def first : BitVec 32 :=
  Scalar.select (Ideal.cmp .oeq (ab x0) (top x0 x1 x2 x3)) 0#32
    (Scalar.select (Ideal.cmp .oeq (ab x1) (top x0 x1 x2 x3)) 1#32 (Scalar.select (Ideal.cmp .oeq (ab x2) (top x0 x1 x2 x3)) 2#32 3#32))

/-- The random fraction. -/
def frac : EReal := (((IntOp.shrui .vector b 8#32).toNat : ℝ) : EReal) * Ideal.ofBits .f32 0x33800000#32

/-- The sum of the magnitudes less the largest. -/
def rest : EReal := tot x0 x1 x2 x3 - top x0 x1 x2 x3

/-- The first magnitude beside the largest. -/
def beside0 : EReal := Scalar.select (IntOp.cmpi .eq (first x0 x1 x2 x3) 0#32) (ab x1) (ab x0)
/-- The second magnitude beside the largest. -/
def beside1 : EReal := Scalar.select (IntOp.cmpi .sle (first x0 x1 x2 x3) 1#32) (ab x2) (ab x1)

/-- The other position kept beside the largest's. -/
def other : BitVec 32 :=
  Scalar.select (Ideal.cmp .oeq (rest x0 x1 x2 x3) (Ideal.ofBits .f32 0x00000000#32))
    (Scalar.select (IntOp.cmpi .eq (first x0 x1 x2 x3) 0#32) 1#32 0#32)
    (Scalar.select (Ideal.cmp .olt (frac b * rest x0 x1 x2 x3) (beside0 x0 x1 x2 x3))
      (Scalar.select (IntOp.cmpi .eq (first x0 x1 x2 x3) 0#32) 1#32 0#32)
      (Scalar.select (Ideal.cmp .olt (frac b * rest x0 x1 x2 x3) (beside0 x0 x1 x2 x3 + beside1 x0 x1 x2 x3))
        (Scalar.select (IntOp.cmpi .sle (first x0 x1 x2 x3) 1#32) 2#32 1#32)
        (Scalar.select (IntOp.cmpi .sle (first x0 x1 x2 x3) 2#32) 3#32 2#32)))

/-- Half the sum. -/
def half : EReal := tot x0 x1 x2 x3 * Ideal.ofBits .f32 0x3F000000#32

/-- How many of the first three running sums a threshold has reached. -/
def count (t : EReal) : BitVec 32 :=
  IntOp.addi (IntOp.addi (BitVec.setWidth 32 (Ideal.cmp .ole (ab x0) t)) (BitVec.setWidth 32 (Ideal.cmp .ole (ab x0 + ab x1) t)))
    (BitVec.setWidth 32 (Ideal.cmp .ole (ab x0 + ab x1 + ab x2) t))

def lowCount : BitVec 32 := IntOp.minsi 2#32 (count x0 x1 x2 (frac b * half x0 x1 x2 x3))
def highCount : BitVec 32 := count x0 x1 x2 (frac b * half x0 x1 x2 x3 + half x0 x1 x2 x3)

/-- Whether the largest is at least half the sum. -/
def dom : BitVec 1 := Ideal.cmp .oge (Ideal.ofBits .f32 0x40000000#32 * top x0 x1 x2 x3) (tot x0 x1 x2 x3)

/-- The lower position kept. -/
def lo : BitVec 32 :=
  Scalar.select (dom x0 x1 x2 x3) (IntOp.minsi (first x0 x1 x2 x3) (other x0 x1 x2 x3 b)) (lowCount x0 x1 x2 x3 b)
/-- The upper position kept. -/
def hi : BitVec 32 :=
  Scalar.select (dom x0 x1 x2 x3) (IntOp.maxsi (first x0 x1 x2 x3) (other x0 x1 x2 x3 b))
    (IntOp.minsi 3#32 (IntOp.maxsi (highCount x0 x1 x2 x3 b) (IntOp.addi (lowCount x0 x1 x2 x3 b) 1#32)))

/-- The number at a position. -/
def pick (p : BitVec 32) : EReal :=
  Scalar.select (IntOp.cmpi .eq p 0#32) x0 (Scalar.select (IntOp.cmpi .eq p 1#32) x1 (Scalar.select (IntOp.cmpi .eq p 2#32) x2 x3))

/-- The sign of a number. -/
def sgn (a : EReal) : EReal :=
  Scalar.select (Ideal.cmp .ogt (ab a) (Ideal.ofBits .f32 0x00000000#32))
    (Scalar.select (Ideal.cmp .olt a (Ideal.ofBits .f32 0x00000000#32)) (Ideal.ofBits .f32 0xBF800000#32) (Ideal.ofBits .f32 0x3F800000#32)) a

/-- The value kept at a position. -/
def kept (p : BitVec 32) : EReal :=
  Scalar.select (dom x0 x1 x2 x3)
    (Scalar.select (IntOp.cmpi .eq p (first x0 x1 x2 x3)) (pick x0 x1 x2 x3 p)
      (Scalar.select (Ideal.cmp .oeq (rest x0 x1 x2 x3) (Ideal.ofBits .f32 0x00000000#32)) (Ideal.ofBits .f32 0x00000000#32)
        (sgn (pick x0 x1 x2 x3 p) * rest x0 x1 x2 x3)))
    (sgn (pick x0 x1 x2 x3 p) * half x0 x1 x2 x3)

/-- The block's exponent, from its largest kept magnitude. -/
def expo (amax : EReal) : EReal :=
  Scalar.select (Ideal.cmp .oeq amax (Ideal.ofBits .f32 0x00000000#32)) (Ideal.ofBits .f32 0x00000000#32)
    (Ideal.liftRound Int.floor (Ideal.div (Ideal.log (amax * Ideal.ofBits .f32 0x37924925#32)) (Ideal.log (Ideal.ofBits .f32 0x40000000#32)))
      + Ideal.ofBits .f32 0x3F800000#32)

def scale (amax : EReal) : EReal := Ideal.exp2 (expo amax)
def inv (amax : EReal) : EReal := Ideal.exp2 (Ideal.ofBits .f32 0x00000000#32 - expo amax)

/-- A kept value's code. -/
def code (k v : EReal) : EReal :=
  min (Ideal.ofBits .f32 0x47600000#32) (max (Ideal.ofBits .f32 0xC7600000#32) (k * v))

end Cert.Mvue.Ref
-- ==== Proof.Math.Column.lean ====
/- One column of groups: what the kernel and the reference compute of it, in the group's own terms. -/
module

public import proofs.«01_k».proof.Proof.Math.Ref

@[expose] public section

noncomputable section

namespace Cert.Mvue.Col

open Idealize.ShloMosaic

variable (f : ℕ → EReal) (g : ℕ → BitVec 32)

/-! ## The kernel -/

def gap (q : ℕ) : EReal := Mvue.gap (f (4 * q)) (f (4 * q + 1)) (f (4 * q + 2)) (f (4 * q + 3))
def step (q : ℕ) : EReal := Mvue.step (f (4 * q)) (f (4 * q + 1)) (f (4 * q + 2)) (f (4 * q + 3))
def zLo (q : ℕ) : EReal := Mvue.zLo (f (4 * q)) (f (4 * q + 1)) (f (4 * q + 2)) (f (4 * q + 3)) (g q)
def zHi (q : ℕ) : EReal := Mvue.zHi (f (4 * q)) (f (4 * q + 1)) (f (4 * q + 2)) (f (4 * q + 3)) (g q)
def word (q : ℕ) : BitVec 32 := Mvue.word (f (4 * q)) (f (4 * q + 1)) (f (4 * q + 2)) (f (4 * q + 3)) (g q) (BitVec.ofNat 32 (q % 8))
def colMax (q : ℕ) : EReal := max (max (max (step f q) (step f (q + 8))) (step f (q + 16))) (step f (q + 24))
def amax (p : ℕ) : EReal :=
  max (max (max (max (max (max (max (colMax f (32 * p)) (colMax f (32 * p + 1))) (colMax f (32 * p + 2))) (colMax f (32 * p + 3)))
    (colMax f (32 * p + 4))) (colMax f (32 * p + 5))) (colMax f (32 * p + 6))) (colMax f (32 * p + 7))
def code (ρ : ℕ) : EReal :=
  Mvue.code (if ρ % 2 = 0 then zLo f g (ρ / 2) else zHi f g (ρ / 2)) (gap f (ρ / 2)) (Mvue.inv (amax f (ρ / 64)))
def oct (w : ℕ) : BitVec 32 :=
  IntOp.ori (IntOp.ori (IntOp.ori (IntOp.ori (IntOp.ori (IntOp.ori (IntOp.ori (word f g (8 * w)) (word f g (8 * w + 1)))
    (word f g (8 * w + 2))) (word f g (8 * w + 3))) (word f g (8 * w + 4))) (word f g (8 * w + 5))) (word f g (8 * w + 6))) (word f g (8 * w + 7))
def places (ρ : ℕ) : BitVec 8 := (oct f g (ρ / 4)).extractLsb' (8 * (ρ % 4)) 8

/-! ## The reference -/

def rlo (q : ℕ) : BitVec 32 := Ref.lo (f (4 * q)) (f (4 * q + 1)) (f (4 * q + 2)) (f (4 * q + 3)) (g q)
def rhi (q : ℕ) : BitVec 32 := Ref.hi (f (4 * q)) (f (4 * q + 1)) (f (4 * q + 2)) (f (4 * q + 3)) (g q)
def keptLo (q : ℕ) : EReal := Ref.kept (f (4 * q)) (f (4 * q + 1)) (f (4 * q + 2)) (f (4 * q + 3)) (rlo f g q)
def keptHi (q : ℕ) : EReal := Ref.kept (f (4 * q)) (f (4 * q + 1)) (f (4 * q + 2)) (f (4 * q + 3)) (rhi f g q)
/-- Two positions as four bits of a byte. -/
def rnib (q : ℕ) : BitVec 8 := BitVec.setWidth 8 (IntOp.ori (rlo f g q) (IntOp.shli .vector (rhi f g q) 2#32))
def rplaces (ρ : ℕ) : BitVec 8 := IntOp.ori (rnib f g (2 * ρ)) (IntOp.shli .vector (rnib f g (2 * ρ + 1)) 4#8)

/-- A block's largest kept magnitude. -/
structure IsMax (p : ℕ) (A : EReal) : Prop where
  lo_le : ∀ j < 32, ab (keptLo f g (32 * p + j)) ≤ A
  hi_le : ∀ j < 32, ab (keptHi f g (32 * p + j)) ≤ A
  least : ∀ B : EReal, (∀ j < 32, ab (keptLo f g (32 * p + j)) ≤ B) → (∀ j < 32, ab (keptHi f g (32 * p + j)) ≤ B) → A ≤ B

end Cert.Mvue.Col
-- ==== Proof.Math.Consts.lean ====
/- The numbers the two programs write as bit patterns, and comparisons and choices over the extended reals. -/
module

public import Idealize.ShloMosaic.PureOps.Ideal
public import Idealize.ShloMosaic.Lib.IdealHost

@[expose] public section

noncomputable section

namespace Cert.Mvue

open Idealize.ShloMosaic

theorem k_zero : Ideal.ofBits .f32 0x00000000#32 = ((0 : ℝ) : EReal) := by simp [Ideal.ofBits, Ideal.ieee]
theorem k_zero_bf : Ideal.ofBits .bf16 0x0000#16 = ((0 : ℝ) : EReal) := by simp [Ideal.ofBits, Ideal.ieee]
theorem k_neg_half : Ideal.ofBits .f32 0xBF000000#32 = ((-(1 / 2) : ℝ) : EReal) := by
  simp [Ideal.ofBits, Ideal.ieee, -EReal.coe_mul, -EReal.coe_neg, -EReal.coe_pow]; norm_num
theorem k_half : Ideal.ofBits .f32 0x3F000000#32 = ((1 / 2 : ℝ) : EReal) := by
  simp [Ideal.ofBits, Ideal.ieee, -EReal.coe_mul, -EReal.coe_neg, -EReal.coe_pow]; norm_num
theorem k_two : Ideal.ofBits .f32 0x40000000#32 = ((2 : ℝ) : EReal) := by
  simp [Ideal.ofBits, Ideal.ieee, -EReal.coe_mul, -EReal.coe_neg, -EReal.coe_pow]; norm_num
theorem k_one : Ideal.ofBits .f32 0x3F800000#32 = ((1 : ℝ) : EReal) := by
  simp [Ideal.ofBits, Ideal.ieee, -EReal.coe_mul, -EReal.coe_neg, -EReal.coe_pow]; norm_num
theorem k_neg_one : Ideal.ofBits .f32 0xBF800000#32 = ((-1 : ℝ) : EReal) := by
  simp [Ideal.ofBits, Ideal.ieee, -EReal.coe_mul, -EReal.coe_neg, -EReal.coe_pow]; norm_num
theorem k_tiny : Ideal.ofBits .f32 0x00800000#32 = (((2 : ℝ) ^ (-126 : ℤ) : ℝ) : EReal) := by
  simp [Ideal.ofBits, Ideal.ieee, -EReal.coe_mul, -EReal.coe_neg, -EReal.coe_pow]; norm_num
theorem k_neg_unit : Ideal.ofBits .f32 0xB3800000#32 = ((-(1 / 2 ^ 24) : ℝ) : EReal) := by
  simp [Ideal.ofBits, Ideal.ieee, -EReal.coe_mul, -EReal.coe_neg, -EReal.coe_pow]; norm_num
theorem k_unit : Ideal.ofBits .f32 0x33800000#32 = ((1 / 2 ^ 24 : ℝ) : EReal) := by
  simp [Ideal.ofBits, Ideal.ieee, -EReal.coe_mul, -EReal.coe_neg, -EReal.coe_pow]; norm_num
/-- The inverse of the largest code, as rounded. -/
def cInv : ℝ := 9586981 / 2 ^ 39
theorem k_cInv : Ideal.ofBits .f32 0x37924925#32 = ((cInv : ℝ) : EReal) := by
  unfold cInv
  simp [Ideal.ofBits, Ideal.ieee, -EReal.coe_mul, -EReal.coe_neg, -EReal.coe_pow, -EReal.coe_div]; norm_num
theorem k_floor_bf : Ideal.ofBits .bf16 0xC760#16 = ((-57344 : ℝ) : EReal) := by
  simp [Ideal.ofBits, Ideal.ieee, -EReal.coe_mul, -EReal.coe_neg, -EReal.coe_pow]; norm_num
theorem k_floor : Ideal.ofBits .f32 0xC7600000#32 = ((-57344 : ℝ) : EReal) := by
  simp [Ideal.ofBits, Ideal.ieee, -EReal.coe_mul, -EReal.coe_neg, -EReal.coe_pow]; norm_num
theorem k_ceil : Ideal.ofBits .f32 0x47600000#32 = ((57344 : ℝ) : EReal) := by
  simp [Ideal.ofBits, Ideal.ieee, -EReal.coe_mul, -EReal.coe_neg, -EReal.coe_pow]; norm_num
theorem k_p127 : Ideal.ofBits .f32 0x7F000000#32 = (((2 : ℝ) ^ 127 : ℝ) : EReal) := by
  simp [Ideal.ofBits, Ideal.ieee, -EReal.coe_mul, -EReal.coe_neg, -EReal.coe_pow]; norm_num
theorem k_p64 : Ideal.ofBits .f32 0x5F800000#32 = (((2 : ℝ) ^ 64 : ℝ) : EReal) := by
  simp [Ideal.ofBits, Ideal.ieee, -EReal.coe_mul, -EReal.coe_neg, -EReal.coe_pow]; norm_num
theorem k_p32 : Ideal.ofBits .f32 0x4F800000#32 = (((2 : ℝ) ^ 32 : ℝ) : EReal) := by
  simp [Ideal.ofBits, Ideal.ieee, -EReal.coe_mul, -EReal.coe_neg, -EReal.coe_pow]; norm_num
theorem k_p16 : Ideal.ofBits .f32 0x47800000#32 = (((2 : ℝ) ^ 16 : ℝ) : EReal) := by
  simp [Ideal.ofBits, Ideal.ieee, -EReal.coe_mul, -EReal.coe_neg, -EReal.coe_pow]; norm_num
theorem k_p8 : Ideal.ofBits .f32 0x43800000#32 = (((2 : ℝ) ^ 8 : ℝ) : EReal) := by
  simp [Ideal.ofBits, Ideal.ieee, -EReal.coe_mul, -EReal.coe_neg, -EReal.coe_pow]; norm_num
theorem k_p4 : Ideal.ofBits .f32 0x41800000#32 = (((2 : ℝ) ^ 4 : ℝ) : EReal) := by
  simp [Ideal.ofBits, Ideal.ieee, -EReal.coe_mul, -EReal.coe_neg, -EReal.coe_pow]; norm_num
theorem k_p2 : Ideal.ofBits .f32 0x40800000#32 = (((2 : ℝ) ^ 2 : ℝ) : EReal) := by
  simp [Ideal.ofBits, Ideal.ieee, -EReal.coe_mul, -EReal.coe_neg, -EReal.coe_pow]; norm_num
theorem k_m64 : Ideal.ofBits .f32 0x1F800000#32 = ((1 / 2 ^ 64 : ℝ) : EReal) := by
  simp [Ideal.ofBits, Ideal.ieee, -EReal.coe_mul, -EReal.coe_neg, -EReal.coe_pow]; norm_num
theorem k_m32 : Ideal.ofBits .f32 0x2F800000#32 = ((1 / 2 ^ 32 : ℝ) : EReal) := by
  simp [Ideal.ofBits, Ideal.ieee, -EReal.coe_mul, -EReal.coe_neg, -EReal.coe_pow]; norm_num
theorem k_m16 : Ideal.ofBits .f32 0x37800000#32 = ((1 / 2 ^ 16 : ℝ) : EReal) := by
  simp [Ideal.ofBits, Ideal.ieee, -EReal.coe_mul, -EReal.coe_neg, -EReal.coe_pow]; norm_num
theorem k_m8 : Ideal.ofBits .f32 0x3B800000#32 = ((1 / 2 ^ 8 : ℝ) : EReal) := by
  simp [Ideal.ofBits, Ideal.ieee, -EReal.coe_mul, -EReal.coe_neg, -EReal.coe_pow]; norm_num
theorem k_m4 : Ideal.ofBits .f32 0x3D800000#32 = ((1 / 2 ^ 4 : ℝ) : EReal) := by
  simp [Ideal.ofBits, Ideal.ieee, -EReal.coe_mul, -EReal.coe_neg, -EReal.coe_pow]; norm_num
theorem k_m2 : Ideal.ofBits .f32 0x3E800000#32 = ((1 / 2 ^ 2 : ℝ) : EReal) := by
  simp [Ideal.ofBits, Ideal.ieee, -EReal.coe_mul, -EReal.coe_neg, -EReal.coe_pow]; norm_num

section
variable {α : Type} (x y : ℝ) (a b : α)

theorem sel_oeq : Scalar.select (Ideal.cmp .oeq (x : EReal) (y : EReal)) a b = if x = y then a else b := by
  by_cases h : x = y <;> simp [Scalar.select, Ideal.cmp, h]
theorem sel_olt : Scalar.select (Ideal.cmp .olt (x : EReal) (y : EReal)) a b = if x < y then a else b := by
  by_cases h : x < y <;> simp [Scalar.select, Ideal.cmp, h]
theorem sel_ogt : Scalar.select (Ideal.cmp .ogt (x : EReal) (y : EReal)) a b = if y < x then a else b := by
  by_cases h : y < x <;> simp [Scalar.select, Ideal.cmp, h]
theorem sel_ole : Scalar.select (Ideal.cmp .ole (x : EReal) (y : EReal)) a b = if x ≤ y then a else b := by
  by_cases h : x ≤ y <;> simp [Scalar.select, Ideal.cmp, h]
theorem sel_oge : Scalar.select (Ideal.cmp .oge (x : EReal) (y : EReal)) a b = if y ≤ x then a else b := by
  by_cases h : y ≤ x <;> simp [Scalar.select, Ideal.cmp, h]

end

end Cert.Mvue
-- ==== Proof.Math.Select.lean ====
/- Which two of a group's four magnitudes are kept: the running-sum thresholds the kernel compares with and the
   positions the reference computes agree, over the reals. -/
module

public import Idealize.ShloMosaic.PureOps.Ideal

@[expose] public section

namespace Cert.Mvue

open Idealize.ShloMosaic

/-- The position of the first magnitude that is the largest. -/
noncomputable def jmax (s0 s1 s2 m : ℝ) : BitVec 32 := if s0 = m then 0 else if s1 = m then 1 else if s2 = m then 2 else 3

/-- The lower kept position, from two thresholds' outcomes. -/
noncomputable def kLo (t s0 s1 : ℝ) : BitVec 32 := if s0 + s1 ≤ t then 2 else if s0 ≤ t then 1 else 0

/-- The upper kept position, from two thresholds' outcomes. -/
noncomputable def kHi (t s0 s1 s2 : ℝ) : BitVec 32 := if s0 + s1 + s2 ≤ t then 3 else if s0 + s1 ≤ t then 2 else 1

/-- The entry at a position. -/
def at4 {α : Type} (p : BitVec 32) (x0 x1 x2 x3 : α) : α := if p = 0 then x0 else if p = 1 then x1 else if p = 2 then x2 else x3

/-- The reference's other position beside the largest, by its inverted sum. -/
noncomputable def sel (jm : BitVec 32) (s0 s1 s2 r t : ℝ) : BitVec 32 :=
  if r = 0 then (if jm = 0 then 1 else 0)
  else if t < (if jm = 0 then s1 else s0) then (if jm = 0 then 1 else 0)
  else if t < (if jm = 0 then s1 else s0) + (if jm.sle 1 then s2 else s1) then (if jm.sle 1 then 2 else 1)
  else (if jm.sle 2 then 3 else 2)

/-- How many running sums a threshold has reached. -/
noncomputable def cnt (t s0 s1 s2 : ℝ) : BitVec 32 :=
  (if s0 ≤ t then 1 else 0) + (if s0 + s1 ≤ t then 1 else 0) + (if s0 + s1 + s2 ≤ t then 1 else 0)

section
variable {s0 s1 s2 s3 m r t : ℝ}

/-- The largest magnitude is at `jmax`, and the others are no larger. -/
theorem jmax_cases (hm : m = max (max s0 s1) (max s2 s3)) :
    (jmax s0 s1 s2 m = 0 ∧ s0 = m ∨ jmax s0 s1 s2 m = 1 ∧ s1 = m ∨ jmax s0 s1 s2 m = 2 ∧ s2 = m ∨ jmax s0 s1 s2 m = 3 ∧ s3 = m)
      ∧ s0 ≤ m ∧ s1 ≤ m ∧ s2 ≤ m ∧ s3 ≤ m := by
  have h0 : s0 ≤ m := hm ▸ le_max_of_le_left (le_max_left _ _)
  have h1 : s1 ≤ m := hm ▸ le_max_of_le_left (le_max_right _ _)
  have h2 : s2 ≤ m := hm ▸ le_max_of_le_right (le_max_left _ _)
  have h3 : s3 ≤ m := hm ▸ le_max_of_le_right (le_max_right _ _)
  refine ⟨?_, h0, h1, h2, h3⟩
  unfold jmax
  by_cases e0 : s0 = m
  · left; simp [e0]
  by_cases e1 : s1 = m
  · right; left; simp [e0, e1]
  by_cases e2 : s2 = m
  · right; right; left; simp [e0, e1, e2]
  · right; right; right
    refine ⟨by simp [e0, e1, e2], ?_⟩
    rcases max_choice (max s0 s1) (max s2 s3) with h | h <;> rw [h] at hm
    · rcases max_choice s0 s1 with h | h <;> rw [h] at hm
      · exact absurd hm.symm e0
      · exact absurd hm.symm e1
    · rcases max_choice s2 s3 with h | h <;> rw [h] at hm
      · exact absurd hm.symm e2
      · exact hm.symm

/-- Dominated group, something beside the largest: both positions agree, one is the largest's, and the other holds a
    positive magnitude at most `r`. -/
theorem dominated_pos (jm : BitVec 32) (h0 : 0 ≤ s0) (h1 : 0 ≤ s1) (h2 : 0 ≤ s2) (h3 : 0 ≤ s3)
    (hj : jm = 0 ∧ s0 = m ∨ jm = 1 ∧ s1 = m ∨ jm = 2 ∧ s2 = m ∨ jm = 3 ∧ s3 = m)
    (hr : s0 + s1 + s2 + s3 = m + r) (hrm : r ≤ m) (hrp : 0 < r) (ht0 : 0 ≤ t) (htr : t < r) :
    IntOp.minsi jm (sel jm s0 s1 s2 r t) = kLo t s0 s1 ∧ IntOp.maxsi jm (sel jm s0 s1 s2 r t) = kHi (t + m) s0 s1 s2
      ∧ (kLo t s0 s1 ≠ jm → 0 < at4 (kLo t s0 s1) s0 s1 s2 s3 ∧ at4 (kLo t s0 s1) s0 s1 s2 s3 ≤ r)
      ∧ (kHi (t + m) s0 s1 s2 ≠ jm → 0 < at4 (kHi (t + m) s0 s1 s2) s0 s1 s2 s3 ∧ at4 (kHi (t + m) s0 s1 s2) s0 s1 s2 s3 ≤ r)
      ∧ (kLo t s0 s1 = jm ∨ kHi (t + m) s0 s1 s2 = jm) := by
  have hr0 : r ≠ 0 := hrp.ne'
  rcases hj with ⟨rfl, hj⟩ | ⟨rfl, hj⟩ | ⟨rfl, hj⟩ | ⟨rfl, hj⟩
  · have e1 : kLo t s0 s1 = 0 := by
      unfold kLo; rw [if_neg (by linarith), if_neg (by linarith)]
    rw [e1]
    by_cases c1 : t < s1
    · have e2 : kHi (t + m) s0 s1 s2 = 1 := by unfold kHi; rw [if_neg (by linarith), if_neg (by linarith)]
      rw [e2]; simp [sel, hr0, c1, at4]; exact ⟨by decide, by decide, by linarith, by linarith⟩
    by_cases c2 : t < s1 + s2
    · have e2 : kHi (t + m) s0 s1 s2 = 2 := by unfold kHi; rw [if_neg (by linarith), if_pos (by linarith)]
      rw [e2]; simp [sel, hr0, c1, c2, at4]; exact ⟨by decide, by decide, by linarith, by linarith⟩
    · have e2 : kHi (t + m) s0 s1 s2 = 3 := by unfold kHi; rw [if_pos (by linarith)]
      rw [e2]; simp [sel, hr0, c1, c2, at4]; exact ⟨by decide, by decide, by linarith, by linarith⟩
  · by_cases c0 : t < s0
    · have e1 : kLo t s0 s1 = 0 := by unfold kLo; rw [if_neg (by linarith), if_neg (by linarith)]
      have e2 : kHi (t + m) s0 s1 s2 = 1 := by unfold kHi; rw [if_neg (by linarith), if_neg (by linarith)]
      rw [e1, e2]; simp [sel, hr0, c0, at4]; exact ⟨by decide, by decide, by linarith, by linarith⟩
    have e1 : kLo t s0 s1 = 1 := by unfold kLo; rw [if_neg (by linarith), if_pos (by linarith)]
    by_cases c2 : t < s0 + s2
    · have e2 : kHi (t + m) s0 s1 s2 = 2 := by unfold kHi; rw [if_neg (by linarith), if_pos (by linarith)]
      rw [e1, e2]; simp [sel, hr0, c0, c2, at4]; exact ⟨by decide, by decide, by linarith, by linarith⟩
    · have e2 : kHi (t + m) s0 s1 s2 = 3 := by unfold kHi; rw [if_pos (by linarith)]
      rw [e1, e2]; simp [sel, hr0, c0, c2, at4]; exact ⟨by decide, by decide, by linarith, by linarith⟩
  · by_cases c0 : t < s0
    · have e1 : kLo t s0 s1 = 0 := by unfold kLo; rw [if_neg (by linarith), if_neg (by linarith)]
      have e2 : kHi (t + m) s0 s1 s2 = 2 := by unfold kHi; rw [if_neg (by linarith), if_pos (by linarith)]
      rw [e1, e2]; simp [sel, hr0, c0, at4]; exact ⟨by decide, by decide, by linarith, by linarith⟩
    by_cases c1 : t < s0 + s1
    · have e1 : kLo t s0 s1 = 1 := by unfold kLo; rw [if_neg (by linarith), if_pos (by linarith)]
      have e2 : kHi (t + m) s0 s1 s2 = 2 := by unfold kHi; rw [if_neg (by linarith), if_pos (by linarith)]
      rw [e1, e2]; simp [sel, hr0, c0, c1, at4]; exact ⟨by decide, by decide, by linarith, by linarith⟩
    · have e1 : kLo t s0 s1 = 2 := by unfold kLo; rw [if_pos (by linarith)]
      have e2 : kHi (t + m) s0 s1 s2 = 3 := by unfold kHi; rw [if_pos (by linarith)]
      rw [e1, e2]; simp [sel, hr0, c0, c1, at4]; exact ⟨by decide, by decide, by linarith, by linarith⟩
  · have e2 : kHi (t + m) s0 s1 s2 = 3 := by unfold kHi; rw [if_pos (by linarith)]
    by_cases c0 : t < s0
    · have e1 : kLo t s0 s1 = 0 := by unfold kLo; rw [if_neg (by linarith), if_neg (by linarith)]
      rw [e1, e2]; simp [sel, hr0, c0, at4]; exact ⟨by decide, by decide, by linarith, by linarith⟩
    by_cases c1 : t < s0 + s1
    · have e1 : kLo t s0 s1 = 1 := by unfold kLo; rw [if_neg (by linarith), if_pos (by linarith)]
      rw [e1, e2]; simp [sel, hr0, c0, c1, at4]; exact ⟨by decide, by decide, by linarith, by linarith⟩
    · have e1 : kLo t s0 s1 = 2 := by unfold kLo; rw [if_pos (by linarith)]
      rw [e1, e2]; simp [sel, hr0, c0, c1, at4]; exact ⟨by decide, by decide, by linarith, by linarith⟩

/-- Nothing beside the largest (`r = 0`), with the kernel's fallback thresholds: positions agree, one is the largest's,
    and the other holds zero. -/
theorem dominated_zero (jm : BitVec 32) {tiny : ℝ} (h0 : 0 ≤ s0) (h1 : 0 ≤ s1) (h2 : 0 ≤ s2) (h3 : 0 ≤ s3)
    (hj : jm = 0 ∧ s0 = m ∨ jm = 1 ∧ s1 = m ∨ jm = 2 ∧ s2 = m ∨ jm = 3 ∧ s3 = m)
    (h0m : m = 0 → jm = 0) (htiny : 0 < tiny) (hgap : m = 0 ∨ 2 * tiny ≤ m)
    (hr : s0 + s1 + s2 + s3 = m) (t : ℝ) :
    IntOp.minsi jm (sel jm s0 s1 s2 0 t) = kLo (-(m / 2) - tiny) s0 s1
      ∧ IntOp.maxsi jm (sel jm s0 s1 s2 0 t) = kHi (-(m / 2) - tiny + m) s0 s1 s2
      ∧ (kLo (-(m / 2) - tiny) s0 s1 ≠ jm → at4 (kLo (-(m / 2) - tiny) s0 s1) s0 s1 s2 s3 = 0)
      ∧ (kHi (-(m / 2) - tiny + m) s0 s1 s2 ≠ jm → at4 (kHi (-(m / 2) - tiny + m) s0 s1 s2) s0 s1 s2 s3 = 0)
      ∧ (kLo (-(m / 2) - tiny) s0 s1 = jm ∨ kHi (-(m / 2) - tiny + m) s0 s1 s2 = jm) := by
  have hm0 : 0 ≤ m := by linarith
  have e1 : kLo (-(m / 2) - tiny) s0 s1 = 0 := by unfold kLo; rw [if_neg (by linarith), if_neg (by linarith)]
  rw [e1]
  rcases hj with ⟨rfl, hj⟩ | ⟨rfl, hj⟩ | ⟨rfl, hj⟩ | ⟨rfl, hj⟩
  · have e2 : kHi (-(m / 2) - tiny + m) s0 s1 s2 = 1 := by unfold kHi; rw [if_neg (by linarith), if_neg (by linarith)]
    rw [e2]; simp [sel, at4]; exact ⟨by decide, by decide, by linarith⟩
  · have e2 : kHi (-(m / 2) - tiny + m) s0 s1 s2 = 1 := by unfold kHi; rw [if_neg (by linarith), if_neg (by linarith)]
    rw [e2]; simp [sel, at4]; exact ⟨by decide, by decide, by linarith⟩
  · have hm : m ≠ 0 := fun h => by have := h0m h; simp at this
    have hg := hgap.resolve_left hm
    have e2 : kHi (-(m / 2) - tiny + m) s0 s1 s2 = 2 := by unfold kHi; rw [if_neg (by linarith), if_pos (by linarith)]
    rw [e2]; simp [sel, at4]; exact ⟨by decide, by decide, by linarith⟩
  · have hm : m ≠ 0 := fun h => by have := h0m h; simp at this
    have hg := hgap.resolve_left hm
    have e2 : kHi (-(m / 2) - tiny + m) s0 s1 s2 = 3 := by unfold kHi; rw [if_pos (by linarith)]
    rw [e2]; simp [sel, at4]; exact ⟨by decide, by decide, by linarith⟩

/-- No magnitude reaches half the sum: the reference's two counts are the kernel's positions, and both kept magnitudes
    are positive and below the half. -/
theorem spread {h : ℝ} (h0 : 0 ≤ s0) (h1 : 0 ≤ s1) (h2 : 0 ≤ s2) (h3 : 0 ≤ s3)
    (l0 : s0 < h) (l1 : s1 < h) (l2 : s2 < h) (l3 : s3 < h)
    (hh : s0 + s1 + s2 + s3 = 2 * h) (ht0 : 0 ≤ t) (hth : t < h) :
    IntOp.minsi 2 (cnt t s0 s1 s2) = kLo t s0 s1
      ∧ IntOp.minsi 3 (IntOp.maxsi (cnt (t + h) s0 s1 s2) (kLo t s0 s1 + 1)) = kHi (t + h) s0 s1 s2
      ∧ (0 < at4 (kLo t s0 s1) s0 s1 s2 s3 ∧ at4 (kLo t s0 s1) s0 s1 s2 s3 ≤ h)
      ∧ (0 < at4 (kHi (t + h) s0 s1 s2) s0 s1 s2 s3 ∧ at4 (kHi (t + h) s0 s1 s2) s0 s1 s2 s3 ≤ h) := by
  have n3 : ¬ s0 + s1 + s2 ≤ t := by linarith
  have p0 : s0 ≤ t + h := by linarith
  by_cases a2 : s0 + s1 ≤ t
  · have a1 : s0 ≤ t := by linarith
    have b2 : s0 + s1 ≤ t + h := by linarith
    have b3 : s0 + s1 + s2 ≤ t + h := by linarith
    simp [cnt, kLo, kHi, at4, n3, p0, a2, a1, b2, b3]
    exact ⟨by decide, by decide, ⟨by linarith, by linarith⟩, by linarith, by linarith⟩
  by_cases a1 : s0 ≤ t
  · have b2 : s0 + s1 ≤ t + h := by linarith
    by_cases b3 : s0 + s1 + s2 ≤ t + h
    · simp [cnt, kLo, kHi, at4, n3, p0, a2, a1, b2, b3]
      exact ⟨by decide, by decide, ⟨by linarith, by linarith⟩, by linarith, by linarith⟩
    · simp [cnt, kLo, kHi, at4, n3, p0, a2, a1, b2, b3]
      exact ⟨by decide, by decide, ⟨by linarith, by linarith⟩, by linarith, by linarith⟩
  by_cases b3 : s0 + s1 + s2 ≤ t + h
  · have b2 : s0 + s1 ≤ t + h := by linarith
    simp [cnt, kLo, kHi, at4, n3, p0, a2, a1, b2, b3]
    exact ⟨by decide, by decide, ⟨by linarith, by linarith⟩, by linarith, by linarith⟩
  by_cases b2 : s0 + s1 ≤ t + h
  · simp [cnt, kLo, kHi, at4, n3, p0, a2, a1, b2, b3]
    exact ⟨by decide, by decide, ⟨by linarith, by linarith⟩, by linarith, by linarith⟩
  · simp [cnt, kLo, kHi, at4, n3, p0, a2, a1, b2, b3]
    exact ⟨by decide, by decide, ⟨by linarith, by linarith⟩, by linarith, by linarith⟩

end

end Cert.Mvue

end
-- ==== Proof.Math.Equal.lean ====
/- One group: the kernel and the reference keep the same places, and the reference's kept values are the kernel's
   numbers with their magnitudes raised to the gap. -/
module

public import proofs.«01_k».proof.Proof.Math.Consts
public import proofs.«01_k».proof.Proof.Math.Select
public import proofs.«01_k».proof.Proof.Math.Ref

@[expose] public section

noncomputable section

namespace Cert.Mvue

open Idealize.ShloMosaic

theorem coe_max (x y : ℝ) : max (x : EReal) (y : EReal) = ((max x y : ℝ) : EReal) := (EReal.coe_strictMono.monotone.map_max).symm
theorem coe_min (x y : ℝ) : min (x : EReal) (y : EReal) = ((min x y : ℝ) : EReal) := (EReal.coe_strictMono.monotone.map_min).symm
theorem coe_add (x y : ℝ) : (x : EReal) + (y : EReal) = ((x + y : ℝ) : EReal) := (EReal.coe_add x y).symm
theorem coe_sub (x y : ℝ) : (x : EReal) - (y : EReal) = ((x - y : ℝ) : EReal) := (EReal.coe_sub x y).symm
theorem coe_mul (x y : ℝ) : (x : EReal) * (y : EReal) = ((x * y : ℝ) : EReal) := (EReal.coe_mul x y).symm
theorem ab_coe (x : ℝ) : ab (x : EReal) = ((|x| : ℝ) : EReal) := by
  unfold ab
  rw [← EReal.coe_neg, coe_max]
  rfl

theorem sel_eq {α : Type} (x y : BitVec 32) (a b : α) : Scalar.select (IntOp.cmpi .eq x y) a b = if x = y then a else b := by
  by_cases h : x = y
  · simp [Scalar.select, IntOp.cmpi, h]
  · simp [Scalar.select, IntOp.cmpi, h, beq_eq_false_iff_ne.mpr h]
theorem sel_sle {α : Type} (x y : BitVec 32) (a b : α) : Scalar.select (IntOp.cmpi .sle x y) a b = if x.sle y then a else b := by
  by_cases h : x.sle y <;> simp [Scalar.select, IntOp.cmpi, h]
theorem bit_ole (x y : ℝ) : BitVec.setWidth 32 (Ideal.cmp .ole (x : EReal) (y : EReal)) = if x ≤ y then (1 : BitVec 32) else 0 := by
  by_cases h : x ≤ y <;> simp [Ideal.cmp, h]

/-- The sign with which a kept number is stored. -/
def sg (z : ℝ) : ℝ := if z < 0 then -1 else 1

theorem sg_mul_abs (z : ℝ) : sg z * |z| = z := by
  unfold sg
  by_cases h : z < 0
  · rw [if_pos h, abs_of_neg h]; ring
  · rw [if_neg h, abs_of_nonneg (not_lt.mp h)]; ring

theorem at4_map {α β : Type} (f : α → β) (p : BitVec 32) (x0 x1 x2 x3 : α) : at4 p (f x0) (f x1) (f x2) (f x3) = f (at4 p x0 x1 x2 x3) := by
  unfold at4; split_ifs <;> rfl

/-- The random word's fraction of one. -/
def unit (b : BitVec 32) : ℝ := ((b >>> 8#32).toNat : ℝ) / 2 ^ 24

theorem high_lt (b : BitVec 32) : (b >>> 8#32).toNat < 2 ^ 24 := by
  have := b.isLt
  rw [BitVec.ushiftRight_eq', BitVec.toNat_ushiftRight, Nat.shiftRight_eq_div_pow]
  show b.toNat / 2 ^ 8 < _
  omega

theorem unit_nonneg (b : BitVec 32) : 0 ≤ unit b := by unfold unit; positivity
theorem unit_lt (b : BitVec 32) : unit b < 1 := by
  unfold unit
  rw [div_lt_one (by positivity)]
  exact_mod_cast high_lt b

theorem toInt_high (b : BitVec 32) : (b >>> 8#32).toInt = ((b >>> 8#32).toNat : ℤ) := by
  have := high_lt b
  rw [BitVec.toInt_eq_toNat_of_lt (by omega)]

section
variable (a0 a1 a2 a3 : ℝ) (b : BitVec 32)

def rTot : ℝ := |a0| + |a1| + |a2| + |a3|
def rTop : ℝ := max (max |a0| |a1|) (max |a2| |a3|)
/-- The smaller of half the sum and the sum less the largest. -/
def rGap : ℝ := min (rTot a0 a1 a2 a3 / 2) (rTot a0 a1 a2 a3 - rTop a0 a1 a2 a3)
def rThr : ℝ := if rGap a0 a1 a2 a3 = 0 then -(rTot a0 a1 a2 a3 / 2) - (2 : ℝ) ^ (-126 : ℤ) else unit b * rGap a0 a1 a2 a3
def rStep : ℝ := rTot a0 a1 a2 a3 - rGap a0 a1 a2 a3
def rLo : BitVec 32 := kLo (rThr a0 a1 a2 a3 b) |a0| |a1|
def rHi : BitVec 32 := kHi (rThr a0 a1 a2 a3 b + rStep a0 a1 a2 a3) |a0| |a1| |a2|

theorem tot_coe : tot a0 a1 a2 a3 = ((rTot a0 a1 a2 a3 : ℝ) : EReal) := by
  unfold tot rTot; simp only [ab_coe, coe_add]
theorem top_coe : top a0 a1 a2 a3 = ((rTop a0 a1 a2 a3 : ℝ) : EReal) := by
  unfold top rTop; simp only [ab_coe, coe_max]
theorem halfNeg_coe : halfNeg a0 a1 a2 a3 = ((-(rTot a0 a1 a2 a3 / 2) : ℝ) : EReal) := by
  unfold halfNeg; rw [tot_coe, k_neg_half, coe_mul]; congr 1; ring
theorem gap_coe : gap a0 a1 a2 a3 = ((-rGap a0 a1 a2 a3 : ℝ) : EReal) := by
  unfold gap rGap; rw [halfNeg_coe, top_coe, tot_coe, coe_sub, coe_max]
  congr 1
  rw [← max_neg_neg]
  congr 1
  ring
theorem step_coe : step a0 a1 a2 a3 = ((rStep a0 a1 a2 a3 : ℝ) : EReal) := by
  unfold step rStep; rw [gap_coe, tot_coe, coe_add]; congr 1
theorem thr1_coe : thr1 a0 a1 a2 a3 b = ((rThr a0 a1 a2 a3 b : ℝ) : EReal) := by
  have e : IntOp.shrui .vector b 8#32 = b >>> 8#32 := rfl
  unfold thr1 rThr
  rw [gap_coe, k_zero, sel_oeq, halfNeg_coe, k_tiny, coe_sub, k_neg_unit, coe_mul, coe_mul, e, toInt_high]
  by_cases h : rGap a0 a1 a2 a3 = 0
  · rw [if_pos h, if_pos (by rw [h, neg_zero])]
  · rw [if_neg h, if_neg (by simpa using h)]
    congr 1
    unfold unit
    push_cast
    ring
theorem thr2_coe : thr2 a0 a1 a2 a3 b = ((rThr a0 a1 a2 a3 b + rStep a0 a1 a2 a3 : ℝ) : EReal) := by
  unfold thr2; rw [thr1_coe, step_coe, coe_add]

theorem pickLo_coe {α : Type} (p0 p1 p2 p3 : α) : pickLo a0 a1 a2 a3 b p0 p1 p2 = at4 (rLo a0 a1 a2 a3 b) p0 p1 p2 p3 := by
  unfold pickLo rLo kLo
  rw [thr1_coe, ab_coe, ab_coe, coe_add, sel_ole, sel_ole]
  split_ifs <;> simp [at4]
theorem pickHi_coe {α : Type} (p0 p1 p2 p3 : α) : pickHi a0 a1 a2 a3 b p1 p2 p3 = at4 (rHi a0 a1 a2 a3 b) p0 p1 p2 p3 := by
  unfold pickHi rHi kHi
  rw [thr2_coe, ab_coe, ab_coe, ab_coe, coe_add, coe_add, sel_ole, sel_ole]
  split_ifs <;> simp [at4]

/-! ## The reference's side -/

def rRest : ℝ := rTot a0 a1 a2 a3 - rTop a0 a1 a2 a3
def rFirst : BitVec 32 := jmax |a0| |a1| |a2| (rTop a0 a1 a2 a3)

theorem first_coe : Ref.first a0 a1 a2 a3 = rFirst a0 a1 a2 a3 := by
  unfold Ref.first rFirst jmax
  simp only [ab_coe, top_coe, sel_oeq]
  rfl
theorem frac_coe : Ref.frac b = ((unit b : ℝ) : EReal) := by
  have e : IntOp.shrui .vector b 8#32 = b >>> 8#32 := rfl
  unfold Ref.frac unit
  rw [k_unit, e, coe_mul]
  congr 1
  ring
theorem rest_coe : Ref.rest a0 a1 a2 a3 = ((rRest a0 a1 a2 a3 : ℝ) : EReal) := by
  unfold Ref.rest rRest; rw [tot_coe, top_coe, coe_sub]
theorem half_coe : Ref.half a0 a1 a2 a3 = ((rTot a0 a1 a2 a3 / 2 : ℝ) : EReal) := by
  unfold Ref.half; rw [tot_coe, k_half, coe_mul]; congr 1; ring
theorem beside0_coe : Ref.beside0 a0 a1 a2 a3 = ((if rFirst a0 a1 a2 a3 = 0 then |a1| else |a0| : ℝ) : EReal) := by
  unfold Ref.beside0; rw [first_coe, sel_eq, ab_coe, ab_coe]; split_ifs <;> simp_all
theorem beside1_coe : Ref.beside1 a0 a1 a2 a3 = ((if (rFirst a0 a1 a2 a3).sle 1 then |a2| else |a1| : ℝ) : EReal) := by
  unfold Ref.beside1; rw [first_coe, sel_sle, ab_coe, ab_coe]; split_ifs <;> simp_all
theorem other_coe : Ref.other a0 a1 a2 a3 b = sel (rFirst a0 a1 a2 a3) |a0| |a1| |a2| (rRest a0 a1 a2 a3) (unit b * rRest a0 a1 a2 a3) := by
  unfold Ref.other sel
  rw [beside0_coe, beside1_coe, rest_coe, frac_coe, first_coe, k_zero, coe_mul, coe_add]
  simp only [sel_oeq, sel_olt, sel_eq, sel_sle]
  rfl
theorem count_coe (t : ℝ) : Ref.count a0 a1 a2 (t : EReal) = cnt t |a0| |a1| |a2| := by
  unfold Ref.count cnt
  simp only [ab_coe, coe_add, bit_ole]
  rfl
theorem dom_coe {α : Type} (x y : α) : Scalar.select (Ref.dom a0 a1 a2 a3) x y = if rTot a0 a1 a2 a3 ≤ 2 * rTop a0 a1 a2 a3 then x else y := by
  unfold Ref.dom
  rw [top_coe, tot_coe, k_two, coe_mul, sel_oge]
theorem pick_coe (p : BitVec 32) : Ref.pick a0 a1 a2 a3 p = ((at4 p a0 a1 a2 a3 : ℝ) : EReal) := by
  unfold Ref.pick
  rw [sel_eq, sel_eq, sel_eq]
  exact at4_map (fun a : ℝ => (a : EReal)) p a0 a1 a2 a3
theorem sgn_coe (a : ℝ) : Ref.sgn (a : EReal) = ((if a = 0 then 0 else sg a : ℝ) : EReal) := by
  unfold Ref.sgn sg
  rw [ab_coe, k_zero, sel_ogt, sel_olt, k_neg_one, k_one]
  by_cases h : a = 0
  · simp [h]
  · rw [if_pos (abs_pos.mpr h), if_neg h]
    split_ifs <;> rfl

def rKept (p : BitVec 32) : ℝ :=
  if rTot a0 a1 a2 a3 ≤ 2 * rTop a0 a1 a2 a3 then
    (if p = rFirst a0 a1 a2 a3 then at4 p a0 a1 a2 a3
      else if rRest a0 a1 a2 a3 = 0 then 0 else (if at4 p a0 a1 a2 a3 = 0 then 0 else sg (at4 p a0 a1 a2 a3)) * rRest a0 a1 a2 a3)
  else (if at4 p a0 a1 a2 a3 = 0 then 0 else sg (at4 p a0 a1 a2 a3)) * (rTot a0 a1 a2 a3 / 2)

theorem kept_coe (p : BitVec 32) : Ref.kept a0 a1 a2 a3 p = ((rKept a0 a1 a2 a3 p : ℝ) : EReal) := by
  unfold Ref.kept rKept
  rw [dom_coe, sel_eq, first_coe, pick_coe, rest_coe, k_zero, sel_oeq, sgn_coe, half_coe, coe_mul, coe_mul]
  split_ifs <;> rfl

/-- The magnitude of a number the kernel keeps, raised to the gap. -/
def rMag (p : BitVec 32) : ℝ := max |at4 p a0 a1 a2 a3| (rGap a0 a1 a2 a3)

/-- A number is zero or not tiny. -/
def Fair (a : ℝ) : Prop := a = 0 ∨ (2 : ℝ) ^ (-111 : ℤ) ≤ |a|

theorem group_eq (f0 : Fair a0) (f1 : Fair a1) (f2 : Fair a2) (f3 : Fair a3) :
    Ref.lo a0 a1 a2 a3 b = rLo a0 a1 a2 a3 b ∧ Ref.hi a0 a1 a2 a3 b = rHi a0 a1 a2 a3 b
      ∧ rKept a0 a1 a2 a3 (rLo a0 a1 a2 a3 b) = sg (at4 (rLo a0 a1 a2 a3 b) a0 a1 a2 a3) * rMag a0 a1 a2 a3 (rLo a0 a1 a2 a3 b)
      ∧ rKept a0 a1 a2 a3 (rHi a0 a1 a2 a3 b) = sg (at4 (rHi a0 a1 a2 a3 b) a0 a1 a2 a3) * rMag a0 a1 a2 a3 (rHi a0 a1 a2 a3 b)
      ∧ rStep a0 a1 a2 a3 = max (rMag a0 a1 a2 a3 (rLo a0 a1 a2 a3 b)) (rMag a0 a1 a2 a3 (rHi a0 a1 a2 a3 b)) ∧ 0 ≤ rGap a0 a1 a2 a3 := by
  have n0 := abs_nonneg a0; have n1 := abs_nonneg a1; have n2 := abs_nonneg a2; have n3 := abs_nonneg a3
  obtain ⟨hj, m0, m1, m2, m3⟩ := jmax_cases (s0 := |a0|) (s1 := |a1|) (s2 := |a2|) (s3 := |a3|) (m := rTop a0 a1 a2 a3) rfl
  have hjm : at4 (rFirst a0 a1 a2 a3) |a0| |a1| |a2| |a3| = rTop a0 a1 a2 a3 := by
    unfold rFirst
    rcases hj with ⟨h, e⟩ | ⟨h, e⟩ | ⟨h, e⟩ | ⟨h, e⟩ <;> rw [h, ← e] <;> simp [at4]
  have hle : ∀ p, |at4 p a0 a1 a2 a3| ≤ rTop a0 a1 a2 a3 := by
    intro p; unfold at4; split_ifs <;> assumption
  have hsum : |a0| + |a1| + |a2| + |a3| = rTot a0 a1 a2 a3 := rfl
  have hfair : rTop a0 a1 a2 a3 = 0 ∨ (2 : ℝ) ^ (-111 : ℤ) ≤ rTop a0 a1 a2 a3 := by
    have : ∀ a : ℝ, Fair a → |a| = rTop a0 a1 a2 a3 → rTop a0 a1 a2 a3 = 0 ∨ (2 : ℝ) ^ (-111 : ℤ) ≤ rTop a0 a1 a2 a3 := by
      intro a ha e
      rcases ha with h | h
      · left; rw [← e, h, abs_zero]
      · right; rw [← e]; exact h
    rcases hj with ⟨_, e⟩ | ⟨_, e⟩ | ⟨_, e⟩ | ⟨_, e⟩
    exacts [this a0 f0 e, this a1 f1 e, this a2 f2 e, this a3 f3 e]
  have hu0 := unit_nonneg b
  have hu1 := unit_lt b
  have hr0 : 0 ≤ rRest a0 a1 a2 a3 := by
    unfold rRest
    rcases hj with ⟨_, e⟩ | ⟨_, e⟩ | ⟨_, e⟩ | ⟨_, e⟩ <;> linarith
  have hlo : Ref.lo a0 a1 a2 a3 b = if rTot a0 a1 a2 a3 ≤ 2 * rTop a0 a1 a2 a3 then
      IntOp.minsi (rFirst a0 a1 a2 a3) (sel (rFirst a0 a1 a2 a3) |a0| |a1| |a2| (rRest a0 a1 a2 a3) (unit b * rRest a0 a1 a2 a3))
      else IntOp.minsi 2 (cnt (unit b * (rTot a0 a1 a2 a3 / 2)) |a0| |a1| |a2|) := by
    unfold Ref.lo Ref.lowCount
    rw [dom_coe, first_coe, other_coe, frac_coe, half_coe, coe_mul, count_coe]
    rfl
  have hhi : Ref.hi a0 a1 a2 a3 b = if rTot a0 a1 a2 a3 ≤ 2 * rTop a0 a1 a2 a3 then
      IntOp.maxsi (rFirst a0 a1 a2 a3) (sel (rFirst a0 a1 a2 a3) |a0| |a1| |a2| (rRest a0 a1 a2 a3) (unit b * rRest a0 a1 a2 a3))
      else IntOp.minsi 3 (IntOp.maxsi (cnt (unit b * (rTot a0 a1 a2 a3 / 2) + rTot a0 a1 a2 a3 / 2) |a0| |a1| |a2|)
        (IntOp.minsi 2 (cnt (unit b * (rTot a0 a1 a2 a3 / 2)) |a0| |a1| |a2|) + 1)) := by
    unfold Ref.hi Ref.lowCount Ref.highCount
    rw [dom_coe, first_coe, other_coe, frac_coe, half_coe, coe_mul, coe_add, count_coe, count_coe]
    rfl
  rw [hlo, hhi]
  have hrest : rRest a0 a1 a2 a3 = rTot a0 a1 a2 a3 - rTop a0 a1 a2 a3 := rfl
  have hgap : rGap a0 a1 a2 a3 = min (rTot a0 a1 a2 a3 / 2) (rRest a0 a1 a2 a3) := rfl
  have hstep : rStep a0 a1 a2 a3 = rTot a0 a1 a2 a3 - rGap a0 a1 a2 a3 := rfl
  have hjF : rFirst a0 a1 a2 a3 = 0 ∧ |a0| = rTop a0 a1 a2 a3 ∨ rFirst a0 a1 a2 a3 = 1 ∧ |a1| = rTop a0 a1 a2 a3
      ∨ rFirst a0 a1 a2 a3 = 2 ∧ |a2| = rTop a0 a1 a2 a3 ∨ rFirst a0 a1 a2 a3 = 3 ∧ |a3| = rTop a0 a1 a2 a3 := hj
  have h0m : rTop a0 a1 a2 a3 = 0 → rFirst a0 a1 a2 a3 = 0 := by
    intro h
    have e : |a0| = rTop a0 a1 a2 a3 := by linarith
    unfold rFirst jmax
    rw [if_pos e]
  unfold rKept rMag
  by_cases hd : rTot a0 a1 a2 a3 ≤ 2 * rTop a0 a1 a2 a3
  · rw [if_pos hd, if_pos hd, if_pos hd, if_pos hd]
    have eg : rGap a0 a1 a2 a3 = rRest a0 a1 a2 a3 := by rw [hgap]; exact min_eq_right (by linarith)
    rw [eg] at hstep ⊢
    have es : rStep a0 a1 a2 a3 = rTop a0 a1 a2 a3 := by linarith
    have hrm : rRest a0 a1 a2 a3 ≤ rTop a0 a1 a2 a3 := by linarith
    have hMax : ∀ p q : BitVec 32, (p = rFirst a0 a1 a2 a3 ∨ q = rFirst a0 a1 a2 a3) →
        rStep a0 a1 a2 a3 = max (max |at4 p a0 a1 a2 a3| (rRest a0 a1 a2 a3)) (max |at4 q a0 a1 a2 a3| (rRest a0 a1 a2 a3)) := by
      intro p q h
      rw [es]
      apply le_antisymm
      · rw [← hjm, at4_map (fun a : ℝ => |a|)]
        rcases h with rfl | rfl
        · exact le_max_of_le_left (le_max_left _ _)
        · exact le_max_of_le_right (le_max_left _ _)
      · exact max_le (max_le (hle p) hrm) (max_le (hle q) hrm)
    have hself : ∀ p, p = rFirst a0 a1 a2 a3 → at4 p a0 a1 a2 a3 = sg (at4 p a0 a1 a2 a3) * max |at4 p a0 a1 a2 a3| (rRest a0 a1 a2 a3) := by
      rintro p rfl
      have e : |at4 (rFirst a0 a1 a2 a3) a0 a1 a2 a3| = rTop a0 a1 a2 a3 := by rw [← at4_map (fun a : ℝ => |a|)]; exact hjm
      rw [max_eq_left (by rw [e]; exact hrm), sg_mul_abs]
    by_cases hr : rRest a0 a1 a2 a3 = 0
    · have et : rTot a0 a1 a2 a3 = rTop a0 a1 a2 a3 := by linarith
      have eT : rThr a0 a1 a2 a3 b = -(rTop a0 a1 a2 a3 / 2) - (2 : ℝ) ^ (-126 : ℤ) := by
        unfold rThr; rw [eg, if_pos hr, et]
      have eL : rLo a0 a1 a2 a3 b = kLo (-(rTop a0 a1 a2 a3 / 2) - (2 : ℝ) ^ (-126 : ℤ)) |a0| |a1| := by unfold rLo; rw [eT]
      have eH : rHi a0 a1 a2 a3 b = kHi (-(rTop a0 a1 a2 a3 / 2) - (2 : ℝ) ^ (-126 : ℤ) + rTop a0 a1 a2 a3) |a0| |a1| |a2| := by
        unfold rHi; rw [eT, es]
      obtain ⟨d1, d2, d3, d4, d5⟩ := dominated_zero (rFirst a0 a1 a2 a3) (tiny := (2 : ℝ) ^ (-126 : ℤ)) n0 n1 n2 n3 hjF h0m (by positivity)
        (hfair.imp id fun h => le_trans (by norm_num) h) (hsum.trans et) (unit b * rRest a0 a1 a2 a3)
      rw [← eL] at d1 d3 d5
      rw [← eH] at d2 d4 d5
      have hk : ∀ p, (p ≠ rFirst a0 a1 a2 a3 → at4 p |a0| |a1| |a2| |a3| = 0) →
          (if p = rFirst a0 a1 a2 a3 then at4 p a0 a1 a2 a3 else if rRest a0 a1 a2 a3 = 0 then 0
            else (if at4 p a0 a1 a2 a3 = 0 then 0 else sg (at4 p a0 a1 a2 a3)) * rRest a0 a1 a2 a3)
          = sg (at4 p a0 a1 a2 a3) * max |at4 p a0 a1 a2 a3| (rRest a0 a1 a2 a3) := by
        intro p hp
        by_cases e : p = rFirst a0 a1 a2 a3
        · rw [if_pos e]; exact hself p e
        · rw [if_neg e, if_pos hr, hr]
          have := hp e
          rw [at4_map (fun a : ℝ => |a|)] at this
          rw [this, max_self, mul_zero]
      rw [show rRest a0 a1 a2 a3 = 0 from hr] at d1 d2
      refine ⟨?_, ?_, hk _ d3, hk _ d4, hMax _ _ d5, hr0⟩
      · rw [← d1, hr]
      · rw [← d2, hr]
    · have hrp : 0 < rRest a0 a1 a2 a3 := lt_of_le_of_ne hr0 (Ne.symm hr)
      have eT : rThr a0 a1 a2 a3 b = unit b * rRest a0 a1 a2 a3 := by
        unfold rThr; rw [eg, if_neg hr]
      have eL : rLo a0 a1 a2 a3 b = kLo (unit b * rRest a0 a1 a2 a3) |a0| |a1| := by unfold rLo; rw [eT]
      have eH : rHi a0 a1 a2 a3 b = kHi (unit b * rRest a0 a1 a2 a3 + rTop a0 a1 a2 a3) |a0| |a1| |a2| := by
        unfold rHi; rw [eT, es]
      obtain ⟨d1, d2, d3, d4, d5⟩ := dominated_pos (r := rRest a0 a1 a2 a3) (t := unit b * rRest a0 a1 a2 a3) (rFirst a0 a1 a2 a3) n0 n1 n2 n3 hjF
        (by rw [hsum, hrest]; ring) hrm hrp (by positivity) (by nlinarith)
      rw [← eL] at d1 d3 d5
      rw [← eH] at d2 d4 d5
      have hk : ∀ p, (p ≠ rFirst a0 a1 a2 a3 → 0 < at4 p |a0| |a1| |a2| |a3| ∧ at4 p |a0| |a1| |a2| |a3| ≤ rRest a0 a1 a2 a3) →
          (if p = rFirst a0 a1 a2 a3 then at4 p a0 a1 a2 a3 else if rRest a0 a1 a2 a3 = 0 then 0
            else (if at4 p a0 a1 a2 a3 = 0 then 0 else sg (at4 p a0 a1 a2 a3)) * rRest a0 a1 a2 a3)
          = sg (at4 p a0 a1 a2 a3) * max |at4 p a0 a1 a2 a3| (rRest a0 a1 a2 a3) := by
        intro p hp
        by_cases e : p = rFirst a0 a1 a2 a3
        · rw [if_pos e]; exact hself p e
        · rw [if_neg e, if_neg hr]
          obtain ⟨q1, q2⟩ := hp e
          rw [at4_map (fun a : ℝ => |a|)] at q1 q2
          rw [max_eq_right q2, if_neg (abs_pos.mp q1)]
      exact ⟨d1, d2, hk _ d3, hk _ d4, hMax _ _ d5, hr0⟩
  · rw [if_neg hd, if_neg hd, if_neg hd, if_neg hd]
    have hd' := not_le.mp hd
    have eg : rGap a0 a1 a2 a3 = rTot a0 a1 a2 a3 / 2 := by rw [hgap]; exact min_eq_left (by linarith)
    have hpos : 0 < rTot a0 a1 a2 a3 / 2 := by linarith
    have es : rStep a0 a1 a2 a3 = rTot a0 a1 a2 a3 / 2 := by rw [hstep, eg]; ring
    have eT : rThr a0 a1 a2 a3 b = unit b * (rTot a0 a1 a2 a3 / 2) := by
      unfold rThr; rw [eg, if_neg hpos.ne']
    have eL : rLo a0 a1 a2 a3 b = kLo (unit b * (rTot a0 a1 a2 a3 / 2)) |a0| |a1| := by unfold rLo; rw [eT]
    have eH : rHi a0 a1 a2 a3 b = kHi (unit b * (rTot a0 a1 a2 a3 / 2) + rTot a0 a1 a2 a3 / 2) |a0| |a1| |a2| := by
      unfold rHi; rw [eT, es]
    obtain ⟨d1, d2, d3, d4⟩ := spread (h := rTot a0 a1 a2 a3 / 2) (t := unit b * (rTot a0 a1 a2 a3 / 2)) n0 n1 n2 n3 (by linarith) (by linarith) (by linarith) (by linarith)
      (by rw [hsum]; ring) (by positivity) (by nlinarith)
    rw [← d1] at d2
    rw [← eL] at d1 d3
    rw [← eH] at d2 d4
    have hk : ∀ p, (0 < at4 p |a0| |a1| |a2| |a3| ∧ at4 p |a0| |a1| |a2| |a3| ≤ rTot a0 a1 a2 a3 / 2) →
        max |at4 p a0 a1 a2 a3| (rTot a0 a1 a2 a3 / 2) = rTot a0 a1 a2 a3 / 2
        ∧ (if at4 p a0 a1 a2 a3 = 0 then 0 else sg (at4 p a0 a1 a2 a3)) = sg (at4 p a0 a1 a2 a3) := by
      intro p hp
      obtain ⟨q1, q2⟩ := hp
      rw [at4_map (fun a : ℝ => |a|)] at q1 q2
      exact ⟨max_eq_right q2, if_neg (abs_pos.mp q1)⟩
    obtain ⟨l1, l2⟩ := hk _ d3
    obtain ⟨u1, u2⟩ := hk _ d4
    rw [eg, l1, u1, l2, u2, es, max_self]
    exact ⟨d1, d2, rfl, rfl, rfl, hpos.le⟩

end

end Cert.Mvue
-- ==== Proof.Math.Exponent.lean ====
/- The exponent the kernel counts by a ladder of comparisons is the one below which the value lies, and the scale it
   writes as bits is the power of two with that exponent. -/
module

public import proofs.«01_k».proof.Proof.Math.Consts
public import proofs.«01_k».proof.Proof.Math.Group

@[expose] public section

noncomputable section

namespace Cert.Mvue

open Idealize.ShloMosaic

theorem fields (n : Fin 255) :
    (BitVec.ofNat 32 n.val <<< 23#32).extractLsb' 31 1 = 0#1 ∧ ((BitVec.ofNat 32 n.val <<< 23#32).extractLsb' 23 8).toNat = n.val
      ∧ ((BitVec.ofNat 32 n.val <<< 23#32).extractLsb' 0 23).toNat = 0 := by
  revert n; decide +kernel

/-- An exponent field alone denotes a power of two. -/
theorem pow_bits (n : ℕ) (h1 : 1 ≤ n) (h2 : n < 255) :
    Ideal.ofBits .f32 (IntOp.shli .vector (BitVec.ofNat 32 n) 23#32) = (((2 : ℝ) ^ ((n : ℤ) - 127) : ℝ) : EReal) := by
  obtain ⟨f0, f1, f2⟩ := fields ⟨n, h2⟩
  have e : IntOp.shli .vector (BitVec.ofNat 32 n) 23#32 = BitVec.ofNat 32 n <<< 23#32 := rfl
  rw [e]
  show Ideal.ieee 8 23 _ = _
  unfold Ideal.ieee
  simp only [f0, f1, f2, Nat.reduceAdd]
  rw [if_neg (by omega), if_neg (by omega)]
  rw [EReal.coe_eq_coe_iff]
  have : ((0#1 : BitVec 1) == 1#1) = false := rfl
  rw [this]
  have e2 : ((n : ℤ) - 127) = ((n : ℤ) - (2 ^ (8 - 1) - 1) - (23 : ℕ)) + 23 := by norm_num
  rw [e2, zpow_add₀ (by norm_num : (2 : ℝ) ≠ 0)]
  push_cast
  norm_num
  ring

/-- A rung's state: the value so far, between one and a bound, and the count so far. -/
def Rung (K : ℕ) (v : ℝ) (Y : EReal) (e : BitVec 32) : Prop :=
  ∃ (y : ℝ) (E : ℤ), Y = (y : EReal) ∧ e = BitVec.ofInt 32 E ∧ 1 ≤ y ∧ y < 2 ^ K ∧ v = y * (2 : ℝ) ^ (E - 1) ∧ -126 ≤ E

theorem rung_step (k : ℕ) (v : ℝ) (Y : EReal) (e : BitVec 32) (big small n : BitVec 32)
    (hb : Ideal.ofBits .f32 big = (((2 : ℝ) ^ k : ℝ) : EReal)) (hs : Ideal.ofBits .f32 small = ((1 / 2 ^ k : ℝ) : EReal))
    (hn : n = BitVec.ofInt 32 (k : ℤ)) (h : Rung (k + k) v Y e) : Rung k v (rungV Y big small) (rungE Y e big n) := by
  obtain ⟨y, E, rfl, rfl, h1, h2, h3, h4⟩ := h
  unfold rungV rungE
  rw [hb, hs, sel_oge, sel_oge, hn]
  have hk : (0 : ℝ) < 2 ^ k := by positivity
  by_cases c : (2 : ℝ) ^ k ≤ y
  · rw [if_pos c, if_pos c]
    refine ⟨y * (1 / 2 ^ k), E + k, (EReal.coe_mul _ _).symm, ?_, ?_, ?_, ?_, by omega⟩
    · show BitVec.ofInt 32 E + BitVec.ofInt 32 k = _
      exact (BitVec.ofInt_add E k).symm
    · rw [mul_one_div, le_div_iff₀ hk]; linarith
    · rw [mul_one_div, div_lt_iff₀ hk, ← pow_add]; exact h2
    · rw [h3, show E + (k : ℤ) - 1 = (E - 1) + k by ring, zpow_add₀ (by norm_num : (2 : ℝ) ≠ 0), zpow_natCast]
      field_simp
  · rw [if_neg c, if_neg c]
    exact ⟨y, E, rfl, rfl, h1, not_le.mp c, h3, h4⟩

theorem rung_last (v : ℝ) (Y : EReal) (e : BitVec 32) (h : Rung 2 v Y e) :
    ∃ E : ℤ, rungE Y e 0x40000000#32 1#32 = BitVec.ofInt 32 E ∧ -126 ≤ E ∧ (2 : ℝ) ^ (E - 1) ≤ v ∧ v < 2 ^ E := by
  obtain ⟨y, E, rfl, rfl, h1, h2, h3, h4⟩ := h
  unfold rungE
  rw [k_two, sel_oge]
  have hp : (0 : ℝ) < 2 ^ (E - 1) := by positivity
  have e1 : (2 : ℝ) ^ E = 2 * 2 ^ (E - 1) := by
    rw [← zpow_one_add₀ (by norm_num : (2 : ℝ) ≠ 0)]; congr 1; ring
  have e2 : (2 : ℝ) ^ (E + 1) = 4 * 2 ^ (E - 1) := by
    rw [zpow_add₀ (by norm_num : (2 : ℝ) ≠ 0), e1]; norm_num; ring
  by_cases c : (2 : ℝ) ≤ y
  · rw [if_pos c]
    refine ⟨E + 1, ?_, by omega, ?_, ?_⟩
    · show BitVec.ofInt 32 E + BitVec.ofInt 32 1 = _
      exact (BitVec.ofInt_add E 1).symm
    · rw [show E + 1 - 1 = E by ring, e1, h3]; exact mul_le_mul_of_nonneg_right c hp.le
    · rw [e2, h3]; exact mul_lt_mul_of_pos_right (by linarith) hp
  · rw [if_neg c]
    refine ⟨E, rfl, h4, ?_, ?_⟩
    · rw [h3]; nlinarith
    · rw [e1, h3]; exact mul_lt_mul_of_pos_right (not_le.mp c) hp

/-- The exponent of a positive value in range. -/
theorem expo_spec (a : ℝ) (ha : 0 < a) (hlo : (2 : ℝ) ^ (-127 : ℤ) ≤ a * cInv) (hhi : a * cInv < (2 : ℝ) ^ (114 : ℕ)) :
    ∃ E : ℤ, expo (a : EReal) = BitVec.ofInt 32 E ∧ -126 ≤ E ∧ E ≤ 114 ∧ (2 : ℝ) ^ (E - 1) ≤ a * cInv ∧ a * cInv < 2 ^ E := by
  have hr : ratio (a : EReal) = ((a * cInv : ℝ) : EReal) := by unfold ratio; rw [k_cInv]; exact (EReal.coe_mul _ _).symm
  have h0 : Rung 128 (a * cInv) (lad0 (a : EReal)) (cnt0 (a : EReal)) := by
    unfold lad0 cnt0
    rw [hr, k_one, k_p127, sel_olt, sel_olt]
    by_cases c : a * cInv < 1
    · rw [if_pos c, if_pos c]
      refine ⟨a * cInv * 2 ^ 127, -126, (EReal.coe_mul _ _).symm, rfl, ?_, ?_, ?_, le_refl _⟩
      · have e : (2 : ℝ) ^ (-127 : ℤ) * 2 ^ 127 = 1 := by norm_num
        rw [← e]; exact mul_le_mul_of_nonneg_right hlo (by positivity)
      · calc a * cInv * 2 ^ 127 < 1 * 2 ^ 127 := mul_lt_mul_of_pos_right c (by positivity)
          _ < 2 ^ 128 := by norm_num
      · rw [mul_assoc]
        have e : (2 : ℝ) ^ 127 * 2 ^ ((-126 : ℤ) - 1) = 1 := by norm_num
        rw [e, mul_one]
    · rw [if_neg c, if_neg c]
      exact ⟨a * cInv, 1, rfl, rfl, not_lt.mp c, lt_trans hhi (by norm_num), by norm_num, by norm_num⟩
  have h1 := rung_step 64 _ _ _ _ _ 64#32 k_p64 k_m64 rfl h0
  have h2 := rung_step 32 _ _ _ _ _ 32#32 k_p32 k_m32 rfl h1
  have h3 := rung_step 16 _ _ _ _ _ 16#32 k_p16 k_m16 rfl h2
  have h4 := rung_step 8 _ _ _ _ _ 8#32 k_p8 k_m8 rfl h3
  have h5 := rung_step 4 _ _ _ _ _ 4#32 k_p4 k_m4 rfl h4
  have h6 := rung_step 2 _ _ _ _ _ 2#32 k_p2 k_m2 rfl h5
  obtain ⟨E, g1, g2, g3, g4⟩ := rung_last _ _ _ h6
  refine ⟨E, ?_, g2, ?_, g3, g4⟩
  · unfold expo
    rw [k_zero, sel_oeq, if_neg ha.ne']
    exact g1
  · by_contra hE
    have : (2 : ℝ) ^ (114 : ℤ) ≤ 2 ^ (E - 1) := zpow_le_zpow_right₀ (by norm_num) (by omega)
    have e : (2 : ℝ) ^ (114 : ℤ) = 2 ^ (114 : ℕ) := by norm_cast
    rw [e] at this
    linarith

theorem expo_zero : expo ((0 : ℝ) : EReal) = BitVec.ofInt 32 0 := by
  unfold expo
  rw [k_zero, sel_oeq, if_pos rfl]
  rfl

theorem scale_of (amax : EReal) (E : ℤ) (h : expo amax = BitVec.ofInt 32 E) (h1 : -126 ≤ E) (h2 : E ≤ 114) :
    scale amax = (((2 : ℝ) ^ E : ℝ) : EReal) := by
  unfold scale
  have e : IntOp.addi (expo amax) 127#32 = BitVec.ofNat 32 (E + 127).toNat := by
    rw [h]
    show BitVec.ofInt 32 E + BitVec.ofInt 32 127 = _
    rw [← BitVec.ofInt_add, ← BitVec.ofInt_natCast, Int.toNat_of_nonneg (by omega)]
  rw [e, pow_bits _ (by omega) (by omega), Int.toNat_of_nonneg (by omega)]
  congr 3
  ring

theorem inv_of (amax : EReal) (E : ℤ) (h : expo amax = BitVec.ofInt 32 E) (h1 : -126 ≤ E) (h2 : E ≤ 114) :
    inv amax = (((2 : ℝ) ^ (-E) : ℝ) : EReal) := by
  unfold inv
  have e : IntOp.subi 127#32 (expo amax) = BitVec.ofNat 32 (127 - E).toNat := by
    rw [h]
    show BitVec.ofInt 32 127 - BitVec.ofInt 32 E = _
    rw [show (127 : ℤ) = (127 - E) + E by ring, BitVec.ofInt_add, BitVec.add_sub_cancel, ← BitVec.ofInt_natCast, Int.toNat_of_nonneg (by omega)]
    congr 1
    ring
  rw [e, pow_bits _ (by omega) (by omega), Int.toNat_of_nonneg (by omega)]
  congr 3
  ring

end Cert.Mvue
-- ==== Proof.Math.ColumnEq.lean ====
/- One column of groups: the kernel's codes, scales and places are the reference's, where the numbers are in range. -/
module

public import proofs.«01_k».proof.Proof.Math.Column
public import proofs.«01_k».proof.Proof.Math.Equal
public import proofs.«01_k».proof.Proof.Math.Exponent

@[expose] public section

noncomputable section

namespace Cert.Mvue.Col

open Idealize.ShloMosaic

/-! ## The exponent of a real number -/

theorem rexpo_zero : Ref.expo ((0 : ℝ) : EReal) = ((0 : ℝ) : EReal) := by
  unfold Ref.expo; rw [k_zero, sel_oeq, if_pos rfl]

theorem rexpo_of (a : ℝ) (ha : 0 < a) (E : ℤ) (h1 : (2 : ℝ) ^ (E - 1) ≤ a * cInv) (h2 : a * cInv < 2 ^ E) :
    Ref.expo (a : EReal) = (((E : ℤ) : ℝ) : EReal) := by
  have hp : (0 : ℝ) < 2 ^ (E - 1) := by positivity
  have hv : 0 < a * cInv := lt_of_lt_of_le hp h1
  have hl2 : 0 < Real.log 2 := Real.log_pos (by norm_num)
  have e1 : Ideal.log ((a * cInv : ℝ) : EReal) = ((Real.log (a * cInv) : ℝ) : EReal) := if_neg (not_le.mpr hv)
  have e2 : Ideal.log ((2 : ℝ) : EReal) = ((Real.log 2 : ℝ) : EReal) := if_neg (by norm_num)
  have fl : ⌊Real.log (a * cInv) * (1 / Real.log 2)⌋ = E - 1 := by
    rw [Int.floor_eq_iff, mul_one_div, le_div_iff₀ hl2, div_lt_iff₀ hl2]
    constructor
    · have := Real.log_le_log hp h1
      rwa [Real.log_zpow] at this
    · have := Real.log_lt_log hv h2
      rw [Real.log_zpow] at this
      push_cast
      linarith
  unfold Ref.expo
  rw [k_zero, sel_oeq, if_neg ha.ne', k_cInv, k_two, k_one, coe_mul, e1, e2, Ideal.div_coe hl2.ne', coe_mul]
  show ((⌊Real.log (a * cInv) * (1 / Real.log 2)⌋ : ℝ) : EReal) + _ = _
  rw [fl, coe_add]
  congr 1
  push_cast
  ring

theorem exp2_int (E : ℤ) : Ideal.exp2 (((E : ℤ) : ℝ) : EReal) = (((2 : ℝ) ^ E : ℝ) : EReal) := by
  show ((Real.rpow 2 (E : ℝ) : ℝ) : EReal) = _
  congr 1
  exact Real.rpow_intCast 2 E

/-- A block's scale and its inverse, the kernel's and the reference's: powers of two, the same ones. -/
theorem scales_of (a : ℝ) (ha : a = 0 ∨ (2 : ℝ) ^ (-127 : ℤ) ≤ a * cInv ∧ a * cInv < (2 : ℝ) ^ (114 : ℕ)) :
    ∃ E : ℤ, Mvue.scale (a : EReal) = (((2 : ℝ) ^ E : ℝ) : EReal) ∧ Mvue.inv (a : EReal) = (((2 : ℝ) ^ (-E) : ℝ) : EReal)
      ∧ Ref.scale (a : EReal) = (((2 : ℝ) ^ E : ℝ) : EReal) ∧ Ref.inv (a : EReal) = (((2 : ℝ) ^ (-E) : ℝ) : EReal) := by
  have key : ∃ E : ℤ, Mvue.expo (a : EReal) = BitVec.ofInt 32 E ∧ -126 ≤ E ∧ E ≤ 114 ∧ Ref.expo (a : EReal) = (((E : ℤ) : ℝ) : EReal) := by
    rcases ha with rfl | ⟨h1, h2⟩
    · exact ⟨0, expo_zero, by norm_num, by norm_num, by rw [rexpo_zero]; norm_num⟩
    · have hc : 0 < cInv := by unfold cInv; norm_num
      have hv : 0 < a * cInv := lt_of_lt_of_le (by positivity) h1
      have ha : 0 < a := (mul_pos_iff_of_pos_right hc).mp hv
      obtain ⟨E, g1, g2, g3, g4, g5⟩ := expo_spec a ha h1 h2
      exact ⟨E, g1, g2, g3, rexpo_of a ha E g4 g5⟩
  obtain ⟨E, g1, g2, g3, g4⟩ := key
  refine ⟨E, scale_of _ E g1 g2 g3, inv_of _ E g1 g2 g3, ?_, ?_⟩
  · unfold Ref.scale; rw [g4, exp2_int]
  · unfold Ref.inv
    rw [g4, k_zero, coe_sub, ← exp2_int]
    congr 2
    push_cast
    ring

/-- The codes of one kept number. -/
theorem code_of (z M v : ℝ) (hM : 0 ≤ M) (hv : 0 < v) :
    Mvue.code (z : EReal) ((-M : ℝ) : EReal) (v : EReal) = Ref.code ((sg z * max |z| M : ℝ) : EReal) (v : EReal) := by
  have hmag : mag (z : EReal) ((-M : ℝ) : EReal) (v : EReal) = ((-(min (max |z| M * v) 57344) : ℝ) : EReal) := by
    unfold mag
    rw [k_zero_bf, k_floor_bf, ab_coe, coe_sub, coe_mul, coe_mul, coe_min, coe_max]
    congr 1
    have e : min ((0 - |z|) * v) (-M * v) = -(max |z| M * v) := by
      rw [max_mul_of_nonneg _ _ hv.le, ← min_neg_neg]
      congr 1 <;> ring
    rw [e, ← max_neg_neg]
  have hn : 0 ≤ min (max |z| M * v) 57344 := le_min (mul_nonneg (le_max_of_le_right hM) hv.le) (by norm_num)
  unfold Mvue.code Ref.code
  rw [hmag, k_zero_bf, sel_olt, ab_coe, abs_neg, abs_of_nonneg hn, k_floor, k_ceil, coe_mul, coe_max, coe_min, coe_sub]
  have hw : 0 ≤ max |z| M * v := mul_nonneg (le_max_of_le_right hM) hv.le
  unfold sg
  generalize max |z| M = w at *
  by_cases h : z < 0
  · rw [if_pos h, if_pos h]
    congr 1
    rw [show -1 * w * v = -(w * v) by ring, max_neg_neg, min_eq_right (le_trans (neg_nonpos.mpr (le_min hw (by norm_num) |>.trans_eq (min_comm _ _))) (by norm_num)),
      min_comm]
    ring
  · rw [if_neg h, if_neg h]
    congr 1
    rw [one_mul, max_eq_right (by linarith), min_comm]

/-! ## The block's largest magnitude -/

variable (f : ℕ → EReal) (g : ℕ → BitVec 32)

theorem step_le_colMax (q i : ℕ) (hi : i < 4) : step f (q + 8 * i) ≤ colMax f q := by
  unfold colMax
  interval_cases i <;> simp

theorem colMax_le_amax (p i : ℕ) (hi : i < 8) : colMax f (32 * p + i) ≤ amax f p := by
  unfold amax
  interval_cases i <;> simp

theorem step_le_amax (p j : ℕ) (hj : j < 32) : step f (32 * p + j) ≤ amax f p := by
  have e : 32 * p + j = (32 * p + j % 8) + 8 * (j / 8) := by omega
  rw [e]
  exact (step_le_colMax f _ _ (by omega)).trans (colMax_le_amax f p _ (by omega))

theorem amax_le (p : ℕ) (B : EReal) (h : ∀ j < 32, step f (32 * p + j) ≤ B) : amax f p ≤ B := by
  have hc : ∀ i < 8, colMax f (32 * p + i) ≤ B := fun i hi =>
    max_le (max_le (max_le (h i (by omega)) (h (i + 8) (by omega))) (h (i + 16) (by omega))) (h (i + 24) (by omega))
  exact max_le (max_le (max_le (max_le (max_le (max_le (max_le (hc 0 (by omega)) (hc 1 (by omega))) (hc 2 (by omega))) (hc 3 (by omega))) (hc 4 (by omega)))
    (hc 5 (by omega))) (hc 6 (by omega))) (hc 7 (by omega))

section
variable (r : ℕ → ℝ) (hfair : ∀ n, Fair (r n)) (hbig : ∀ n, |r n| ≤ 255 * 2 ^ 120)

/-- The column as extended reals. -/
def up : ℕ → EReal := fun n => ((r n : ℝ) : EReal)

def stepR (q : ℕ) : ℝ := rStep (r (4 * q)) (r (4 * q + 1)) (r (4 * q + 2)) (r (4 * q + 3))
def gapR (q : ℕ) : ℝ := rGap (r (4 * q)) (r (4 * q + 1)) (r (4 * q + 2)) (r (4 * q + 3))
def loR (q : ℕ) : BitVec 32 := rLo (r (4 * q)) (r (4 * q + 1)) (r (4 * q + 2)) (r (4 * q + 3)) (g q)
def hiR (q : ℕ) : BitVec 32 := rHi (r (4 * q)) (r (4 * q + 1)) (r (4 * q + 2)) (r (4 * q + 3)) (g q)
def atR (p : BitVec 32) (q : ℕ) : ℝ := at4 p (r (4 * q)) (r (4 * q + 1)) (r (4 * q + 2)) (r (4 * q + 3))

theorem step_up (q : ℕ) : step (up r) q = ((stepR r q : ℝ) : EReal) := step_coe _ _ _ _
theorem gap_up (q : ℕ) : gap (up r) q = ((-gapR r q : ℝ) : EReal) := gap_coe _ _ _ _
theorem zLo_up (q : ℕ) : zLo (up r) g q = ((atR r (loR g r q) q : ℝ) : EReal) :=
  (pickLo_coe _ _ _ _ _ _ _ _ ((r (4 * q + 3) : ℝ) : EReal)).trans (at4_map (fun a : ℝ => (a : EReal)) _ _ _ _ _)
theorem zHi_up (q : ℕ) : zHi (up r) g q = ((atR r (hiR g r q) q : ℝ) : EReal) :=
  (pickHi_coe _ _ _ _ _ ((r (4 * q) : ℝ) : EReal) _ _ _).trans (at4_map (fun a : ℝ => (a : EReal)) _ _ _ _ _)

include hfair

theorem rlo_up (q : ℕ) : rlo (up r) g q = loR g r q := (group_eq _ _ _ _ _ (hfair _) (hfair _) (hfair _) (hfair _)).1
theorem rhi_up (q : ℕ) : rhi (up r) g q = hiR g r q := (group_eq _ _ _ _ _ (hfair _) (hfair _) (hfair _) (hfair _)).2.1
theorem keptLo_up (q : ℕ) : keptLo (up r) g q = ((sg (atR r (loR g r q) q) * max |atR r (loR g r q) q| (gapR r q) : ℝ) : EReal) := by
  unfold keptLo
  rw [rlo_up g r hfair]
  refine (kept_coe _ _ _ _ _).trans ?_
  rw [EReal.coe_eq_coe_iff]
  exact (group_eq _ _ _ _ (g q) (hfair _) (hfair _) (hfair _) (hfair _)).2.2.1
theorem keptHi_up (q : ℕ) : keptHi (up r) g q = ((sg (atR r (hiR g r q) q) * max |atR r (hiR g r q) q| (gapR r q) : ℝ) : EReal) := by
  unfold keptHi
  rw [rhi_up g r hfair]
  refine (kept_coe _ _ _ _ _).trans ?_
  rw [EReal.coe_eq_coe_iff]
  exact (group_eq _ _ _ _ (g q) (hfair _) (hfair _) (hfair _) (hfair _)).2.2.2.1
theorem gapR_nonneg (q : ℕ) : 0 ≤ gapR r q := (group_eq _ _ _ _ 0#32 (hfair _) (hfair _) (hfair _) (hfair _)).2.2.2.2.2
theorem stepR_eq (q : ℕ) : stepR r q = max (max |atR r (loR g r q) q| (gapR r q)) (max |atR r (hiR g r q) q| (gapR r q)) :=
  (group_eq _ _ _ _ (g q) (hfair _) (hfair _) (hfair _) (hfair _)).2.2.2.2.1

theorem abs_sg (z w : ℝ) (hw : 0 ≤ w) : |sg z * w| = w := by
  unfold sg
  split_ifs <;> simp [abs_of_nonneg hw]

/-- The largest kept magnitude is the largest step. -/
theorem amax_eq (p : ℕ) (A : EReal) (hA : IsMax (up r) g p A) : A = amax (up r) p := by
  have n0 : ∀ q z, (0 : ℝ) ≤ max |z| (gapR r q) := fun q z => le_max_of_le_left (abs_nonneg z)
  have eLo : ∀ q, ab (keptLo (up r) g q) = ((max |atR r (loR g r q) q| (gapR r q) : ℝ) : EReal) := fun q => by
    rw [keptLo_up g r hfair, ab_coe, abs_sg r hfair _ _ (n0 _ _)]
  have eHi : ∀ q, ab (keptHi (up r) g q) = ((max |atR r (hiR g r q) q| (gapR r q) : ℝ) : EReal) := fun q => by
    rw [keptHi_up g r hfair, ab_coe, abs_sg r hfair _ _ (n0 _ _)]
  apply le_antisymm
  · refine hA.least _ (fun j hj => le_trans ?_ (step_le_amax _ p j hj)) (fun j hj => le_trans ?_ (step_le_amax _ p j hj))
    · rw [eLo, step_up, EReal.coe_le_coe_iff, stepR_eq g r hfair]; exact le_max_left _ _
    · rw [eHi, step_up, EReal.coe_le_coe_iff, stepR_eq g r hfair]; exact le_max_right _ _
  · refine amax_le _ p A fun j hj => ?_
    rw [step_up, stepR_eq g r hfair, ← coe_max, ← eLo, ← eHi]
    exact max_le (hA.lo_le j hj) (hA.hi_le j hj)

/-- The largest step is zero or in the range the ladder covers. -/
theorem amax_range (hbig : ∀ n, |r n| ≤ 255 * 2 ^ 120) (p : ℕ) :
    ∃ a : ℝ, amax (up r) p = (a : EReal) ∧ (a = 0 ∨ (2 : ℝ) ^ (-127 : ℤ) ≤ a * cInv ∧ a * cInv < (2 : ℝ) ^ (114 : ℕ)) := by
  obtain ⟨j, hj, ej⟩ := Finset.exists_mem_eq_sup' (⟨0, by simp⟩ : (Finset.range 32).Nonempty) (fun j => stepR r (32 * p + j))
  have hj' : j < 32 := Finset.mem_range.mp hj
  have hmax : ∀ i < 32, stepR r (32 * p + i) ≤ stepR r (32 * p + j) := fun i hi => by
    rw [← ej]; exact Finset.le_sup' (fun j => stepR r (32 * p + j)) (Finset.mem_range.mpr hi)
  refine ⟨stepR r (32 * p + j), ?_, ?_⟩
  · apply le_antisymm
    · refine amax_le _ p _ fun i hi => ?_
      rw [step_up, EReal.coe_le_coe_iff]; exact hmax i hi
    · rw [← step_up]; exact step_le_amax _ p j hj'
  · generalize 32 * p + j = q
    have b0 := hbig (4 * q); have b1 := hbig (4 * q + 1); have b2 := hbig (4 * q + 2); have b3 := hbig (4 * q + 3)
    have f0 := hfair (4 * q); have f1 := hfair (4 * q + 1); have f2 := hfair (4 * q + 2); have f3 := hfair (4 * q + 3)
    unfold stepR rStep rGap rTot rTop
    generalize r (4 * q) = a0 at *
    generalize r (4 * q + 1) = a1 at *
    generalize r (4 * q + 2) = a2 at *
    generalize r (4 * q + 3) = a3 at *
    have n0 := abs_nonneg a0; have n1 := abs_nonneg a1; have n2 := abs_nonneg a2; have n3 := abs_nonneg a3
    obtain ⟨hj, m0, m1, m2, m3⟩ := jmax_cases (s0 := |a0|) (s1 := |a1|) (s2 := |a2|) (s3 := |a3|) rfl
    have hfm : max (max |a0| |a1|) (max |a2| |a3|) = 0 ∨ (2 : ℝ) ^ (-111 : ℤ) ≤ max (max |a0| |a1|) (max |a2| |a3|) := by
      have : ∀ a m : ℝ, Fair a → |a| = m → m = 0 ∨ (2 : ℝ) ^ (-111 : ℤ) ≤ m := by
        rintro a m ha rfl
        exact ha.imp (fun h => by rw [h, abs_zero]) id
      rcases hj with ⟨_, e⟩ | ⟨_, e⟩ | ⟨_, e⟩ | ⟨_, e⟩
      exacts [this a0 _ f0 e, this a1 _ f1 e, this a2 _ f2 e, this a3 _ f3 e]
    have hmb : max (max |a0| |a1|) (max |a2| |a3|) ≤ 255 * 2 ^ 120 := max_le (max_le b0 b1) (max_le b2 b3)
    generalize max (max |a0| |a1|) (max |a2| |a3|) = m at *
    have hc1 : (2 : ℝ) ^ (-16 : ℤ) ≤ cInv := by unfold cInv; norm_num
    have hc0 : (0 : ℝ) < cInv := lt_of_lt_of_le (by positivity) hc1
    rcases hfm with hm | hm
    · left
      have : |a0| + |a1| + |a2| + |a3| = 0 := by linarith
      rw [this, hm]; norm_num
    · right
      have g1 : min ((|a0| + |a1| + |a2| + |a3|) / 2) (|a0| + |a1| + |a2| + |a3| - m) ≤ |a0| + |a1| + |a2| + |a3| - m := min_le_right _ _
      have g2 : 0 ≤ (|a0| + |a1| + |a2| + |a3|) - m - min ((|a0| + |a1| + |a2| + |a3|) / 2) (|a0| + |a1| + |a2| + |a3| - m) := by linarith
      have g3 : (|a0| + |a1| + |a2| + |a3|) - min ((|a0| + |a1| + |a2| + |a3|) / 2) (|a0| + |a1| + |a2| + |a3| - m) ≤ 2 * (255 * 2 ^ 120) := by
        rcases min_choice ((|a0| + |a1| + |a2| + |a3|) / 2) (|a0| + |a1| + |a2| + |a3| - m) with h | h <;> rw [h] <;> linarith
      constructor
      · have e : (2 : ℝ) ^ (-127 : ℤ) = 2 ^ (-111 : ℤ) * 2 ^ (-16 : ℤ) := by norm_num
        rw [e]
        exact mul_le_mul (hm.trans (by linarith)) hc1 (by positivity) (by linarith [show (0 : ℝ) < 2 ^ (-111 : ℤ) by positivity])
      · refine lt_of_le_of_lt (mul_le_mul_of_nonneg_right g3 hc0.le) ?_
        unfold cInv
        norm_num

include hbig

/-- The scales agree. -/
theorem scale_eq (p : ℕ) (A : EReal) (hA : IsMax (up r) g p A) : Mvue.scale (amax (up r) p) = Ref.scale A := by
  rw [amax_eq g r hfair p A hA]
  obtain ⟨a, e, h⟩ := amax_range r hfair hbig p
  obtain ⟨E, h1, h2, h3, h4⟩ := scales_of a h
  rw [e, h1, h3]

/-- The codes agree. -/
theorem code_eq (ρ : ℕ) (A : EReal) (hA : IsMax (up r) g (ρ / 64) A) :
    code (up r) g ρ = Ref.code (if ρ % 2 = 0 then keptLo (up r) g (ρ / 2) else keptHi (up r) g (ρ / 2)) (Ref.inv A) := by
  rw [amax_eq g r hfair _ A hA]
  unfold code
  obtain ⟨a, e, h⟩ := amax_range r hfair hbig (ρ / 64)
  obtain ⟨E, h1, h2, h3, h4⟩ := scales_of a h
  rw [e, h2, h4, gap_up, zLo_up, zHi_up, keptLo_up g r hfair, keptHi_up g r hfair]
  have hv : (0 : ℝ) < 2 ^ (-E) := by positivity
  by_cases c : ρ % 2 = 0
  · rw [if_pos c, if_pos c]; exact code_of _ _ _ (gapR_nonneg r hfair _) hv
  · rw [if_neg c, if_neg c]; exact code_of _ _ _ (gapR_nonneg r hfair _) hv

end

end Cert.Mvue.Col
-- ==== Proof.Math.Inputs.lean ====
/- What the precondition says of the numbers: every one is a real, zero or at least `2^-111` in magnitude, and at most `255 · 2^120`. -/
module

public import proofs.«01_k».proof.Pre_in_range
public import proofs.«01_k».proof.Proof.Gen.Pre_in_range
public import proofs.«01_k».proof.Proof.Math.ColumnEq

@[expose] public section

noncomputable section

namespace Cert.Mvue.Inputs

open Idealize.ShloMosaic

/-- The condition on one number. -/
def ok (x : EReal) : BitVec 1 :=
  IntOp.ori (Ideal.cmp .oeq (ab x) (Ideal.ofBits .f32 0x00000000#32))
    (IntOp.andi (Ideal.cmp .oge (ab x) (Ideal.ofBits .f32 0x08000000#32)) (Ideal.cmp .ole (ab x) (Ideal.ofBits .f32 0x7F7F0000#32)))

theorem fn_apply [Cert.Pre_in_range.Facts] (A : FVec Ideal Cert.Pre_in_range.S12x2048x7168 .bf16) (B : IVec Cert.Pre_in_range.S12x512x7168 32) (i : Cert.Pre_in_range.S12x2048x7168.Idx) :
    Cert.Pre_in_range.fn (F := Ideal) A B i = ok (A i) := rfl

theorem k_least : Ideal.ofBits .f32 0x08000000#32 = (((2 : ℝ) ^ (-111 : ℤ) : ℝ) : EReal) := by
  simp [Ideal.ofBits, Ideal.ieee, -EReal.coe_mul, -EReal.coe_neg, -EReal.coe_pow]; norm_num
theorem k_most : Ideal.ofBits .f32 0x7F7F0000#32 = ((255 * 2 ^ 120 : ℝ) : EReal) := by
  simp [Ideal.ofBits, Ideal.ieee, -EReal.coe_mul, -EReal.coe_neg, -EReal.coe_pow]; norm_num

/-- What a number the precondition admits is. -/
structure Good (x : EReal) : Prop where
  real : x = ((x.toReal : ℝ) : EReal)
  fair : Fair x.toReal
  most : |x.toReal| ≤ 255 * 2 ^ 120

theorem good_zero : Good 0 := ⟨by simp, Or.inl (by simp), by simp⟩

theorem good_coe (r : ℝ) (hf : Fair r) (hb : |r| ≤ 255 * 2 ^ 120) : Good (r : EReal) :=
  ⟨by rw [EReal.toReal_coe], by rw [EReal.toReal_coe]; exact hf, by rw [EReal.toReal_coe]; exact hb⟩

theorem ofBool_or_and (p q r : Bool) : IntOp.ori (BitVec.ofBool p) (IntOp.andi (BitVec.ofBool q) (BitVec.ofBool r)) = 1#1 ↔ p = true ∨ (q = true ∧ r = true) := by
  revert p q r; decide

theorem ok_iff (x : EReal) : ok x = 1#1 ↔ ab x = ((0 : ℝ) : EReal) ∨ ((((2 : ℝ) ^ (-111 : ℤ) : ℝ) : EReal) ≤ ab x ∧ ab x ≤ ((255 * 2 ^ 120 : ℝ) : EReal)) := by
  unfold ok
  rw [k_zero, k_least, k_most]
  refine (ofBool_or_and _ _ _).trans ?_
  simp only [decide_eq_true_eq]

theorem good_of_ok (x : EReal) (h : ok x = 1#1) : Good x := by
  rw [ok_iff] at h
  induction x using EReal.rec with
  | bot =>
    exfalso
    have e : ab (⊥ : EReal) = ⊤ := by unfold ab; simp
    rw [e] at h
    rcases h with h | ⟨-, h⟩
    · exact EReal.coe_ne_top _ h.symm
    · exact EReal.coe_ne_top _ (top_le_iff.mp h)
  | top =>
    exfalso
    have e : ab (⊤ : EReal) = ⊤ := by unfold ab; simp
    rw [e] at h
    rcases h with h | ⟨-, h⟩
    · exact EReal.coe_ne_top _ h.symm
    · exact EReal.coe_ne_top _ (top_le_iff.mp h)
  | coe r =>
    rw [ab_coe] at h
    rcases h with h | ⟨h1, h2⟩
    · rw [EReal.coe_eq_coe_iff] at h
      have e : r = 0 := abs_eq_zero.mp h
      exact good_coe r (Or.inl e) (by rw [e]; simp)
    · rw [EReal.coe_le_coe_iff] at h1 h2
      exact good_coe r (Or.inr h1) h2

end Cert.Mvue.Inputs
-- ==== Proof.Math.Places.lean ====
/- The places kept, packed: the kernel packs eight groups into a word of nibbles, the reference two into a byte. -/
module

public import proofs.«01_k».proof.Proof.Math.ColumnEq

@[expose] public section

noncomputable section

namespace Cert.Mvue.Col

open Idealize.ShloMosaic

/-- Four bits of a byte, as the reference packs two positions. -/
def pair (lo hi : BitVec 32) : BitVec 4 := (lo ||| (hi <<< 2)).setWidth 4

theorem kLo_cases (t s0 s1 : ℝ) : kLo t s0 s1 = 0#32 ∨ kLo t s0 s1 = 1#32 ∨ kLo t s0 s1 = 2#32 := by
  unfold kLo; split_ifs <;> simp
theorem kHi_cases (t s0 s1 s2 : ℝ) : kHi t s0 s1 s2 = 1#32 ∨ kHi t s0 s1 s2 = 2#32 ∨ kHi t s0 s1 s2 = 3#32 := by
  unfold kHi; split_ifs <;> simp

theorem lo_word (lo : BitVec 32) (hlo : lo = 0#32 ∨ lo = 1#32 ∨ lo = 2#32) (s : ℕ) (hs : s < 8) (z : BitVec 32) :
    at4 lo 0#32 (nib (BitVec.ofNat 32 s) 1#32) (nib (BitVec.ofNat 32 s) 2#32) z = lo <<< (4 * s) := by
  rcases hlo with rfl | rfl | rfl <;> interval_cases s <;> rfl

theorem hi_word (hi : BitVec 32) (hhi : hi = 1#32 ∨ hi = 2#32 ∨ hi = 3#32) (s : ℕ) (hs : s < 8) (z : BitVec 32) :
    at4 hi z (nib (BitVec.ofNat 32 s) 4#32) (nib (BitVec.ofNat 32 s) 8#32) (nib (BitVec.ofNat 32 s) 12#32) = hi <<< 2 <<< (4 * s) := by
  rcases hhi with rfl | rfl | rfl <;> interval_cases s <;> rfl

theorem pair_word (lo hi : BitVec 32) (hlo : lo = 0#32 ∨ lo = 1#32 ∨ lo = 2#32) (hhi : hi = 1#32 ∨ hi = 2#32 ∨ hi = 3#32) :
    lo ||| hi <<< 2 = (pair lo hi).setWidth 32 := by
  rcases hlo with rfl | rfl | rfl <;> rcases hhi with rfl | rfl | rfl <;> rfl

theorem word_pair (lo hi : BitVec 32) (hlo : lo = 0#32 ∨ lo = 1#32 ∨ lo = 2#32) (hhi : hi = 1#32 ∨ hi = 2#32 ∨ hi = 3#32) (s : ℕ) (hs : s < 8)
    (z z' : BitVec 32) :
    at4 lo 0#32 (nib (BitVec.ofNat 32 s) 1#32) (nib (BitVec.ofNat 32 s) 2#32) z ||| at4 hi z' (nib (BitVec.ofNat 32 s) 4#32) (nib (BitVec.ofNat 32 s) 8#32) (nib (BitVec.ofNat 32 s) 12#32)
      = (pair lo hi).setWidth 32 <<< (4 * s) := by
  rw [lo_word lo hlo s hs, hi_word hi hhi s hs, ← pair_word lo hi hlo hhi, BitVec.shiftLeft_or_distrib]

theorem rnib_pair (lo hi : BitVec 32) (hlo : lo = 0#32 ∨ lo = 1#32 ∨ lo = 2#32) (hhi : hi = 1#32 ∨ hi = 2#32 ∨ hi = 3#32) :
    BitVec.setWidth 8 (IntOp.ori lo (IntOp.shli .vector hi 2#32)) = (pair lo hi).setWidth 8 := by
  rcases hlo with rfl | rfl | rfl <;> rcases hhi with rfl | rfl | rfl <;> rfl

theorem byte_of (n : ℕ → BitVec 4) (k : ℕ) (hk : k < 4) :
    ((((((((n 0).setWidth 32 <<< (4 * 0) ||| (n 1).setWidth 32 <<< (4 * 1)) ||| (n 2).setWidth 32 <<< (4 * 2)) ||| (n 3).setWidth 32 <<< (4 * 3))
      ||| (n 4).setWidth 32 <<< (4 * 4)) ||| (n 5).setWidth 32 <<< (4 * 5)) ||| (n 6).setWidth 32 <<< (4 * 6)) ||| (n 7).setWidth 32 <<< (4 * 7)).extractLsb' (8 * k) 8
      = (n (2 * k)).setWidth 8 ||| ((n (2 * k + 1)).setWidth 8 <<< 4) := by
  apply BitVec.eq_of_getLsbD_eq
  intro i hi
  interval_cases k <;> interval_cases i <;> simp

section
variable (g : ℕ → BitVec 32) (r : ℕ → ℝ) (hfair : ∀ n, Fair (r n))

def nibR (q : ℕ) : BitVec 4 := pair (loR g r q) (hiR g r q)

theorem word_up (q s : ℕ) (hs : q % 8 = s) : word (up r) g q = (nibR g r q).setWidth 32 <<< (4 * s) := by
  subst hs
  refine (congrArg₂ IntOp.ori (pickLo_coe _ _ _ _ _ _ _ _ 0#32) (pickHi_coe _ _ _ _ _ 0#32 _ _ _)).trans ?_
  exact word_pair _ _ (kLo_cases _ _ _) (kHi_cases _ _ _ _) _ (Nat.mod_lt _ (by norm_num)) _ _

include hfair

theorem rnib_up (q : ℕ) : rnib (up r) g q = (nibR g r q).setWidth 8 := by
  unfold rnib
  rw [rlo_up g r hfair, rhi_up g r hfair]
  exact rnib_pair _ _ (kLo_cases _ _ _) (kHi_cases _ _ _ _)

/-- The packed places agree. -/
theorem places_eq (p : ℕ) : places (up r) g p = rplaces (up r) g p := by
  unfold places oct rplaces
  rw [word_up g r (8 * (p / 4)) 0 (by omega), word_up g r (8 * (p / 4) + 1) 1 (by omega), word_up g r (8 * (p / 4) + 2) 2 (by omega),
    word_up g r (8 * (p / 4) + 3) 3 (by omega), word_up g r (8 * (p / 4) + 4) 4 (by omega), word_up g r (8 * (p / 4) + 5) 5 (by omega),
    word_up g r (8 * (p / 4) + 6) 6 (by omega), word_up g r (8 * (p / 4) + 7) 7 (by omega), rnib_up g r hfair, rnib_up g r hfair]
  refine (byte_of (fun i => nibR g r (8 * (p / 4) + i)) (p % 4) (Nat.mod_lt _ (by norm_num))).trans ?_
  rw [show 8 * (p / 4) + 2 * (p % 4) = 2 * p by omega, show 8 * (p / 4) + (2 * (p % 4) + 1) = 2 * p + 1 by omega]
  rfl

end

end Cert.Mvue.Col
-- ==== Proof.KernI.Value.lean ====
/- What the arrays of the results hold after the run, block by block: block `t` of each array is what grid point `t` wrote. -/
module

public import proofs.«01_k».proof.Proof.KernI.Frame
public import Idealize.ShloMosaic.Lib.Pipeline.Value

@[expose] public section

noncomputable section

namespace Cert.KernelIdeal.Value

open Cert.KernelIdeal Cert.KernelIdeal.Gen Cert.KernelIdeal.Own Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- What point `t` writes back to output window 2's array: the contents the run leaves in that window, read through
    the window's block. -/
theorem flushed2 (c : Dev nD) (t : Fin cfg0.N) :
    (dats m 0 c).flushed 2 t = (cfg0.win 2).cut (grid0.coords t) ((outsAt0 m c t).1) := by
  show (cfg0.win 2).cut (grid0.coords t) ((dats m 0 c).after 2 t) = _
  rw [after0_2]

/-- … which are the pieces the run found, read back at the point's buffers and input blocks. -/
theorem flushed2_A (c : Dev nD) (t : Fin cfg0.N) :
    (dats m 0 c).flushed 2 t = (cfg0.win 2).cut (grid0.coords t) (out0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (iblk m c 0 t) (iblk m c 1 t)) := by
  simp only [flushed2, outsAt0]

/-- An index that no flushing point's block covers keeps output window 2's array contents at region entry. -/
theorem entry2 (c : Dev nD) (i : S12x1024x7168.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- What point `t` writes back to output window 3's array: the contents the run leaves in that window, read through
    the window's block. -/
theorem flushed3 (c : Dev nD) (t : Fin cfg0.N) :
    (dats m 0 c).flushed 3 t = (cfg0.win 3).cut (grid0.coords t) ((outsAt0 m c t).2.1) := by
  show (cfg0.win 3).cut (grid0.coords t) ((dats m 0 c).after 3 t) = _
  rw [after0_3]

/-- … which are the pieces the run found, read back at the point's buffers and input blocks. -/
theorem flushed3_A (c : Dev nD) (t : Fin cfg0.N) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (iblk m c 0 t) (iblk m c 1 t)) := by
  simp only [flushed3, outsAt0]

/-- An index that no flushing point's block covers keeps output window 3's array contents at region entry. -/
theorem entry3 (c : Dev nD) (i : S12x16x7168.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- What point `t` writes back to output window 4's array: the contents the run leaves in that window, read through
    the window's block. -/
theorem flushed4 (c : Dev nD) (t : Fin cfg0.N) :
    (dats m 0 c).flushed 4 t = (cfg0.win 4).cut (grid0.coords t) ((outsAt0 m c t).2.2) := by
  show (cfg0.win 4).cut (grid0.coords t) ((dats m 0 c).after 4 t) = _
  rw [after0_4]

/-- … which are the pieces the run found, read back at the point's buffers and input blocks. -/
theorem flushed4_A (c : Dev nD) (t : Fin cfg0.N) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (iblk m c 0 t) (iblk m c 1 t)) := by
  simp only [flushed4, outsAt0]

/-- An index that no flushing point's block covers keeps output window 4's array contents at region entry. -/
theorem entry4 (c : Dev nD) (i : S12x256x7168.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_1) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_2) = (dats m 0 c).arrAt 4 cfg0.N :=
  (h c).1 4

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 2 cfg0.N
      ∧ r.2.mem ((c : Thread nD τ).loc main_v0_1) = (dats m 0 c).arrAt 3 cfg0.N
      ∧ r.2.mem ((c : Thread nD τ).loc main_v0_2) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post2 m r h c,
      post3 m r h c,
      post4 m r h c,
      kept_main_arg0 m r h c,
      kept_main_arg1 m r h c⟩)
    (run_main m ρ)

end Cert.KernelIdeal.Value

end
-- ==== Proof.KernI.Vreg.lean ====
/- One register's worth of groups, eight by a hundred and twenty-eight: what the kernel's lines compute of it, at one
   group. -/
module

public import proofs.«01_k».proof.Proof.Gen.KernelIdeal.Skeleton
public import proofs.«01_k».proof.Proof.Math.Group
public import Idealize.ShloMosaic.Lib.ValueLayout

@[expose] public section

noncomputable section

namespace Cert.KernelIdeal.Block

open Cert.KernelIdeal Cert.KernelIdeal.Gen
open Idealize.ShloMosaic Idealize.ShloMosaic.ValueIdx

/-- Eight rows of pairs of rows, as loaded. -/
abbrev Raw := Vec Ideal S1x8x2x128 .bf16
/-- Eight rows of random words, as loaded. -/
abbrev Rand := Vec Ideal S1x8x128 .i32

variable (a b : Raw) (r : Rand)

/-- The kernel's gap on one register. -/
def vGap : Vec Ideal S8x128 .f32 := k0_pay24 (k0_pay19 a b) (k0_pay20 a b)
/-- The kernel's step on one register. -/
def vStep : Vec Ideal S8x128 .f32 := k0_pay25 (k0_pay19 a b) (k0_pay20 a b)
/-- The two numbers kept, on one register. -/
def vKept : Vec Ideal S8x2x128 .bf16 :=
  k0_pay32 (k0_pay9 a) (k0_pay10 a) (k0_pay11 b) (k0_pay12 b) (k0_pay13 a) (k0_pay17 a) (k0_pay18 a b) (k0_pay19 a b) (k0_pay20 a b)
    (k0_pay21 r) k0_pay22
/-- The places kept, on one register. -/
def vWord : Vec Ideal S8x128 .i32 :=
  k0_pay34 (F := Ideal) k0_pay2 k0_pay3 k0_pay4 k0_pay5 k0_pay6 k0_pay7 (k0_pay13 a) (k0_pay17 a) (k0_pay18 a b) (k0_pay19 a b)
    (k0_pay20 a b) (k0_pay21 r) k0_pay22

theorem cast4 (v : S1x8x1x128.Idx → EReal) (i : S8x128.Idx) :
    shapeCast S8x128 v shapeCasts_S1x8x1x128_S8x128 i = v (ix4 (0 : Fin 1) (i 0) (0 : Fin 1) (i 1)) := by
  refine shapeCast_apply _ _ i _ ?_
  rw [Shape.rowMajor_val_four, Shape.rowMajor_val_two]
  show ((0 * 8 + (i 0).val) * 1 + 0) * 128 + (i 1).val = (i 0).val * 128 + (i 1).val
  omega

theorem pay9_eq : k0_pay9 a = fun i => a (ix4 0 (i 0) 0 (i 1)) := by
  funext i
  refine Eq.trans (cast4 (rowsOfParity 0 S1x8x1x128 a bitcasts_S1x8x2x128_w16_S1x8x1x128_w32) i) ?_
  refine congrArg a ?_
  funext c
  match c with | ⟨0, _⟩ => rfl | ⟨1, _⟩ => rfl | ⟨2, _⟩ => rfl | ⟨3, _⟩ => rfl

theorem pay10_eq : k0_pay10 a = fun i => a (ix4 0 (i 0) 1 (i 1)) := by
  funext i
  refine Eq.trans (cast4 (rowsOfParity 1 S1x8x1x128 a bitcasts_S1x8x2x128_w16_S1x8x1x128_w32) i) ?_
  refine congrArg a ?_
  funext c
  match c with | ⟨0, _⟩ => rfl | ⟨1, _⟩ => rfl | ⟨2, _⟩ => rfl | ⟨3, _⟩ => rfl

theorem pay11_eq : k0_pay11 b = fun i => b (ix4 0 (i 0) 0 (i 1)) := pay9_eq b
theorem pay12_eq : k0_pay12 b = fun i => b (ix4 0 (i 0) 1 (i 1)) := pay10_eq b

theorem pay21_eq : k0_pay21 r = fun i => (((IntOp.shrui .vector (r (ix3 0 (i 0) (i 1))) 8#32).toInt : ℝ) : EReal) := by
  funext i
  show (((IntOp.shrui .vector (shapeCast S8x128 r shapeCasts_S1x8x128_S8x128 i) 8#32).toInt : ℝ) : EReal) = _
  rw [eq_ix2 i]
  exact congrArg (fun w => (((IntOp.shrui .vector w 8#32).toInt : ℝ) : EReal)) (shapeCast_1ab_ab_apply r _ (i 0) (i 1))

variable (i : S8x128.Idx)

theorem vGap_apply : vGap a b i
    = Mvue.gap (a (ix4 0 (i 0) 0 (i 1))) (a (ix4 0 (i 0) 1 (i 1))) (b (ix4 0 (i 0) 0 (i 1))) (b (ix4 0 (i 0) 1 (i 1))) := by
  unfold vGap k0_pay24 k0_pay23 k0_pay19 k0_pay18 k0_pay17 k0_pay20 k0_pay13 k0_pay14 k0_pay15 k0_pay16
  rw [pay9_eq, pay10_eq, pay11_eq, pay12_eq]; rfl

theorem vStep_apply : vStep a b i
    = Mvue.step (a (ix4 0 (i 0) 0 (i 1))) (a (ix4 0 (i 0) 1 (i 1))) (b (ix4 0 (i 0) 0 (i 1))) (b (ix4 0 (i 0) 1 (i 1))) := by
  unfold vStep k0_pay25 k0_pay24 k0_pay23 k0_pay19 k0_pay18 k0_pay17 k0_pay20 k0_pay13 k0_pay14 k0_pay15 k0_pay16
  rw [pay9_eq, pay10_eq, pay11_eq, pay12_eq]; rfl

theorem pay1_eq : k0_pay1 = fun i => IntOp.muli (BitVec.ofNat 32 (i 0).val) 4#32 := by
  funext i
  show IntOp.muli (BitVec.ofNat 32 (0 * 8 + (i 0).val)) 4#32 = _
  rw [Nat.zero_mul, Nat.zero_add]

theorem vWord_apply : vWord a b r i
    = Mvue.word (a (ix4 0 (i 0) 0 (i 1))) (a (ix4 0 (i 0) 1 (i 1))) (b (ix4 0 (i 0) 0 (i 1))) (b (ix4 0 (i 0) 1 (i 1)))
        (r (ix3 0 (i 0) (i 1))) (BitVec.ofNat 32 (i 0).val) := by
  unfold vWord k0_pay34
  dsimp only
  rw [Idealize.ShloMosaic.shapeCast_self]
  unfold k0_pay28 k0_pay29 k0_pay30 k0_pay31 k0_pay27 k0_pay26 k0_pay25 k0_pay24 k0_pay23 k0_pay22 k0_pay19 k0_pay18 k0_pay17 k0_pay20 k0_pay13 k0_pay14 k0_pay15 k0_pay16 k0_pay2 k0_pay3 k0_pay4 k0_pay5 k0_pay6 k0_pay7
  rw [pay9_eq, pay10_eq, pay11_eq, pay12_eq, pay21_eq, pay1_eq]; rfl

theorem interleave3 (lo hi : S8x1x128.Idx → EReal) (h : S8x2x128.Bitcasts 16 S8x1x128 32) (y : S8x2x128.Idx) :
    interleaveRows S8x2x128 lo hi h y
      = if (y 1).val = 0 then lo (ix3 (y 0) (0 : Fin 1) (y 2)) else hi (ix3 (y 0) (0 : Fin 1) (y 2)) := by
  have hy : (y 1).val < 2 := (y 1).isLt
  have hr : S8x2x128.row y = (y 1).val := rfl
  unfold interleaveRows
  dsimp only
  rw [hr]
  by_cases h0 : (y 1).val = 0
  · rw [if_pos (by omega), if_pos h0]
    refine congrArg lo ?_
    funext c
    match c with
    | ⟨0, _⟩ => rfl
    | ⟨1, _⟩ => exact Fin.ext (show (y 1).val / 2 = 0 by omega)
    | ⟨2, _⟩ => rfl
  · rw [if_neg (by omega), if_neg h0]
    refine congrArg hi ?_
    funext c
    match c with
    | ⟨0, _⟩ => rfl
    | ⟨1, _⟩ => exact Fin.ext (show (y 1).val / 2 = 0 by omega)
    | ⟨2, _⟩ => rfl

/-- The two vectors the kernel interleaves into its kept pairs. -/
theorem vKept_apply (y : S8x2x128.Idx) : vKept a b r y
    = if (y 1).val = 0 then Mvue.zLo (a (ix4 0 (y 0) 0 (y 2))) (a (ix4 0 (y 0) 1 (y 2))) (b (ix4 0 (y 0) 0 (y 2))) (b (ix4 0 (y 0) 1 (y 2)))
        (r (ix3 0 (y 0) (y 2)))
      else Mvue.zHi (a (ix4 0 (y 0) 0 (y 2))) (a (ix4 0 (y 0) 1 (y 2))) (b (ix4 0 (y 0) 0 (y 2))) (b (ix4 0 (y 0) 1 (y 2)))
        (r (ix3 0 (y 0) (y 2))) := by
  unfold vKept k0_pay32
  unfold k0_pay28 k0_pay29 k0_pay30 k0_pay31 k0_pay27 k0_pay26 k0_pay25 k0_pay24 k0_pay23 k0_pay22 k0_pay19 k0_pay18 k0_pay17 k0_pay20 k0_pay13 k0_pay14 k0_pay15 k0_pay16
  rw [pay9_eq, pay10_eq, pay11_eq, pay12_eq, pay21_eq]
  dsimp only
  have cast : ∀ (v : S8x128.Idx → EReal) (u : Fin 1), shapeCast S8x1x128 v shapeCasts_S8x128_S8x1x128 (ix3 (y 0) u (y 2)) = v (ix2 (y 0) (y 2)) := by
    intro v u
    refine shapeCast_apply _ _ _ (ix2 (y 0) (y 2)) ?_
    rw [Shape.rowMajor_val_two, Shape.rowMajor_val_three]
    show (y 0).val * 128 + (y 2).val = ((y 0).val * 1 + u.val) * 128 + (y 2).val
    omega
  have hy : (y 1).val < 2 := (y 1).isLt
  rw [interleave3]
  by_cases h : (y 1).val = 0
  · rw [if_pos h, if_pos h, cast]; rfl
  · rw [if_neg h, if_neg h, cast]; rfl

end Cert.KernelIdeal.Block
-- ==== Proof.KernI.Block.lean ====
/- One block of the arrays, as the kernel sees it: what each result holds at a row and a lane, in the group's own terms. -/
module

public import proofs.«01_k».proof.Proof.Gen.KernelIdeal.Skeleton
public import proofs.«01_k».proof.Proof.Math.Group
public import Idealize.ShloMosaic.Lib.ValueIdxCore

@[expose] public section

noncomputable section

namespace Cert.KernelIdeal.Block

open Cert.KernelIdeal
open Idealize.ShloMosaic Idealize.ShloMosaic.ValueIdx

variable (X : S1x2048x128.Idx → EReal) (R : S1x512x128.Idx → BitVec 32)

/-- The block's number at row `n` of lane `l`. -/
def el (n : ℕ) (l : Fin 128) : EReal := if h : n < 2048 then X (ix3 0 ⟨n, h⟩ l) else 0
/-- The random word of group `q` of lane `l`. -/
def rnd (q : ℕ) (l : Fin 128) : BitVec 32 := if h : q < 512 then R (ix3 0 ⟨q, h⟩ l) else 0

theorem el_eq (y : S1x2048x128.Idx) : X y = el X (y 1).val (y 2) := by
  unfold el
  rw [dif_pos (idx3_1 y)]
  refine congrArg X ?_
  funext a
  match a with
  | ⟨0, _⟩ => exact Fin.ext (by have : (y 0).val < 1 := (y 0).isLt; show (y 0).val = 0; omega)
  | ⟨1, _⟩ => rfl
  | ⟨2, _⟩ => rfl
where idx3_1 (y : S1x2048x128.Idx) : (y 1).val < 2048 := (y 1).isLt

theorem rnd_eq (y : S1x512x128.Idx) : R y = rnd R (y 1).val (y 2) := by
  unfold rnd
  rw [dif_pos (idx3_1 y)]
  refine congrArg R ?_
  funext a
  match a with
  | ⟨0, _⟩ => exact Fin.ext (by have : (y 0).val < 1 := (y 0).isLt; show (y 0).val = 0; omega)
  | ⟨1, _⟩ => rfl
  | ⟨2, _⟩ => rfl
where idx3_1 (y : S1x512x128.Idx) : (y 1).val < 512 := (y 1).isLt

/-- The gap of group `q`. -/
def gapAt (q : ℕ) (l : Fin 128) : EReal := Mvue.gap (el X (4 * q) l) (el X (4 * q + 1) l) (el X (4 * q + 2) l) (el X (4 * q + 3) l)
/-- The step of group `q`. -/
def stepAt (q : ℕ) (l : Fin 128) : EReal := Mvue.step (el X (4 * q) l) (el X (4 * q + 1) l) (el X (4 * q + 2) l) (el X (4 * q + 3) l)
/-- The first number kept of group `q`. -/
def loAt (q : ℕ) (l : Fin 128) : EReal :=
  Mvue.zLo (el X (4 * q) l) (el X (4 * q + 1) l) (el X (4 * q + 2) l) (el X (4 * q + 3) l) (rnd R q l)
/-- The second number kept of group `q`. -/
def hiAt (q : ℕ) (l : Fin 128) : EReal :=
  Mvue.zHi (el X (4 * q) l) (el X (4 * q + 1) l) (el X (4 * q + 2) l) (el X (4 * q + 3) l) (rnd R q l)
/-- The places kept of group `q`, in the nibble of its row of eight. -/
def wordAt (q : ℕ) (l : Fin 128) : BitVec 32 :=
  Mvue.word (el X (4 * q) l) (el X (4 * q + 1) l) (el X (4 * q + 2) l) (el X (4 * q + 3) l) (rnd R q l) (BitVec.ofNat 32 (q % 8))
/-- The largest step among four groups eight apart. -/
def colMax (q : ℕ) (l : Fin 128) : EReal := max (max (max (stepAt X q l) (stepAt X (q + 8) l)) (stepAt X (q + 16) l)) (stepAt X (q + 24) l)
/-- The largest step of block `p` of thirty-two groups. -/
def amaxAt (p : ℕ) (l : Fin 128) : EReal :=
  max (max (max (max (max (max (max (colMax X (32 * p) l) (colMax X (32 * p + 1) l)) (colMax X (32 * p + 2) l)) (colMax X (32 * p + 3) l))
    (colMax X (32 * p + 4) l)) (colMax X (32 * p + 5) l)) (colMax X (32 * p + 6) l)) (colMax X (32 * p + 7) l)
/-- The code at row `ρ`. -/
def codeAt (ρ : ℕ) (l : Fin 128) : EReal :=
  Mvue.code (if ρ % 2 = 0 then loAt X R (ρ / 2) l else hiAt X R (ρ / 2) l) (gapAt X (ρ / 2) l) (Mvue.inv (amaxAt X (ρ / 64) l))
/-- The places of eight groups, one word. -/
def octAt (w : ℕ) (l : Fin 128) : BitVec 32 :=
  IntOp.ori (IntOp.ori (IntOp.ori (IntOp.ori (IntOp.ori (IntOp.ori (IntOp.ori (wordAt X R (8 * w) l) (wordAt X R (8 * w + 1) l))
    (wordAt X R (8 * w + 2) l)) (wordAt X R (8 * w + 3) l)) (wordAt X R (8 * w + 4) l)) (wordAt X R (8 * w + 5) l))
    (wordAt X R (8 * w + 6) l)) (wordAt X R (8 * w + 7) l)
/-- The byte of places at row `ρ`. -/
def metaAt (ρ : ℕ) (l : Fin 128) : BitVec 8 := (octAt X R (ρ / 4) l).extractLsb' (8 * (ρ % 4)) 8

end Cert.KernelIdeal.Block
-- ==== Proof.KernI.Trip.lean ====
/- One trip of the loop: what its stores into the scratch arrays hold, as functions of the block's inputs. -/
module

public import proofs.«01_k».proof.Proof.KernI.Loops
public import proofs.«01_k».proof.Proof.KernI.Vreg
public import proofs.«01_k».proof.Proof.KernI.Block
public import Idealize.ShloMosaic.Lib.WholeRead
public import Idealize.ShloMosaic.Lib.Pipeline.ReadBack

@[expose] public section

noncomputable section

namespace Cert.KernelIdeal.Block

open Cert.KernelIdeal Cert.KernelIdeal.Gen Cert.KernelIdeal.Own
open Idealize.ShloMosaic Idealize.ShloMosaic.ValueIdx Idealize.ShloMosaic.TcCoe

variable (arg2 : Memref sig .tc .vmem S1x2048x128 .bf16) (harg2 : arg2.IsWhole) (arg3 : Memref sig .tc .vmem S1x512x128 .i32)
  (X_arg2 : BufTy.Contents (Elt Ideal) arg2.view.ty) (X_arg3 : BufTy.Contents (Elt Ideal) arg3.view.ty) (k : Fin k0_t1_loop.trips)

/-- Pairs of rows of the block, loaded from the offset named. -/
abbrev rawAt (off : Fin 4 → ℕ)
    (inb : ∀ a, S1x8x2x128.size a = 0 ∨ off a + (![1, 2, 1, 1] : Fin 4 → ℕ) a * (S1x8x2x128.size a - 1) < S1x1024x2x128.size a) : Raw :=
  View.readAt (Elt Ideal) (arg2.reshape S1x1024x2x128 reshapes_S1x2048x128_S1x1024x2x128.1 reshapes_S1x2048x128_S1x1024x2x128.2 harg2.contiguous).view
    (⟨off, S1x8x2x128.size, ![1, 2, 1, 1], inb⟩ : LoadRect S1x1024x2x128) X_arg2
/-- Rows of random words of the block, loaded from the offset named. -/
abbrev randAt (off : Fin 3 → ℕ) (inb : ∀ a, off a + S1x8x128.size a ≤ S1x512x128.size a) : Rand :=
  View.readAt (Elt Ideal) arg3.view (Rect.unit (s := S1x512x128) off S1x8x128.size inb).toLoadRect X_arg3

/-- What the block of the input reads as. -/
abbrev inX : S1x2048x128.Idx → EReal := arg2.view.read (Elt Ideal) X_arg2
/-- What the block of random words reads as. -/
abbrev inR : S1x512x128.Idx → BitVec 32 := arg3.view.read (Elt Ideal) X_arg3

theorem rawAt_apply (off : Fin 4 → ℕ) (inb) (o : ℕ) (ho : off = ![0, o, 0, 0]) (s : Fin 8) (p : Fin 2) (l : Fin 128) :
    rawAt arg2 harg2 X_arg2 off inb (ix4 0 s p l) = el (inX arg2 X_arg2) (2 * (o + 2 * s.val) + p.val) l := by
  subst ho
  have hb : o + 2 * s.val < 1024 := by
    have h1 := inb 1
    have h2 : o + 2 * (8 - 1) < 1024 := h1.resolve_left (by show ¬ (8 = 0); omega)
    omega
  have e := Shape.reshapeEquiv_eq_of_rowMajor (s := S1x2048x128) (s' := S1x1024x2x128) reshapes_S1x2048x128_S1x1024x2x128.1
    (x := (⟨![0, o, 0, 0], S1x8x2x128.size, ![1, 2, 1, 1], inb⟩ : LoadRect S1x1024x2x128).idx (ix4 0 s p l))
    (y := ix3 (0 : Fin 1) ⟨2 * (o + 2 * s.val) + p.val, by omega⟩ l) (by
      rw [Shape.rowMajor_val_three, Shape.rowMajor_val_four]
      show (0 * 2048 + (2 * (o + 2 * s.val) + p.val)) * 128 + l.val = (((0 + 1 * 0) * 1024 + (o + 2 * s.val)) * 2 + (0 + 1 * p.val)) * 128 + (0 + 1 * l.val)
      omega)
  have := congrArg (arg2.view.read (Elt Ideal) X_arg2) e
  refine Eq.trans this ?_
  rw [el_eq (arg2.view.read (Elt Ideal) X_arg2)]

theorem randAt_apply (off : Fin 3 → ℕ) (inb) (o : ℕ) (ho : off = ![0, o, 0]) (s : Fin 8) (l : Fin 128) :
    randAt arg3 X_arg3 off inb (ix3 0 s l) = rnd (inR arg3 X_arg3) (o + s.val) l := by
  subst ho
  refine Eq.trans (rnd_eq (inR arg3 X_arg3) ((Rect.unit (s := S1x512x128) ![0, o, 0] S1x8x128.size inb).toLoadRect.idx (ix3 0 s l))) ?_
  congr 1
  · show o + 1 * s.val = o + s.val
    omega
  · exact Fin.ext (by show 0 + 1 * l.val = l.val; omega)

/- One block's registers, each as a block of one array of groups. -/

/-- The groups' words, at the rows of the loop's trip. -/
def words (y : S256x128.Idx) : BitVec 32 := wordAt (inX arg2 X_arg2) (inR arg3 X_arg3) (256 * k.val + (y 0).val) (y 1)
/-- The groups' gaps, at the rows of the loop's trip. -/
def gaps (y : S256x128.Idx) : EReal := gapAt (inX arg2 X_arg2) (256 * k.val + (y 0).val) (y 1)
/-- The kept numbers, at the rows of the loop's trip. -/
def kepts (y : S256x2x128.Idx) : EReal :=
  if (y 1).val = 0 then loAt (inX arg2 X_arg2) (inR arg3 X_arg3) (256 * k.val + (y 0).val) (y 2)
  else hiAt (inX arg2 X_arg2) (inR arg3 X_arg3) (256 * k.val + (y 0).val) (y 2)
/-- The largest steps of the columns of four, at the rows of the loop's trip. -/
def colMaxes (y : S64x128.Idx) : EReal :=
  colMax (inX arg2 X_arg2) (256 * k.val + 32 * ((y 0).val / 8) + (y 0).val % 8) (y 1)

section
variable (n : ℕ) (offA offB : Fin 4 → ℕ) (offR : Fin 3 → ℕ) (inA) (inB) (inRr)
  (hA : offA = ![0, 512 * k.val + 16 * n, 0, 0]) (hB : offB = ![0, 512 * k.val + 16 * n + 1, 0, 0]) (hR : offR = ![0, 256 * k.val + 8 * n, 0])

theorem congr4 {α : Type} (f : EReal → EReal → EReal → EReal → α) {x0 x1 x2 x3 y0 y1 y2 y3 : EReal} (h0 : x0 = y0) (h1 : x1 = y1) (h2 : x2 = y2) (h3 : x3 = y3) :
    f x0 x1 x2 x3 = f y0 y1 y2 y3 := by rw [h0, h1, h2, h3]
theorem congr5 {α : Type} (f : EReal → EReal → EReal → EReal → BitVec 32 → α) {x0 x1 x2 x3 y0 y1 y2 y3 : EReal} {b c : BitVec 32}
    (h0 : x0 = y0) (h1 : x1 = y1) (h2 : x2 = y2) (h3 : x3 = y3) (h4 : b = c) :
    f x0 x1 x2 x3 b = f y0 y1 y2 y3 c := by rw [h0, h1, h2, h3, h4]

include hA in
theorem rawA0 (s : Fin 8) (l : Fin 128) : rawAt arg2 harg2 X_arg2 offA inA (ix4 0 s 0 l) = el (inX arg2 X_arg2) (4 * (256 * k.val + (8 * n + s.val))) l := by
  rw [rawAt_apply arg2 harg2 X_arg2 _ _ _ hA]
  congr 1
  show 2 * (512 * k.val + 16 * n + 2 * s.val) + 0 = _
  omega
include hA in
theorem rawA1 (s : Fin 8) (l : Fin 128) : rawAt arg2 harg2 X_arg2 offA inA (ix4 0 s 1 l) = el (inX arg2 X_arg2) (4 * (256 * k.val + (8 * n + s.val)) + 1) l := by
  rw [rawAt_apply arg2 harg2 X_arg2 _ _ _ hA]
  congr 1
  show 2 * (512 * k.val + 16 * n + 2 * s.val) + 1 = _
  omega
include hB in
theorem rawB0 (s : Fin 8) (l : Fin 128) : rawAt arg2 harg2 X_arg2 offB inB (ix4 0 s 0 l) = el (inX arg2 X_arg2) (4 * (256 * k.val + (8 * n + s.val)) + 2) l := by
  rw [rawAt_apply arg2 harg2 X_arg2 _ _ _ hB]
  congr 1
  show 2 * (512 * k.val + 16 * n + 1 + 2 * s.val) + 0 = _
  omega
include hB in
theorem rawB1 (s : Fin 8) (l : Fin 128) : rawAt arg2 harg2 X_arg2 offB inB (ix4 0 s 1 l) = el (inX arg2 X_arg2) (4 * (256 * k.val + (8 * n + s.val)) + 3) l := by
  rw [rawAt_apply arg2 harg2 X_arg2 _ _ _ hB]
  congr 1
  show 2 * (512 * k.val + 16 * n + 1 + 2 * s.val) + 1 = _
  omega
include hR in
theorem randR (s : Fin 8) (l : Fin 128) : randAt arg3 X_arg3 offR inRr (ix3 0 s l) = rnd (inR arg3 X_arg3) (256 * k.val + (8 * n + s.val)) l := by
  rw [randAt_apply arg3 X_arg3 _ _ _ hR]
  congr 1
  omega

include hA hB hR in
theorem word_piece (inb : ∀ a, (![8 * n, 0] : Fin 2 → ℕ) a + S8x128.size a ≤ S256x128.size a) (x : S8x128.Idx) :
    vWord (rawAt arg2 harg2 X_arg2 offA inA) (rawAt arg2 harg2 X_arg2 offB inB) (randAt arg3 X_arg3 offR inRr) x =
      words arg2 arg3 X_arg2 X_arg3 k ((Rect.unit (s := S256x128) ![8 * n, 0] S8x128.size inb).emb x) := by
  have h0 : (x 0).val < 8 := (x 0).isLt
  refine (vWord_apply _ _ _ x).trans ((congr5 (fun x0 x1 x2 x3 b => Mvue.word x0 x1 x2 x3 b _) (rawA0 arg2 harg2 X_arg2 k n _ _ hA (x 0) (x 1)) (rawA1 arg2 harg2 X_arg2 k n _ _ hA (x 0) (x 1)) (rawB0 arg2 harg2 X_arg2 k n _ _ hB (x 0) (x 1))
    (rawB1 arg2 harg2 X_arg2 k n _ _ hB (x 0) (x 1)) (randR arg3 X_arg3 k n _ _ hR (x 0) (x 1))).trans ?_)
  unfold words wordAt
  have e0 : ((Rect.unit (s := S256x128) ![8 * n, 0] S8x128.size inb).emb x 0).val = 8 * n + (x 0).val := by
    show 8 * n + 1 * (x 0).val = _
    rw [Nat.one_mul]
  have e1 : (Rect.unit (s := S256x128) ![8 * n, 0] S8x128.size inb).emb x 1 = (x 1 : Fin 128) :=
    Fin.ext (by show 0 + 1 * (x 1).val = (x 1).val; omega)
  have e3 : (256 * k.val + (8 * n + (x 0).val)) % 8 = (x 0).val := by omega
  rw [e0, e1, e3]

include hA hB hR in
theorem kept_piece (inb : ∀ a, (![8 * n, 0, 0] : Fin 3 → ℕ) a + S8x2x128.size a ≤ S256x2x128.size a) (x : S8x2x128.Idx) :
    vKept (rawAt arg2 harg2 X_arg2 offA inA) (rawAt arg2 harg2 X_arg2 offB inB) (randAt arg3 X_arg3 offR inRr) x =
      kepts arg2 arg3 X_arg2 X_arg3 k ((Rect.unit (s := S256x2x128) ![8 * n, 0, 0] S8x2x128.size inb).emb x) := by
  refine (vKept_apply _ _ _ x).trans ((congr5 (fun x0 x1 x2 x3 b => if (x 1).val = 0 then Mvue.zLo x0 x1 x2 x3 b else Mvue.zHi x0 x1 x2 x3 b) (rawA0 arg2 harg2 X_arg2 k n _ _ hA (x 0) (x 2)) (rawA1 arg2 harg2 X_arg2 k n _ _ hA (x 0) (x 2)) (rawB0 arg2 harg2 X_arg2 k n _ _ hB (x 0) (x 2))
    (rawB1 arg2 harg2 X_arg2 k n _ _ hB (x 0) (x 2)) (randR arg3 X_arg3 k n _ _ hR (x 0) (x 2))).trans ?_)
  show (if (x 1).val = 0 then Mvue.zLo _ _ _ _ _ else Mvue.zHi _ _ _ _ _) = _
  unfold kepts loAt hiAt
  have e0 : ((Rect.unit (s := S256x2x128) ![8 * n, 0, 0] S8x2x128.size inb).emb x 0).val = 8 * n + (x 0).val := by
    show 8 * n + 1 * (x 0).val = _
    rw [Nat.one_mul]
  have e1 : ((Rect.unit (s := S256x2x128) ![8 * n, 0, 0] S8x2x128.size inb).emb x 1).val = (x 1).val := by
    show 0 + 1 * (x 1).val = (x 1).val; omega
  have e2 : (Rect.unit (s := S256x2x128) ![8 * n, 0, 0] S8x2x128.size inb).emb x 2 = (x 2 : Fin 128) :=
    Fin.ext (by show 0 + 1 * (x 2).val = (x 2).val; omega)
  rw [e0, e1, e2]

include hA hB in
theorem gap_at (x : S8x128.Idx) :
    vGap (rawAt arg2 harg2 X_arg2 offA inA) (rawAt arg2 harg2 X_arg2 offB inB) x = gapAt (inX arg2 X_arg2) (256 * k.val + (8 * n + (x 0).val)) (x 1) := by
  exact (vGap_apply _ _ x).trans (congr4 Mvue.gap (rawA0 arg2 harg2 X_arg2 k n _ _ hA (x 0) (x 1)) (rawA1 arg2 harg2 X_arg2 k n _ _ hA (x 0) (x 1)) (rawB0 arg2 harg2 X_arg2 k n _ _ hB (x 0) (x 1))
    (rawB1 arg2 harg2 X_arg2 k n _ _ hB (x 0) (x 1)))

include hA hB in
theorem step_at (x : S8x128.Idx) :
    vStep (rawAt arg2 harg2 X_arg2 offA inA) (rawAt arg2 harg2 X_arg2 offB inB) x = stepAt (inX arg2 X_arg2) (256 * k.val + (8 * n + (x 0).val)) (x 1) := by
  exact (vStep_apply _ _ x).trans (congr4 Mvue.step (rawA0 arg2 harg2 X_arg2 k n _ _ hA (x 0) (x 1)) (rawA1 arg2 harg2 X_arg2 k n _ _ hA (x 0) (x 1)) (rawB0 arg2 harg2 X_arg2 k n _ _ hB (x 0) (x 1))
    (rawB1 arg2 harg2 X_arg2 k n _ _ hB (x 0) (x 1)))

include hA hB in
theorem gap_piece (inb : ∀ a, (![8 * n, 0] : Fin 2 → ℕ) a + S8x128.size a ≤ S256x128.size a) (x : S8x128.Idx) :
    shapeCast S8x128 (vGap (rawAt arg2 harg2 X_arg2 offA inA) (rawAt arg2 harg2 X_arg2 offB inB)) shapeCasts_S8x128_S8x128 x =
      gaps arg2 X_arg2 k ((Rect.unit (s := S256x128) ![8 * n, 0] S8x128.size inb).emb x) := by
  rw [shapeCast_self, gap_at arg2 harg2 X_arg2 k n offA offB inA inB hA hB]
  unfold gaps
  have e0 : ((Rect.unit (s := S256x128) ![8 * n, 0] S8x128.size inb).emb x 0).val = 8 * n + (x 0).val := by
    show 8 * n + 1 * (x 0).val = _
    rw [Nat.one_mul]
  have e1 : (Rect.unit (s := S256x128) ![8 * n, 0] S8x128.size inb).emb x 1 = (x 1 : Fin 128) :=
    Fin.ext (by show 0 + 1 * (x 1).val = (x 1).val; omega)
  rw [e0, e1]

end

/-- The largest of four registers, stored. -/
def vMax (s0 s1 s2 s3 : FVec Ideal S8x128 .f32) : FVec Ideal S8x128 .f32 :=
  shapeCast S8x128 (maximumf (maximumf (maximumf s0 s1) s2) s3) shapeCasts_S8x128_S8x128

theorem max_piece (n : ℕ) (s0 s1 s2 s3 : FVec Ideal S8x128 .f32)
    (h0 : ∀ x, s0 x = stepAt (inX arg2 X_arg2) (256 * k.val + (8 * (4 * n) + (x 0).val)) (x 1))
    (h1 : ∀ x, s1 x = stepAt (inX arg2 X_arg2) (256 * k.val + (8 * (4 * n + 1) + (x 0).val)) (x 1))
    (h2 : ∀ x, s2 x = stepAt (inX arg2 X_arg2) (256 * k.val + (8 * (4 * n + 2) + (x 0).val)) (x 1))
    (h3 : ∀ x, s3 x = stepAt (inX arg2 X_arg2) (256 * k.val + (8 * (4 * n + 3) + (x 0).val)) (x 1))
    (inb : ∀ a, (![8 * n, 0] : Fin 2 → ℕ) a + S8x128.size a ≤ S64x128.size a) (x : S8x128.Idx) :
    vMax s0 s1 s2 s3 x = colMaxes arg2 X_arg2 k ((Rect.unit (s := S64x128) ![8 * n, 0] S8x128.size inb).emb x) := by
  have hx : (x 0).val < 8 := (x 0).isLt
  unfold vMax
  rw [shapeCast_self]
  show max (max (max (s0 x) (s1 x)) (s2 x)) (s3 x) = _
  rw [h0, h1, h2, h3]
  unfold colMaxes colMax
  have e0 : ((Rect.unit (s := S64x128) ![8 * n, 0] S8x128.size inb).emb x 0).val = 8 * n + 1 * (x 0).val := rfl
  have e1 : (Rect.unit (s := S64x128) ![8 * n, 0] S8x128.size inb).emb x 1 = (x 1 : Fin 128) :=
    Fin.ext (by show 0 + 1 * (x 1).val = (x 1).val; omega)
  rw [e0, e1]
  have a1 : 256 * k.val + 32 * ((8 * n + 1 * (x 0).val) / 8) + (8 * n + 1 * (x 0).val) % 8 = 256 * k.val + (8 * (4 * n) + (x 0).val) := by omega
  have a2 : 256 * k.val + (8 * (4 * n) + (x 0).val) + 8 = 256 * k.val + (8 * (4 * n + 1) + (x 0).val) := by omega
  have a3 : 256 * k.val + (8 * (4 * n) + (x 0).val) + 16 = 256 * k.val + (8 * (4 * n + 2) + (x 0).val) := by omega
  have a4 : 256 * k.val + (8 * (4 * n) + (x 0).val) + 24 = 256 * k.val + (8 * (4 * n + 3) + (x 0).val) := by omega
  rw [a1, a2, a3, a4]

theorem at0A : k0_off1 k = ![0, 512 * k.val + 16 * 0, 0, 0] := by revert k; decide +kernel
theorem at0B : k0_off2 k = ![0, 512 * k.val + 16 * 0 + 1, 0, 0] := by revert k; decide +kernel
theorem at0R : k0_off3 k 0#32 = ![0, 256 * k.val + 8 * 0, 0] := by revert k; decide +kernel
theorem at1A : k0_off4 k = ![0, 512 * k.val + 16 * 1, 0, 0] := by revert k; decide +kernel
theorem at1B : k0_off5 k = ![0, 512 * k.val + 16 * 1 + 1, 0, 0] := by revert k; decide +kernel
theorem at1R : k0_off3 k 8#32 = ![0, 256 * k.val + 8 * 1, 0] := by revert k; decide +kernel
theorem at2A : k0_off6 k = ![0, 512 * k.val + 16 * 2, 0, 0] := by revert k; decide +kernel
theorem at2B : k0_off7 k = ![0, 512 * k.val + 16 * 2 + 1, 0, 0] := by revert k; decide +kernel
theorem at2R : k0_off3 k 16#32 = ![0, 256 * k.val + 8 * 2, 0] := by revert k; decide +kernel
theorem at3A : k0_off8 k = ![0, 512 * k.val + 16 * 3, 0, 0] := by revert k; decide +kernel
theorem at3B : k0_off9 k = ![0, 512 * k.val + 16 * 3 + 1, 0, 0] := by revert k; decide +kernel
theorem at3R : k0_off3 k 24#32 = ![0, 256 * k.val + 8 * 3, 0] := by revert k; decide +kernel
theorem at4A : k0_off10 k = ![0, 512 * k.val + 16 * 4, 0, 0] := by revert k; decide +kernel
theorem at4B : k0_off11 k = ![0, 512 * k.val + 16 * 4 + 1, 0, 0] := by revert k; decide +kernel
theorem at4R : k0_off3 k 32#32 = ![0, 256 * k.val + 8 * 4, 0] := by revert k; decide +kernel
theorem at5A : k0_off12 k = ![0, 512 * k.val + 16 * 5, 0, 0] := by revert k; decide +kernel
theorem at5B : k0_off13 k = ![0, 512 * k.val + 16 * 5 + 1, 0, 0] := by revert k; decide +kernel
theorem at5R : k0_off3 k 40#32 = ![0, 256 * k.val + 8 * 5, 0] := by revert k; decide +kernel
theorem at6A : k0_off14 k = ![0, 512 * k.val + 16 * 6, 0, 0] := by revert k; decide +kernel
theorem at6B : k0_off15 k = ![0, 512 * k.val + 16 * 6 + 1, 0, 0] := by revert k; decide +kernel
theorem at6R : k0_off3 k 48#32 = ![0, 256 * k.val + 8 * 6, 0] := by revert k; decide +kernel
theorem at7A : k0_off16 k = ![0, 512 * k.val + 16 * 7, 0, 0] := by revert k; decide +kernel
theorem at7B : k0_off17 k = ![0, 512 * k.val + 16 * 7 + 1, 0, 0] := by revert k; decide +kernel
theorem at7R : k0_off3 k 56#32 = ![0, 256 * k.val + 8 * 7, 0] := by revert k; decide +kernel
theorem at8A : k0_off18 k = ![0, 512 * k.val + 16 * 8, 0, 0] := by revert k; decide +kernel
theorem at8B : k0_off19 k = ![0, 512 * k.val + 16 * 8 + 1, 0, 0] := by revert k; decide +kernel
theorem at8R : k0_off3 k 64#32 = ![0, 256 * k.val + 8 * 8, 0] := by revert k; decide +kernel
theorem at9A : k0_off20 k = ![0, 512 * k.val + 16 * 9, 0, 0] := by revert k; decide +kernel
theorem at9B : k0_off21 k = ![0, 512 * k.val + 16 * 9 + 1, 0, 0] := by revert k; decide +kernel
theorem at9R : k0_off3 k 72#32 = ![0, 256 * k.val + 8 * 9, 0] := by revert k; decide +kernel
theorem at10A : k0_off22 k = ![0, 512 * k.val + 16 * 10, 0, 0] := by revert k; decide +kernel
theorem at10B : k0_off23 k = ![0, 512 * k.val + 16 * 10 + 1, 0, 0] := by revert k; decide +kernel
theorem at10R : k0_off3 k 80#32 = ![0, 256 * k.val + 8 * 10, 0] := by revert k; decide +kernel
theorem at11A : k0_off24 k = ![0, 512 * k.val + 16 * 11, 0, 0] := by revert k; decide +kernel
theorem at11B : k0_off25 k = ![0, 512 * k.val + 16 * 11 + 1, 0, 0] := by revert k; decide +kernel
theorem at11R : k0_off3 k 88#32 = ![0, 256 * k.val + 8 * 11, 0] := by revert k; decide +kernel
theorem at12A : k0_off26 k = ![0, 512 * k.val + 16 * 12, 0, 0] := by revert k; decide +kernel
theorem at12B : k0_off27 k = ![0, 512 * k.val + 16 * 12 + 1, 0, 0] := by revert k; decide +kernel
theorem at12R : k0_off3 k 96#32 = ![0, 256 * k.val + 8 * 12, 0] := by revert k; decide +kernel
theorem at13A : k0_off28 k = ![0, 512 * k.val + 16 * 13, 0, 0] := by revert k; decide +kernel
theorem at13B : k0_off29 k = ![0, 512 * k.val + 16 * 13 + 1, 0, 0] := by revert k; decide +kernel
theorem at13R : k0_off3 k 104#32 = ![0, 256 * k.val + 8 * 13, 0] := by revert k; decide +kernel
theorem at14A : k0_off30 k = ![0, 512 * k.val + 16 * 14, 0, 0] := by revert k; decide +kernel
theorem at14B : k0_off31 k = ![0, 512 * k.val + 16 * 14 + 1, 0, 0] := by revert k; decide +kernel
theorem at14R : k0_off3 k 112#32 = ![0, 256 * k.val + 8 * 14, 0] := by revert k; decide +kernel
theorem at15A : k0_off32 k = ![0, 512 * k.val + 16 * 15, 0, 0] := by revert k; decide +kernel
theorem at15B : k0_off33 k = ![0, 512 * k.val + 16 * 15 + 1, 0, 0] := by revert k; decide +kernel
theorem at15R : k0_off3 k 120#32 = ![0, 256 * k.val + 8 * 15, 0] := by revert k; decide +kernel
theorem at16A : k0_off34 k = ![0, 512 * k.val + 16 * 16, 0, 0] := by revert k; decide +kernel
theorem at16B : k0_off35 k = ![0, 512 * k.val + 16 * 16 + 1, 0, 0] := by revert k; decide +kernel
theorem at16R : k0_off3 k 128#32 = ![0, 256 * k.val + 8 * 16, 0] := by revert k; decide +kernel
theorem at17A : k0_off36 k = ![0, 512 * k.val + 16 * 17, 0, 0] := by revert k; decide +kernel
theorem at17B : k0_off37 k = ![0, 512 * k.val + 16 * 17 + 1, 0, 0] := by revert k; decide +kernel
theorem at17R : k0_off3 k 136#32 = ![0, 256 * k.val + 8 * 17, 0] := by revert k; decide +kernel
theorem at18A : k0_off38 k = ![0, 512 * k.val + 16 * 18, 0, 0] := by revert k; decide +kernel
theorem at18B : k0_off39 k = ![0, 512 * k.val + 16 * 18 + 1, 0, 0] := by revert k; decide +kernel
theorem at18R : k0_off3 k 144#32 = ![0, 256 * k.val + 8 * 18, 0] := by revert k; decide +kernel
theorem at19A : k0_off40 k = ![0, 512 * k.val + 16 * 19, 0, 0] := by revert k; decide +kernel
theorem at19B : k0_off41 k = ![0, 512 * k.val + 16 * 19 + 1, 0, 0] := by revert k; decide +kernel
theorem at19R : k0_off3 k 152#32 = ![0, 256 * k.val + 8 * 19, 0] := by revert k; decide +kernel
theorem at20A : k0_off42 k = ![0, 512 * k.val + 16 * 20, 0, 0] := by revert k; decide +kernel
theorem at20B : k0_off43 k = ![0, 512 * k.val + 16 * 20 + 1, 0, 0] := by revert k; decide +kernel
theorem at20R : k0_off3 k 160#32 = ![0, 256 * k.val + 8 * 20, 0] := by revert k; decide +kernel
theorem at21A : k0_off44 k = ![0, 512 * k.val + 16 * 21, 0, 0] := by revert k; decide +kernel
theorem at21B : k0_off45 k = ![0, 512 * k.val + 16 * 21 + 1, 0, 0] := by revert k; decide +kernel
theorem at21R : k0_off3 k 168#32 = ![0, 256 * k.val + 8 * 21, 0] := by revert k; decide +kernel
theorem at22A : k0_off46 k = ![0, 512 * k.val + 16 * 22, 0, 0] := by revert k; decide +kernel
theorem at22B : k0_off47 k = ![0, 512 * k.val + 16 * 22 + 1, 0, 0] := by revert k; decide +kernel
theorem at22R : k0_off3 k 176#32 = ![0, 256 * k.val + 8 * 22, 0] := by revert k; decide +kernel
theorem at23A : k0_off48 k = ![0, 512 * k.val + 16 * 23, 0, 0] := by revert k; decide +kernel
theorem at23B : k0_off49 k = ![0, 512 * k.val + 16 * 23 + 1, 0, 0] := by revert k; decide +kernel
theorem at23R : k0_off3 k 184#32 = ![0, 256 * k.val + 8 * 23, 0] := by revert k; decide +kernel
theorem at24A : k0_off50 k = ![0, 512 * k.val + 16 * 24, 0, 0] := by revert k; decide +kernel
theorem at24B : k0_off51 k = ![0, 512 * k.val + 16 * 24 + 1, 0, 0] := by revert k; decide +kernel
theorem at24R : k0_off3 k 192#32 = ![0, 256 * k.val + 8 * 24, 0] := by revert k; decide +kernel
theorem at25A : k0_off52 k = ![0, 512 * k.val + 16 * 25, 0, 0] := by revert k; decide +kernel
theorem at25B : k0_off53 k = ![0, 512 * k.val + 16 * 25 + 1, 0, 0] := by revert k; decide +kernel
theorem at25R : k0_off3 k 200#32 = ![0, 256 * k.val + 8 * 25, 0] := by revert k; decide +kernel
theorem at26A : k0_off54 k = ![0, 512 * k.val + 16 * 26, 0, 0] := by revert k; decide +kernel
theorem at26B : k0_off55 k = ![0, 512 * k.val + 16 * 26 + 1, 0, 0] := by revert k; decide +kernel
theorem at26R : k0_off3 k 208#32 = ![0, 256 * k.val + 8 * 26, 0] := by revert k; decide +kernel
theorem at27A : k0_off56 k = ![0, 512 * k.val + 16 * 27, 0, 0] := by revert k; decide +kernel
theorem at27B : k0_off57 k = ![0, 512 * k.val + 16 * 27 + 1, 0, 0] := by revert k; decide +kernel
theorem at27R : k0_off3 k 216#32 = ![0, 256 * k.val + 8 * 27, 0] := by revert k; decide +kernel
theorem at28A : k0_off58 k = ![0, 512 * k.val + 16 * 28, 0, 0] := by revert k; decide +kernel
theorem at28B : k0_off59 k = ![0, 512 * k.val + 16 * 28 + 1, 0, 0] := by revert k; decide +kernel
theorem at28R : k0_off3 k 224#32 = ![0, 256 * k.val + 8 * 28, 0] := by revert k; decide +kernel
theorem at29A : k0_off60 k = ![0, 512 * k.val + 16 * 29, 0, 0] := by revert k; decide +kernel
theorem at29B : k0_off61 k = ![0, 512 * k.val + 16 * 29 + 1, 0, 0] := by revert k; decide +kernel
theorem at29R : k0_off3 k 232#32 = ![0, 256 * k.val + 8 * 29, 0] := by revert k; decide +kernel
theorem at30A : k0_off62 k = ![0, 512 * k.val + 16 * 30, 0, 0] := by revert k; decide +kernel
theorem at30B : k0_off63 k = ![0, 512 * k.val + 16 * 30 + 1, 0, 0] := by revert k; decide +kernel
theorem at30R : k0_off3 k 240#32 = ![0, 256 * k.val + 8 * 30, 0] := by revert k; decide +kernel
theorem at31A : k0_off64 k = ![0, 512 * k.val + 16 * 31, 0, 0] := by revert k; decide +kernel
theorem at31B : k0_off65 k = ![0, 512 * k.val + 16 * 31 + 1, 0, 0] := by revert k; decide +kernel
theorem at31R : k0_off3 k 248#32 = ![0, 256 * k.val + 8 * 31, 0] := by revert k; decide +kernel

end Cert.KernelIdeal.Block
-- ==== Proof.KernI.TripWords.lean ====
/- One trip of the loop: the words it stores. -/
module

public import proofs.«01_k».proof.Proof.KernI.Trip

@[expose] public section

noncomputable section

namespace Cert.KernelIdeal.Block

open Cert.KernelIdeal Cert.KernelIdeal.Gen Cert.KernelIdeal.Own
open Idealize.ShloMosaic Idealize.ShloMosaic.ValueIdx Idealize.ShloMosaic.TcCoe

variable (arg2 : Memref sig .tc .vmem S1x2048x128 .bf16) (harg2 : arg2.IsWhole) (arg3 : Memref sig .tc .vmem S1x512x128 .i32)
  (X_arg2 : BufTy.Contents (Elt Ideal) arg2.view.ty) (X_arg3 : BufTy.Contents (Elt Ideal) arg3.view.ty) (k : Fin k0_t1_loop.trips)

/-- The words stored are the groups' words. -/
theorem words_pieces : View.PiecesOf (words arg2 arg3 X_arg2 X_arg3 k) (trip_k0_t1.sl.HW_arg9_32 (F := Ideal) arg2 harg2 arg3 X_arg2 X_arg3 k) := by
  unfold trip_k0_t1.sl.HW_arg9_32
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · intro x; exact word_piece arg2 harg2 arg3 X_arg2 X_arg3 k 31 (k0_off64 k) (k0_off65 k) (k0_off3 k 248#32) (k0_off64_inb k) (k0_off65_inb k) (k0_off3_inb k 31) (at31A k) (at31B k) (at31R k) (inb_S256x128_S8x128_248_0) x
  · intro x; exact word_piece arg2 harg2 arg3 X_arg2 X_arg3 k 30 (k0_off62 k) (k0_off63 k) (k0_off3 k 240#32) (k0_off62_inb k) (k0_off63_inb k) (k0_off3_inb k 30) (at30A k) (at30B k) (at30R k) (inb_S256x128_S8x128_240_0) x
  · intro x; exact word_piece arg2 harg2 arg3 X_arg2 X_arg3 k 29 (k0_off60 k) (k0_off61 k) (k0_off3 k 232#32) (k0_off60_inb k) (k0_off61_inb k) (k0_off3_inb k 29) (at29A k) (at29B k) (at29R k) (inb_S256x128_S8x128_232_0) x
  · intro x; exact word_piece arg2 harg2 arg3 X_arg2 X_arg3 k 28 (k0_off58 k) (k0_off59 k) (k0_off3 k 224#32) (k0_off58_inb k) (k0_off59_inb k) (k0_off3_inb k 28) (at28A k) (at28B k) (at28R k) (inb_S256x128_S8x128_224_0) x
  · intro x; exact word_piece arg2 harg2 arg3 X_arg2 X_arg3 k 27 (k0_off56 k) (k0_off57 k) (k0_off3 k 216#32) (k0_off56_inb k) (k0_off57_inb k) (k0_off3_inb k 27) (at27A k) (at27B k) (at27R k) (inb_S256x128_S8x128_216_0) x
  · intro x; exact word_piece arg2 harg2 arg3 X_arg2 X_arg3 k 26 (k0_off54 k) (k0_off55 k) (k0_off3 k 208#32) (k0_off54_inb k) (k0_off55_inb k) (k0_off3_inb k 26) (at26A k) (at26B k) (at26R k) (inb_S256x128_S8x128_208_0) x
  · intro x; exact word_piece arg2 harg2 arg3 X_arg2 X_arg3 k 25 (k0_off52 k) (k0_off53 k) (k0_off3 k 200#32) (k0_off52_inb k) (k0_off53_inb k) (k0_off3_inb k 25) (at25A k) (at25B k) (at25R k) (inb_S256x128_S8x128_200_0) x
  · intro x; exact word_piece arg2 harg2 arg3 X_arg2 X_arg3 k 24 (k0_off50 k) (k0_off51 k) (k0_off3 k 192#32) (k0_off50_inb k) (k0_off51_inb k) (k0_off3_inb k 24) (at24A k) (at24B k) (at24R k) (inb_S256x128_S8x128_192_0) x
  · intro x; exact word_piece arg2 harg2 arg3 X_arg2 X_arg3 k 23 (k0_off48 k) (k0_off49 k) (k0_off3 k 184#32) (k0_off48_inb k) (k0_off49_inb k) (k0_off3_inb k 23) (at23A k) (at23B k) (at23R k) (inb_S256x128_S8x128_184_0) x
  · intro x; exact word_piece arg2 harg2 arg3 X_arg2 X_arg3 k 22 (k0_off46 k) (k0_off47 k) (k0_off3 k 176#32) (k0_off46_inb k) (k0_off47_inb k) (k0_off3_inb k 22) (at22A k) (at22B k) (at22R k) (inb_S256x128_S8x128_176_0) x
  · intro x; exact word_piece arg2 harg2 arg3 X_arg2 X_arg3 k 21 (k0_off44 k) (k0_off45 k) (k0_off3 k 168#32) (k0_off44_inb k) (k0_off45_inb k) (k0_off3_inb k 21) (at21A k) (at21B k) (at21R k) (inb_S256x128_S8x128_168_0) x
  · intro x; exact word_piece arg2 harg2 arg3 X_arg2 X_arg3 k 20 (k0_off42 k) (k0_off43 k) (k0_off3 k 160#32) (k0_off42_inb k) (k0_off43_inb k) (k0_off3_inb k 20) (at20A k) (at20B k) (at20R k) (inb_S256x128_S8x128_160_0) x
  · intro x; exact word_piece arg2 harg2 arg3 X_arg2 X_arg3 k 19 (k0_off40 k) (k0_off41 k) (k0_off3 k 152#32) (k0_off40_inb k) (k0_off41_inb k) (k0_off3_inb k 19) (at19A k) (at19B k) (at19R k) (inb_S256x128_S8x128_152_0) x
  · intro x; exact word_piece arg2 harg2 arg3 X_arg2 X_arg3 k 18 (k0_off38 k) (k0_off39 k) (k0_off3 k 144#32) (k0_off38_inb k) (k0_off39_inb k) (k0_off3_inb k 18) (at18A k) (at18B k) (at18R k) (inb_S256x128_S8x128_144_0) x
  · intro x; exact word_piece arg2 harg2 arg3 X_arg2 X_arg3 k 17 (k0_off36 k) (k0_off37 k) (k0_off3 k 136#32) (k0_off36_inb k) (k0_off37_inb k) (k0_off3_inb k 17) (at17A k) (at17B k) (at17R k) (inb_S256x128_S8x128_136_0) x
  · intro x; exact word_piece arg2 harg2 arg3 X_arg2 X_arg3 k 16 (k0_off34 k) (k0_off35 k) (k0_off3 k 128#32) (k0_off34_inb k) (k0_off35_inb k) (k0_off3_inb k 16) (at16A k) (at16B k) (at16R k) (inb_S256x128_S8x128_128_0) x
  · intro x; exact word_piece arg2 harg2 arg3 X_arg2 X_arg3 k 15 (k0_off32 k) (k0_off33 k) (k0_off3 k 120#32) (k0_off32_inb k) (k0_off33_inb k) (k0_off3_inb k 15) (at15A k) (at15B k) (at15R k) (inb_S256x128_S8x128_120_0) x
  · intro x; exact word_piece arg2 harg2 arg3 X_arg2 X_arg3 k 14 (k0_off30 k) (k0_off31 k) (k0_off3 k 112#32) (k0_off30_inb k) (k0_off31_inb k) (k0_off3_inb k 14) (at14A k) (at14B k) (at14R k) (inb_S256x128_S8x128_112_0) x
  · intro x; exact word_piece arg2 harg2 arg3 X_arg2 X_arg3 k 13 (k0_off28 k) (k0_off29 k) (k0_off3 k 104#32) (k0_off28_inb k) (k0_off29_inb k) (k0_off3_inb k 13) (at13A k) (at13B k) (at13R k) (inb_S256x128_S8x128_104_0) x
  · intro x; exact word_piece arg2 harg2 arg3 X_arg2 X_arg3 k 12 (k0_off26 k) (k0_off27 k) (k0_off3 k 96#32) (k0_off26_inb k) (k0_off27_inb k) (k0_off3_inb k 12) (at12A k) (at12B k) (at12R k) (inb_S256x128_S8x128_96_0) x
  · intro x; exact word_piece arg2 harg2 arg3 X_arg2 X_arg3 k 11 (k0_off24 k) (k0_off25 k) (k0_off3 k 88#32) (k0_off24_inb k) (k0_off25_inb k) (k0_off3_inb k 11) (at11A k) (at11B k) (at11R k) (inb_S256x128_S8x128_88_0) x
  · intro x; exact word_piece arg2 harg2 arg3 X_arg2 X_arg3 k 10 (k0_off22 k) (k0_off23 k) (k0_off3 k 80#32) (k0_off22_inb k) (k0_off23_inb k) (k0_off3_inb k 10) (at10A k) (at10B k) (at10R k) (inb_S256x128_S8x128_80_0) x
  · intro x; exact word_piece arg2 harg2 arg3 X_arg2 X_arg3 k 9 (k0_off20 k) (k0_off21 k) (k0_off3 k 72#32) (k0_off20_inb k) (k0_off21_inb k) (k0_off3_inb k 9) (at9A k) (at9B k) (at9R k) (inb_S256x128_S8x128_72_0) x
  · intro x; exact word_piece arg2 harg2 arg3 X_arg2 X_arg3 k 8 (k0_off18 k) (k0_off19 k) (k0_off3 k 64#32) (k0_off18_inb k) (k0_off19_inb k) (k0_off3_inb k 8) (at8A k) (at8B k) (at8R k) (inb_S256x128_S8x128_64_0) x
  · intro x; exact word_piece arg2 harg2 arg3 X_arg2 X_arg3 k 7 (k0_off16 k) (k0_off17 k) (k0_off3 k 56#32) (k0_off16_inb k) (k0_off17_inb k) (k0_off3_inb k 7) (at7A k) (at7B k) (at7R k) (inb_S256x128_S8x128_56_0) x
  · intro x; exact word_piece arg2 harg2 arg3 X_arg2 X_arg3 k 6 (k0_off14 k) (k0_off15 k) (k0_off3 k 48#32) (k0_off14_inb k) (k0_off15_inb k) (k0_off3_inb k 6) (at6A k) (at6B k) (at6R k) (inb_S256x128_S8x128_48_0) x
  · intro x; exact word_piece arg2 harg2 arg3 X_arg2 X_arg3 k 5 (k0_off12 k) (k0_off13 k) (k0_off3 k 40#32) (k0_off12_inb k) (k0_off13_inb k) (k0_off3_inb k 5) (at5A k) (at5B k) (at5R k) (inb_S256x128_S8x128_40_0) x
  · intro x; exact word_piece arg2 harg2 arg3 X_arg2 X_arg3 k 4 (k0_off10 k) (k0_off11 k) (k0_off3 k 32#32) (k0_off10_inb k) (k0_off11_inb k) (k0_off3_inb k 4) (at4A k) (at4B k) (at4R k) (inb_S256x128_S8x128_32_0) x
  · intro x; exact word_piece arg2 harg2 arg3 X_arg2 X_arg3 k 3 (k0_off8 k) (k0_off9 k) (k0_off3 k 24#32) (k0_off8_inb k) (k0_off9_inb k) (k0_off3_inb k 3) (at3A k) (at3B k) (at3R k) (inb_S256x128_S8x128_24_0) x
  · intro x; exact word_piece arg2 harg2 arg3 X_arg2 X_arg3 k 2 (k0_off6 k) (k0_off7 k) (k0_off3 k 16#32) (k0_off6_inb k) (k0_off7_inb k) (k0_off3_inb k 2) (at2A k) (at2B k) (at2R k) (inb_S256x128_S8x128_16_0) x
  · intro x; exact word_piece arg2 harg2 arg3 X_arg2 X_arg3 k 1 (k0_off4 k) (k0_off5 k) (k0_off3 k 8#32) (k0_off4_inb k) (k0_off5_inb k) (k0_off3_inb k 1) (at1A k) (at1B k) (at1R k) (inb_S256x128_S8x128_8_0) x
  · intro x; exact word_piece arg2 harg2 arg3 X_arg2 X_arg3 k 0 (k0_off1 k) (k0_off2 k) (k0_off3 k 0#32) (k0_off1_inb k) (k0_off2_inb k) (k0_off3_inb k 0) (at0A k) (at0B k) (at0R k) (inb_S256x128_S8x128_0_0) x

end Cert.KernelIdeal.Block
-- ==== Proof.KernI.TripGaps.lean ====
/- One trip of the loop: the gaps it stores. -/
module

public import proofs.«01_k».proof.Proof.KernI.Trip

@[expose] public section

noncomputable section

namespace Cert.KernelIdeal.Block

open Cert.KernelIdeal Cert.KernelIdeal.Gen Cert.KernelIdeal.Own
open Idealize.ShloMosaic Idealize.ShloMosaic.ValueIdx Idealize.ShloMosaic.TcCoe

variable (arg2 : Memref sig .tc .vmem S1x2048x128 .bf16) (harg2 : arg2.IsWhole) (arg3 : Memref sig .tc .vmem S1x512x128 .i32)
  (X_arg2 : BufTy.Contents (Elt Ideal) arg2.view.ty) (X_arg3 : BufTy.Contents (Elt Ideal) arg3.view.ty) (k : Fin k0_t1_loop.trips)

/-- The gaps stored are the groups' gaps. -/
theorem gaps_pieces : View.PiecesOf (gaps arg2 X_arg2 k) (trip_k0_t1.sl.HW_arg8_32 (F := Ideal) arg2 harg2 X_arg2 k) := by
  unfold trip_k0_t1.sl.HW_arg8_32
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · intro x; exact gap_piece arg2 harg2 X_arg2 k 31 (k0_off64 k) (k0_off65 k) (k0_off64_inb k) (k0_off65_inb k) (at31A k) (at31B k) (inb_S256x128_S8x128_248_0) x
  · intro x; exact gap_piece arg2 harg2 X_arg2 k 30 (k0_off62 k) (k0_off63 k) (k0_off62_inb k) (k0_off63_inb k) (at30A k) (at30B k) (inb_S256x128_S8x128_240_0) x
  · intro x; exact gap_piece arg2 harg2 X_arg2 k 29 (k0_off60 k) (k0_off61 k) (k0_off60_inb k) (k0_off61_inb k) (at29A k) (at29B k) (inb_S256x128_S8x128_232_0) x
  · intro x; exact gap_piece arg2 harg2 X_arg2 k 28 (k0_off58 k) (k0_off59 k) (k0_off58_inb k) (k0_off59_inb k) (at28A k) (at28B k) (inb_S256x128_S8x128_224_0) x
  · intro x; exact gap_piece arg2 harg2 X_arg2 k 27 (k0_off56 k) (k0_off57 k) (k0_off56_inb k) (k0_off57_inb k) (at27A k) (at27B k) (inb_S256x128_S8x128_216_0) x
  · intro x; exact gap_piece arg2 harg2 X_arg2 k 26 (k0_off54 k) (k0_off55 k) (k0_off54_inb k) (k0_off55_inb k) (at26A k) (at26B k) (inb_S256x128_S8x128_208_0) x
  · intro x; exact gap_piece arg2 harg2 X_arg2 k 25 (k0_off52 k) (k0_off53 k) (k0_off52_inb k) (k0_off53_inb k) (at25A k) (at25B k) (inb_S256x128_S8x128_200_0) x
  · intro x; exact gap_piece arg2 harg2 X_arg2 k 24 (k0_off50 k) (k0_off51 k) (k0_off50_inb k) (k0_off51_inb k) (at24A k) (at24B k) (inb_S256x128_S8x128_192_0) x
  · intro x; exact gap_piece arg2 harg2 X_arg2 k 23 (k0_off48 k) (k0_off49 k) (k0_off48_inb k) (k0_off49_inb k) (at23A k) (at23B k) (inb_S256x128_S8x128_184_0) x
  · intro x; exact gap_piece arg2 harg2 X_arg2 k 22 (k0_off46 k) (k0_off47 k) (k0_off46_inb k) (k0_off47_inb k) (at22A k) (at22B k) (inb_S256x128_S8x128_176_0) x
  · intro x; exact gap_piece arg2 harg2 X_arg2 k 21 (k0_off44 k) (k0_off45 k) (k0_off44_inb k) (k0_off45_inb k) (at21A k) (at21B k) (inb_S256x128_S8x128_168_0) x
  · intro x; exact gap_piece arg2 harg2 X_arg2 k 20 (k0_off42 k) (k0_off43 k) (k0_off42_inb k) (k0_off43_inb k) (at20A k) (at20B k) (inb_S256x128_S8x128_160_0) x
  · intro x; exact gap_piece arg2 harg2 X_arg2 k 19 (k0_off40 k) (k0_off41 k) (k0_off40_inb k) (k0_off41_inb k) (at19A k) (at19B k) (inb_S256x128_S8x128_152_0) x
  · intro x; exact gap_piece arg2 harg2 X_arg2 k 18 (k0_off38 k) (k0_off39 k) (k0_off38_inb k) (k0_off39_inb k) (at18A k) (at18B k) (inb_S256x128_S8x128_144_0) x
  · intro x; exact gap_piece arg2 harg2 X_arg2 k 17 (k0_off36 k) (k0_off37 k) (k0_off36_inb k) (k0_off37_inb k) (at17A k) (at17B k) (inb_S256x128_S8x128_136_0) x
  · intro x; exact gap_piece arg2 harg2 X_arg2 k 16 (k0_off34 k) (k0_off35 k) (k0_off34_inb k) (k0_off35_inb k) (at16A k) (at16B k) (inb_S256x128_S8x128_128_0) x
  · intro x; exact gap_piece arg2 harg2 X_arg2 k 15 (k0_off32 k) (k0_off33 k) (k0_off32_inb k) (k0_off33_inb k) (at15A k) (at15B k) (inb_S256x128_S8x128_120_0) x
  · intro x; exact gap_piece arg2 harg2 X_arg2 k 14 (k0_off30 k) (k0_off31 k) (k0_off30_inb k) (k0_off31_inb k) (at14A k) (at14B k) (inb_S256x128_S8x128_112_0) x
  · intro x; exact gap_piece arg2 harg2 X_arg2 k 13 (k0_off28 k) (k0_off29 k) (k0_off28_inb k) (k0_off29_inb k) (at13A k) (at13B k) (inb_S256x128_S8x128_104_0) x
  · intro x; exact gap_piece arg2 harg2 X_arg2 k 12 (k0_off26 k) (k0_off27 k) (k0_off26_inb k) (k0_off27_inb k) (at12A k) (at12B k) (inb_S256x128_S8x128_96_0) x
  · intro x; exact gap_piece arg2 harg2 X_arg2 k 11 (k0_off24 k) (k0_off25 k) (k0_off24_inb k) (k0_off25_inb k) (at11A k) (at11B k) (inb_S256x128_S8x128_88_0) x
  · intro x; exact gap_piece arg2 harg2 X_arg2 k 10 (k0_off22 k) (k0_off23 k) (k0_off22_inb k) (k0_off23_inb k) (at10A k) (at10B k) (inb_S256x128_S8x128_80_0) x
  · intro x; exact gap_piece arg2 harg2 X_arg2 k 9 (k0_off20 k) (k0_off21 k) (k0_off20_inb k) (k0_off21_inb k) (at9A k) (at9B k) (inb_S256x128_S8x128_72_0) x
  · intro x; exact gap_piece arg2 harg2 X_arg2 k 8 (k0_off18 k) (k0_off19 k) (k0_off18_inb k) (k0_off19_inb k) (at8A k) (at8B k) (inb_S256x128_S8x128_64_0) x
  · intro x; exact gap_piece arg2 harg2 X_arg2 k 7 (k0_off16 k) (k0_off17 k) (k0_off16_inb k) (k0_off17_inb k) (at7A k) (at7B k) (inb_S256x128_S8x128_56_0) x
  · intro x; exact gap_piece arg2 harg2 X_arg2 k 6 (k0_off14 k) (k0_off15 k) (k0_off14_inb k) (k0_off15_inb k) (at6A k) (at6B k) (inb_S256x128_S8x128_48_0) x
  · intro x; exact gap_piece arg2 harg2 X_arg2 k 5 (k0_off12 k) (k0_off13 k) (k0_off12_inb k) (k0_off13_inb k) (at5A k) (at5B k) (inb_S256x128_S8x128_40_0) x
  · intro x; exact gap_piece arg2 harg2 X_arg2 k 4 (k0_off10 k) (k0_off11 k) (k0_off10_inb k) (k0_off11_inb k) (at4A k) (at4B k) (inb_S256x128_S8x128_32_0) x
  · intro x; exact gap_piece arg2 harg2 X_arg2 k 3 (k0_off8 k) (k0_off9 k) (k0_off8_inb k) (k0_off9_inb k) (at3A k) (at3B k) (inb_S256x128_S8x128_24_0) x
  · intro x; exact gap_piece arg2 harg2 X_arg2 k 2 (k0_off6 k) (k0_off7 k) (k0_off6_inb k) (k0_off7_inb k) (at2A k) (at2B k) (inb_S256x128_S8x128_16_0) x
  · intro x; exact gap_piece arg2 harg2 X_arg2 k 1 (k0_off4 k) (k0_off5 k) (k0_off4_inb k) (k0_off5_inb k) (at1A k) (at1B k) (inb_S256x128_S8x128_8_0) x
  · intro x; exact gap_piece arg2 harg2 X_arg2 k 0 (k0_off1 k) (k0_off2 k) (k0_off1_inb k) (k0_off2_inb k) (at0A k) (at0B k) (inb_S256x128_S8x128_0_0) x

end Cert.KernelIdeal.Block
-- ==== Proof.KernI.TripKept.lean ====
/- One trip of the loop: the kept numbers it stores. -/
module

public import proofs.«01_k».proof.Proof.KernI.Trip

@[expose] public section

noncomputable section

namespace Cert.KernelIdeal.Block

open Cert.KernelIdeal Cert.KernelIdeal.Gen Cert.KernelIdeal.Own
open Idealize.ShloMosaic Idealize.ShloMosaic.ValueIdx Idealize.ShloMosaic.TcCoe

variable (arg2 : Memref sig .tc .vmem S1x2048x128 .bf16) (harg2 : arg2.IsWhole) (arg3 : Memref sig .tc .vmem S1x512x128 .i32)
  (X_arg2 : BufTy.Contents (Elt Ideal) arg2.view.ty) (X_arg3 : BufTy.Contents (Elt Ideal) arg3.view.ty) (k : Fin k0_t1_loop.trips)

/-- The numbers stored are the groups' kept numbers. -/
theorem kepts_pieces : View.PiecesOf (kepts arg2 arg3 X_arg2 X_arg3 k) (trip_k0_t1.sl.HW_arg7_32 (F := Ideal) arg2 harg2 arg3 X_arg2 X_arg3 k) := by
  unfold trip_k0_t1.sl.HW_arg7_32
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · intro x; exact kept_piece arg2 harg2 arg3 X_arg2 X_arg3 k 31 (k0_off64 k) (k0_off65 k) (k0_off3 k 248#32) (k0_off64_inb k) (k0_off65_inb k) (k0_off3_inb k 31) (at31A k) (at31B k) (at31R k) (inb_S256x2x128_S8x2x128_248_0_0) x
  · intro x; exact kept_piece arg2 harg2 arg3 X_arg2 X_arg3 k 30 (k0_off62 k) (k0_off63 k) (k0_off3 k 240#32) (k0_off62_inb k) (k0_off63_inb k) (k0_off3_inb k 30) (at30A k) (at30B k) (at30R k) (inb_S256x2x128_S8x2x128_240_0_0) x
  · intro x; exact kept_piece arg2 harg2 arg3 X_arg2 X_arg3 k 29 (k0_off60 k) (k0_off61 k) (k0_off3 k 232#32) (k0_off60_inb k) (k0_off61_inb k) (k0_off3_inb k 29) (at29A k) (at29B k) (at29R k) (inb_S256x2x128_S8x2x128_232_0_0) x
  · intro x; exact kept_piece arg2 harg2 arg3 X_arg2 X_arg3 k 28 (k0_off58 k) (k0_off59 k) (k0_off3 k 224#32) (k0_off58_inb k) (k0_off59_inb k) (k0_off3_inb k 28) (at28A k) (at28B k) (at28R k) (inb_S256x2x128_S8x2x128_224_0_0) x
  · intro x; exact kept_piece arg2 harg2 arg3 X_arg2 X_arg3 k 27 (k0_off56 k) (k0_off57 k) (k0_off3 k 216#32) (k0_off56_inb k) (k0_off57_inb k) (k0_off3_inb k 27) (at27A k) (at27B k) (at27R k) (inb_S256x2x128_S8x2x128_216_0_0) x
  · intro x; exact kept_piece arg2 harg2 arg3 X_arg2 X_arg3 k 26 (k0_off54 k) (k0_off55 k) (k0_off3 k 208#32) (k0_off54_inb k) (k0_off55_inb k) (k0_off3_inb k 26) (at26A k) (at26B k) (at26R k) (inb_S256x2x128_S8x2x128_208_0_0) x
  · intro x; exact kept_piece arg2 harg2 arg3 X_arg2 X_arg3 k 25 (k0_off52 k) (k0_off53 k) (k0_off3 k 200#32) (k0_off52_inb k) (k0_off53_inb k) (k0_off3_inb k 25) (at25A k) (at25B k) (at25R k) (inb_S256x2x128_S8x2x128_200_0_0) x
  · intro x; exact kept_piece arg2 harg2 arg3 X_arg2 X_arg3 k 24 (k0_off50 k) (k0_off51 k) (k0_off3 k 192#32) (k0_off50_inb k) (k0_off51_inb k) (k0_off3_inb k 24) (at24A k) (at24B k) (at24R k) (inb_S256x2x128_S8x2x128_192_0_0) x
  · intro x; exact kept_piece arg2 harg2 arg3 X_arg2 X_arg3 k 23 (k0_off48 k) (k0_off49 k) (k0_off3 k 184#32) (k0_off48_inb k) (k0_off49_inb k) (k0_off3_inb k 23) (at23A k) (at23B k) (at23R k) (inb_S256x2x128_S8x2x128_184_0_0) x
  · intro x; exact kept_piece arg2 harg2 arg3 X_arg2 X_arg3 k 22 (k0_off46 k) (k0_off47 k) (k0_off3 k 176#32) (k0_off46_inb k) (k0_off47_inb k) (k0_off3_inb k 22) (at22A k) (at22B k) (at22R k) (inb_S256x2x128_S8x2x128_176_0_0) x
  · intro x; exact kept_piece arg2 harg2 arg3 X_arg2 X_arg3 k 21 (k0_off44 k) (k0_off45 k) (k0_off3 k 168#32) (k0_off44_inb k) (k0_off45_inb k) (k0_off3_inb k 21) (at21A k) (at21B k) (at21R k) (inb_S256x2x128_S8x2x128_168_0_0) x
  · intro x; exact kept_piece arg2 harg2 arg3 X_arg2 X_arg3 k 20 (k0_off42 k) (k0_off43 k) (k0_off3 k 160#32) (k0_off42_inb k) (k0_off43_inb k) (k0_off3_inb k 20) (at20A k) (at20B k) (at20R k) (inb_S256x2x128_S8x2x128_160_0_0) x
  · intro x; exact kept_piece arg2 harg2 arg3 X_arg2 X_arg3 k 19 (k0_off40 k) (k0_off41 k) (k0_off3 k 152#32) (k0_off40_inb k) (k0_off41_inb k) (k0_off3_inb k 19) (at19A k) (at19B k) (at19R k) (inb_S256x2x128_S8x2x128_152_0_0) x
  · intro x; exact kept_piece arg2 harg2 arg3 X_arg2 X_arg3 k 18 (k0_off38 k) (k0_off39 k) (k0_off3 k 144#32) (k0_off38_inb k) (k0_off39_inb k) (k0_off3_inb k 18) (at18A k) (at18B k) (at18R k) (inb_S256x2x128_S8x2x128_144_0_0) x
  · intro x; exact kept_piece arg2 harg2 arg3 X_arg2 X_arg3 k 17 (k0_off36 k) (k0_off37 k) (k0_off3 k 136#32) (k0_off36_inb k) (k0_off37_inb k) (k0_off3_inb k 17) (at17A k) (at17B k) (at17R k) (inb_S256x2x128_S8x2x128_136_0_0) x
  · intro x; exact kept_piece arg2 harg2 arg3 X_arg2 X_arg3 k 16 (k0_off34 k) (k0_off35 k) (k0_off3 k 128#32) (k0_off34_inb k) (k0_off35_inb k) (k0_off3_inb k 16) (at16A k) (at16B k) (at16R k) (inb_S256x2x128_S8x2x128_128_0_0) x
  · intro x; exact kept_piece arg2 harg2 arg3 X_arg2 X_arg3 k 15 (k0_off32 k) (k0_off33 k) (k0_off3 k 120#32) (k0_off32_inb k) (k0_off33_inb k) (k0_off3_inb k 15) (at15A k) (at15B k) (at15R k) (inb_S256x2x128_S8x2x128_120_0_0) x
  · intro x; exact kept_piece arg2 harg2 arg3 X_arg2 X_arg3 k 14 (k0_off30 k) (k0_off31 k) (k0_off3 k 112#32) (k0_off30_inb k) (k0_off31_inb k) (k0_off3_inb k 14) (at14A k) (at14B k) (at14R k) (inb_S256x2x128_S8x2x128_112_0_0) x
  · intro x; exact kept_piece arg2 harg2 arg3 X_arg2 X_arg3 k 13 (k0_off28 k) (k0_off29 k) (k0_off3 k 104#32) (k0_off28_inb k) (k0_off29_inb k) (k0_off3_inb k 13) (at13A k) (at13B k) (at13R k) (inb_S256x2x128_S8x2x128_104_0_0) x
  · intro x; exact kept_piece arg2 harg2 arg3 X_arg2 X_arg3 k 12 (k0_off26 k) (k0_off27 k) (k0_off3 k 96#32) (k0_off26_inb k) (k0_off27_inb k) (k0_off3_inb k 12) (at12A k) (at12B k) (at12R k) (inb_S256x2x128_S8x2x128_96_0_0) x
  · intro x; exact kept_piece arg2 harg2 arg3 X_arg2 X_arg3 k 11 (k0_off24 k) (k0_off25 k) (k0_off3 k 88#32) (k0_off24_inb k) (k0_off25_inb k) (k0_off3_inb k 11) (at11A k) (at11B k) (at11R k) (inb_S256x2x128_S8x2x128_88_0_0) x
  · intro x; exact kept_piece arg2 harg2 arg3 X_arg2 X_arg3 k 10 (k0_off22 k) (k0_off23 k) (k0_off3 k 80#32) (k0_off22_inb k) (k0_off23_inb k) (k0_off3_inb k 10) (at10A k) (at10B k) (at10R k) (inb_S256x2x128_S8x2x128_80_0_0) x
  · intro x; exact kept_piece arg2 harg2 arg3 X_arg2 X_arg3 k 9 (k0_off20 k) (k0_off21 k) (k0_off3 k 72#32) (k0_off20_inb k) (k0_off21_inb k) (k0_off3_inb k 9) (at9A k) (at9B k) (at9R k) (inb_S256x2x128_S8x2x128_72_0_0) x
  · intro x; exact kept_piece arg2 harg2 arg3 X_arg2 X_arg3 k 8 (k0_off18 k) (k0_off19 k) (k0_off3 k 64#32) (k0_off18_inb k) (k0_off19_inb k) (k0_off3_inb k 8) (at8A k) (at8B k) (at8R k) (inb_S256x2x128_S8x2x128_64_0_0) x
  · intro x; exact kept_piece arg2 harg2 arg3 X_arg2 X_arg3 k 7 (k0_off16 k) (k0_off17 k) (k0_off3 k 56#32) (k0_off16_inb k) (k0_off17_inb k) (k0_off3_inb k 7) (at7A k) (at7B k) (at7R k) (inb_S256x2x128_S8x2x128_56_0_0) x
  · intro x; exact kept_piece arg2 harg2 arg3 X_arg2 X_arg3 k 6 (k0_off14 k) (k0_off15 k) (k0_off3 k 48#32) (k0_off14_inb k) (k0_off15_inb k) (k0_off3_inb k 6) (at6A k) (at6B k) (at6R k) (inb_S256x2x128_S8x2x128_48_0_0) x
  · intro x; exact kept_piece arg2 harg2 arg3 X_arg2 X_arg3 k 5 (k0_off12 k) (k0_off13 k) (k0_off3 k 40#32) (k0_off12_inb k) (k0_off13_inb k) (k0_off3_inb k 5) (at5A k) (at5B k) (at5R k) (inb_S256x2x128_S8x2x128_40_0_0) x
  · intro x; exact kept_piece arg2 harg2 arg3 X_arg2 X_arg3 k 4 (k0_off10 k) (k0_off11 k) (k0_off3 k 32#32) (k0_off10_inb k) (k0_off11_inb k) (k0_off3_inb k 4) (at4A k) (at4B k) (at4R k) (inb_S256x2x128_S8x2x128_32_0_0) x
  · intro x; exact kept_piece arg2 harg2 arg3 X_arg2 X_arg3 k 3 (k0_off8 k) (k0_off9 k) (k0_off3 k 24#32) (k0_off8_inb k) (k0_off9_inb k) (k0_off3_inb k 3) (at3A k) (at3B k) (at3R k) (inb_S256x2x128_S8x2x128_24_0_0) x
  · intro x; exact kept_piece arg2 harg2 arg3 X_arg2 X_arg3 k 2 (k0_off6 k) (k0_off7 k) (k0_off3 k 16#32) (k0_off6_inb k) (k0_off7_inb k) (k0_off3_inb k 2) (at2A k) (at2B k) (at2R k) (inb_S256x2x128_S8x2x128_16_0_0) x
  · intro x; exact kept_piece arg2 harg2 arg3 X_arg2 X_arg3 k 1 (k0_off4 k) (k0_off5 k) (k0_off3 k 8#32) (k0_off4_inb k) (k0_off5_inb k) (k0_off3_inb k 1) (at1A k) (at1B k) (at1R k) (inb_S256x2x128_S8x2x128_8_0_0) x
  · intro x; exact kept_piece arg2 harg2 arg3 X_arg2 X_arg3 k 0 (k0_off1 k) (k0_off2 k) (k0_off3 k 0#32) (k0_off1_inb k) (k0_off2_inb k) (k0_off3_inb k 0) (at0A k) (at0B k) (at0R k) (inb_S256x2x128_S8x2x128_0_0_0) x

end Cert.KernelIdeal.Block
-- ==== Proof.KernI.TripMax.lean ====
/- One trip of the loop: the steps it stores. -/
module

public import proofs.«01_k».proof.Proof.KernI.Trip

@[expose] public section

noncomputable section

namespace Cert.KernelIdeal.Block

open Cert.KernelIdeal Cert.KernelIdeal.Gen Cert.KernelIdeal.Own
open Idealize.ShloMosaic Idealize.ShloMosaic.ValueIdx Idealize.ShloMosaic.TcCoe

variable (arg2 : Memref sig .tc .vmem S1x2048x128 .bf16) (harg2 : arg2.IsWhole) (arg3 : Memref sig .tc .vmem S1x512x128 .i32)
  (X_arg2 : BufTy.Contents (Elt Ideal) arg2.view.ty) (X_arg3 : BufTy.Contents (Elt Ideal) arg3.view.ty) (k : Fin k0_t1_loop.trips)

/-- The steps stored are the largest of their columns. -/
theorem colMaxes_pieces : View.PiecesOf (colMaxes arg2 X_arg2 k) (trip_k0_t1.sl.HW_arg10_8 (F := Ideal) arg2 harg2 X_arg2 k) := by
  unfold trip_k0_t1.sl.HW_arg10_8
  refine ⟨?_, ?_, ?_, ?_, ?_, ?_, ?_, ?_, trivial⟩
  · intro x
    exact max_piece arg2 X_arg2 k 7 (vStep (rawAt arg2 harg2 X_arg2 (k0_off58 k) (k0_off58_inb k)) (rawAt arg2 harg2 X_arg2 (k0_off59 k) (k0_off59_inb k)))
      (vStep (rawAt arg2 harg2 X_arg2 (k0_off60 k) (k0_off60_inb k)) (rawAt arg2 harg2 X_arg2 (k0_off61 k) (k0_off61_inb k)))
      (vStep (rawAt arg2 harg2 X_arg2 (k0_off62 k) (k0_off62_inb k)) (rawAt arg2 harg2 X_arg2 (k0_off63 k) (k0_off63_inb k)))
      (vStep (rawAt arg2 harg2 X_arg2 (k0_off64 k) (k0_off64_inb k)) (rawAt arg2 harg2 X_arg2 (k0_off65 k) (k0_off65_inb k)))
      (step_at arg2 harg2 X_arg2 k 28 (k0_off58 k) (k0_off59 k) (k0_off58_inb k) (k0_off59_inb k) (at28A k) (at28B k))
      (step_at arg2 harg2 X_arg2 k 29 (k0_off60 k) (k0_off61 k) (k0_off60_inb k) (k0_off61_inb k) (at29A k) (at29B k))
      (step_at arg2 harg2 X_arg2 k 30 (k0_off62 k) (k0_off63 k) (k0_off62_inb k) (k0_off63_inb k) (at30A k) (at30B k))
      (step_at arg2 harg2 X_arg2 k 31 (k0_off64 k) (k0_off65 k) (k0_off64_inb k) (k0_off65_inb k) (at31A k) (at31B k)) inb_S64x128_S8x128_56_0 x
  · intro x
    exact max_piece arg2 X_arg2 k 6 (vStep (rawAt arg2 harg2 X_arg2 (k0_off50 k) (k0_off50_inb k)) (rawAt arg2 harg2 X_arg2 (k0_off51 k) (k0_off51_inb k)))
      (vStep (rawAt arg2 harg2 X_arg2 (k0_off52 k) (k0_off52_inb k)) (rawAt arg2 harg2 X_arg2 (k0_off53 k) (k0_off53_inb k)))
      (vStep (rawAt arg2 harg2 X_arg2 (k0_off54 k) (k0_off54_inb k)) (rawAt arg2 harg2 X_arg2 (k0_off55 k) (k0_off55_inb k)))
      (vStep (rawAt arg2 harg2 X_arg2 (k0_off56 k) (k0_off56_inb k)) (rawAt arg2 harg2 X_arg2 (k0_off57 k) (k0_off57_inb k)))
      (step_at arg2 harg2 X_arg2 k 24 (k0_off50 k) (k0_off51 k) (k0_off50_inb k) (k0_off51_inb k) (at24A k) (at24B k))
      (step_at arg2 harg2 X_arg2 k 25 (k0_off52 k) (k0_off53 k) (k0_off52_inb k) (k0_off53_inb k) (at25A k) (at25B k))
      (step_at arg2 harg2 X_arg2 k 26 (k0_off54 k) (k0_off55 k) (k0_off54_inb k) (k0_off55_inb k) (at26A k) (at26B k))
      (step_at arg2 harg2 X_arg2 k 27 (k0_off56 k) (k0_off57 k) (k0_off56_inb k) (k0_off57_inb k) (at27A k) (at27B k)) inb_S64x128_S8x128_48_0 x
  · intro x
    exact max_piece arg2 X_arg2 k 5 (vStep (rawAt arg2 harg2 X_arg2 (k0_off42 k) (k0_off42_inb k)) (rawAt arg2 harg2 X_arg2 (k0_off43 k) (k0_off43_inb k)))
      (vStep (rawAt arg2 harg2 X_arg2 (k0_off44 k) (k0_off44_inb k)) (rawAt arg2 harg2 X_arg2 (k0_off45 k) (k0_off45_inb k)))
      (vStep (rawAt arg2 harg2 X_arg2 (k0_off46 k) (k0_off46_inb k)) (rawAt arg2 harg2 X_arg2 (k0_off47 k) (k0_off47_inb k)))
      (vStep (rawAt arg2 harg2 X_arg2 (k0_off48 k) (k0_off48_inb k)) (rawAt arg2 harg2 X_arg2 (k0_off49 k) (k0_off49_inb k)))
      (step_at arg2 harg2 X_arg2 k 20 (k0_off42 k) (k0_off43 k) (k0_off42_inb k) (k0_off43_inb k) (at20A k) (at20B k))
      (step_at arg2 harg2 X_arg2 k 21 (k0_off44 k) (k0_off45 k) (k0_off44_inb k) (k0_off45_inb k) (at21A k) (at21B k))
      (step_at arg2 harg2 X_arg2 k 22 (k0_off46 k) (k0_off47 k) (k0_off46_inb k) (k0_off47_inb k) (at22A k) (at22B k))
      (step_at arg2 harg2 X_arg2 k 23 (k0_off48 k) (k0_off49 k) (k0_off48_inb k) (k0_off49_inb k) (at23A k) (at23B k)) inb_S64x128_S8x128_40_0 x
  · intro x
    exact max_piece arg2 X_arg2 k 4 (vStep (rawAt arg2 harg2 X_arg2 (k0_off34 k) (k0_off34_inb k)) (rawAt arg2 harg2 X_arg2 (k0_off35 k) (k0_off35_inb k)))
      (vStep (rawAt arg2 harg2 X_arg2 (k0_off36 k) (k0_off36_inb k)) (rawAt arg2 harg2 X_arg2 (k0_off37 k) (k0_off37_inb k)))
      (vStep (rawAt arg2 harg2 X_arg2 (k0_off38 k) (k0_off38_inb k)) (rawAt arg2 harg2 X_arg2 (k0_off39 k) (k0_off39_inb k)))
      (vStep (rawAt arg2 harg2 X_arg2 (k0_off40 k) (k0_off40_inb k)) (rawAt arg2 harg2 X_arg2 (k0_off41 k) (k0_off41_inb k)))
      (step_at arg2 harg2 X_arg2 k 16 (k0_off34 k) (k0_off35 k) (k0_off34_inb k) (k0_off35_inb k) (at16A k) (at16B k))
      (step_at arg2 harg2 X_arg2 k 17 (k0_off36 k) (k0_off37 k) (k0_off36_inb k) (k0_off37_inb k) (at17A k) (at17B k))
      (step_at arg2 harg2 X_arg2 k 18 (k0_off38 k) (k0_off39 k) (k0_off38_inb k) (k0_off39_inb k) (at18A k) (at18B k))
      (step_at arg2 harg2 X_arg2 k 19 (k0_off40 k) (k0_off41 k) (k0_off40_inb k) (k0_off41_inb k) (at19A k) (at19B k)) inb_S64x128_S8x128_32_0 x
  · intro x
    exact max_piece arg2 X_arg2 k 3 (vStep (rawAt arg2 harg2 X_arg2 (k0_off26 k) (k0_off26_inb k)) (rawAt arg2 harg2 X_arg2 (k0_off27 k) (k0_off27_inb k)))
      (vStep (rawAt arg2 harg2 X_arg2 (k0_off28 k) (k0_off28_inb k)) (rawAt arg2 harg2 X_arg2 (k0_off29 k) (k0_off29_inb k)))
      (vStep (rawAt arg2 harg2 X_arg2 (k0_off30 k) (k0_off30_inb k)) (rawAt arg2 harg2 X_arg2 (k0_off31 k) (k0_off31_inb k)))
      (vStep (rawAt arg2 harg2 X_arg2 (k0_off32 k) (k0_off32_inb k)) (rawAt arg2 harg2 X_arg2 (k0_off33 k) (k0_off33_inb k)))
      (step_at arg2 harg2 X_arg2 k 12 (k0_off26 k) (k0_off27 k) (k0_off26_inb k) (k0_off27_inb k) (at12A k) (at12B k))
      (step_at arg2 harg2 X_arg2 k 13 (k0_off28 k) (k0_off29 k) (k0_off28_inb k) (k0_off29_inb k) (at13A k) (at13B k))
      (step_at arg2 harg2 X_arg2 k 14 (k0_off30 k) (k0_off31 k) (k0_off30_inb k) (k0_off31_inb k) (at14A k) (at14B k))
      (step_at arg2 harg2 X_arg2 k 15 (k0_off32 k) (k0_off33 k) (k0_off32_inb k) (k0_off33_inb k) (at15A k) (at15B k)) inb_S64x128_S8x128_24_0 x
  · intro x
    exact max_piece arg2 X_arg2 k 2 (vStep (rawAt arg2 harg2 X_arg2 (k0_off18 k) (k0_off18_inb k)) (rawAt arg2 harg2 X_arg2 (k0_off19 k) (k0_off19_inb k)))
      (vStep (rawAt arg2 harg2 X_arg2 (k0_off20 k) (k0_off20_inb k)) (rawAt arg2 harg2 X_arg2 (k0_off21 k) (k0_off21_inb k)))
      (vStep (rawAt arg2 harg2 X_arg2 (k0_off22 k) (k0_off22_inb k)) (rawAt arg2 harg2 X_arg2 (k0_off23 k) (k0_off23_inb k)))
      (vStep (rawAt arg2 harg2 X_arg2 (k0_off24 k) (k0_off24_inb k)) (rawAt arg2 harg2 X_arg2 (k0_off25 k) (k0_off25_inb k)))
      (step_at arg2 harg2 X_arg2 k 8 (k0_off18 k) (k0_off19 k) (k0_off18_inb k) (k0_off19_inb k) (at8A k) (at8B k))
      (step_at arg2 harg2 X_arg2 k 9 (k0_off20 k) (k0_off21 k) (k0_off20_inb k) (k0_off21_inb k) (at9A k) (at9B k))
      (step_at arg2 harg2 X_arg2 k 10 (k0_off22 k) (k0_off23 k) (k0_off22_inb k) (k0_off23_inb k) (at10A k) (at10B k))
      (step_at arg2 harg2 X_arg2 k 11 (k0_off24 k) (k0_off25 k) (k0_off24_inb k) (k0_off25_inb k) (at11A k) (at11B k)) inb_S64x128_S8x128_16_0 x
  · intro x
    exact max_piece arg2 X_arg2 k 1 (vStep (rawAt arg2 harg2 X_arg2 (k0_off10 k) (k0_off10_inb k)) (rawAt arg2 harg2 X_arg2 (k0_off11 k) (k0_off11_inb k)))
      (vStep (rawAt arg2 harg2 X_arg2 (k0_off12 k) (k0_off12_inb k)) (rawAt arg2 harg2 X_arg2 (k0_off13 k) (k0_off13_inb k)))
      (vStep (rawAt arg2 harg2 X_arg2 (k0_off14 k) (k0_off14_inb k)) (rawAt arg2 harg2 X_arg2 (k0_off15 k) (k0_off15_inb k)))
      (vStep (rawAt arg2 harg2 X_arg2 (k0_off16 k) (k0_off16_inb k)) (rawAt arg2 harg2 X_arg2 (k0_off17 k) (k0_off17_inb k)))
      (step_at arg2 harg2 X_arg2 k 4 (k0_off10 k) (k0_off11 k) (k0_off10_inb k) (k0_off11_inb k) (at4A k) (at4B k))
      (step_at arg2 harg2 X_arg2 k 5 (k0_off12 k) (k0_off13 k) (k0_off12_inb k) (k0_off13_inb k) (at5A k) (at5B k))
      (step_at arg2 harg2 X_arg2 k 6 (k0_off14 k) (k0_off15 k) (k0_off14_inb k) (k0_off15_inb k) (at6A k) (at6B k))
      (step_at arg2 harg2 X_arg2 k 7 (k0_off16 k) (k0_off17 k) (k0_off16_inb k) (k0_off17_inb k) (at7A k) (at7B k)) inb_S64x128_S8x128_8_0 x
  · intro x
    exact max_piece arg2 X_arg2 k 0 (vStep (rawAt arg2 harg2 X_arg2 (k0_off1 k) (k0_off1_inb k)) (rawAt arg2 harg2 X_arg2 (k0_off2 k) (k0_off2_inb k)))
      (vStep (rawAt arg2 harg2 X_arg2 (k0_off4 k) (k0_off4_inb k)) (rawAt arg2 harg2 X_arg2 (k0_off5 k) (k0_off5_inb k)))
      (vStep (rawAt arg2 harg2 X_arg2 (k0_off6 k) (k0_off6_inb k)) (rawAt arg2 harg2 X_arg2 (k0_off7 k) (k0_off7_inb k)))
      (vStep (rawAt arg2 harg2 X_arg2 (k0_off8 k) (k0_off8_inb k)) (rawAt arg2 harg2 X_arg2 (k0_off9 k) (k0_off9_inb k)))
      (step_at arg2 harg2 X_arg2 k 0 (k0_off1 k) (k0_off2 k) (k0_off1_inb k) (k0_off2_inb k) (at0A k) (at0B k))
      (step_at arg2 harg2 X_arg2 k 1 (k0_off4 k) (k0_off5 k) (k0_off4_inb k) (k0_off5_inb k) (at1A k) (at1B k))
      (step_at arg2 harg2 X_arg2 k 2 (k0_off6 k) (k0_off7 k) (k0_off6_inb k) (k0_off7_inb k) (at2A k) (at2B k))
      (step_at arg2 harg2 X_arg2 k 3 (k0_off8 k) (k0_off9 k) (k0_off8_inb k) (k0_off9_inb k) (at3A k) (at3B k)) inb_S64x128_S8x128_0_0 x

end Cert.KernelIdeal.Block
-- ==== Proof.KernI.Vcode.lean ====
/- Half a block's codes: what the kernel's lines compute of two registers of kept numbers, at one code. -/
module

public import proofs.«01_k».proof.Proof.KernI.Vreg

@[expose] public section

noncomputable section

namespace Cert.KernelIdeal.Block

open Cert.KernelIdeal Cert.KernelIdeal.Gen
open Idealize.ShloMosaic Idealize.ShloMosaic.ValueIdx

/-- A register of kept pairs, its pairs' numbers one under the other. -/
def vZ (z : Vec Ideal S8x2x128 .bf16) : FVec Ideal S16x128 .bf16 :=
  interleaveRows S16x128
    (shapeCast S8x128 (rowsOfParity 0 S8x1x128 z bitcasts_S8x2x128_w16_S8x1x128_w32) shapeCasts_S8x1x128_S8x128)
    (shapeCast S8x128 (rowsOfParity 1 S8x1x128 z bitcasts_S8x2x128_w16_S8x1x128_w32) shapeCasts_S8x1x128_S8x128)
    bitcasts_S16x128_w16_S8x128_w32
/-- The codes' magnitudes of a register, as the kernel has them, below zero. -/
def vMag (iv ds : FVec Ideal S8x128 .f32) (z : Vec Ideal S8x2x128 .bf16) : FVec Ideal S16x128 .bf16 :=
  maximumf (minimumf (mulf (subf (broadcast S16x128 (Scalar.ofBits .bf16 0x0000#16)) (absf (vZ z)))
      (interleaveRows S16x128 (truncf .bf16 iv) (truncf .bf16 iv) bitcasts_S16x128_w16_S8x128_w32))
    (interleaveRows S16x128 (truncf .bf16 ds) (truncf .bf16 ds) bitcasts_S16x128_w16_S8x128_w32))
    (broadcast S16x128 (Scalar.ofBits .bf16 0xC760#16))
/-- The codes of a register. -/
def vHalf (iv ds : FVec Ideal S8x128 .f32) (z : Vec Ideal S8x2x128 .bf16) : FVec Ideal S16x128 .bf16 :=
  select (cmpf .olt (vZ z) (constant S16x128 .bf16 0x0000#16))
    (subf (broadcast S16x128 (Scalar.ofBits .bf16 0x0000#16)) (absf (vMag iv ds z))) (absf (vMag iv ds z))
/-- A block's gaps times its inverse scale. -/
def vDq (iv : FVec Ideal S8x128 .f32) (dv : FVec Ideal S32x128 .f32) : FVec Ideal S32x128 .f32 :=
  mulf dv (concatenate S32x128 0 [⟨S8x128, iv⟩, ⟨S8x128, iv⟩, ⟨S8x128, iv⟩, ⟨S8x128, iv⟩] concatenates_S8x128_S8x128_S8x128_S8x128_S32x128_d0)
/-- The codes of two registers, stored. -/
def vCode (iv : FVec Ideal S8x128 .f32) (dv : FVec Ideal S32x128 .f32) (o o' : Fin 2 → ℕ) (h : S32x128.Slices o S8x128)
    (h' : S32x128.Slices o' S8x128) (z z' : Vec Ideal S8x2x128 .bf16) : FVec Ideal S1x32x128 .fp8e5m2 :=
  shapeCast S1x32x128
    (concatenate S32x128 0 [⟨S16x128, vHalf iv (extractStridedSlice S8x128 o (vDq iv dv) h) z⟩,
      ⟨S16x128, vHalf iv (extractStridedSlice S8x128 o' (vDq iv dv) h') z'⟩] concatenates_S16x128_S16x128_S32x128_d0)
    shapeCasts_S32x128_S1x32x128

theorem interleave2 (lo hi : S8x128.Idx → EReal) (h : S16x128.Bitcasts 16 S8x128 32) (ρ : Fin 16) (l : Fin 128) :
    interleaveRows S16x128 lo hi h (ix2 ρ l)
      = if ρ.val % 2 = 0 then lo (ix2 (⟨ρ.val / 2, by omega⟩ : Fin 8) l) else hi (ix2 (⟨ρ.val / 2, by omega⟩ : Fin 8) l) := by
  have hr : S16x128.row (ix2 ρ l) = ρ.val := rfl
  unfold interleaveRows
  dsimp only
  rw [hr]
  by_cases h0 : ρ.val % 2 = 0
  · rw [if_pos h0, if_pos h0]
    refine congrArg lo ?_
    funext c
    match c with
    | ⟨0, _⟩ => rfl
    | ⟨1, _⟩ => rfl
  · rw [if_neg h0, if_neg h0]
    refine congrArg hi ?_
    funext c
    match c with
    | ⟨0, _⟩ => rfl
    | ⟨1, _⟩ => rfl

theorem interleave_same (v : S8x128.Idx → EReal) (h : S16x128.Bitcasts 16 S8x128 32) (ρ : Fin 16) (l : Fin 128) :
    interleaveRows S16x128 v v h (ix2 ρ l) = v (ix2 (⟨ρ.val / 2, by omega⟩ : Fin 8) l) := by
  rw [interleave2, ite_self]

theorem cast3 (v : S8x1x128.Idx → EReal) (s : Fin 8) (l : Fin 128) :
    shapeCast S8x128 v shapeCasts_S8x1x128_S8x128 (ix2 s l) = v (ix3 s (0 : Fin 1) l) := by
  refine shapeCast_apply _ _ _ _ ?_
  rw [Shape.rowMajor_val_three, Shape.rowMajor_val_two]
  show (s.val * 1 + 0) * 128 + l.val = s.val * 128 + l.val
  omega

theorem vZ_apply (z : Vec Ideal S8x2x128 .bf16) (ρ : Fin 16) (l : Fin 128) :
    vZ z (ix2 ρ l) = z (ix3 (⟨ρ.val / 2, by omega⟩ : Fin 8) (⟨ρ.val % 2, by omega⟩ : Fin 2) l) := by
  have par : ∀ (p : Fin 2) (s : Fin 8), rowsOfParity p S8x1x128 z bitcasts_S8x2x128_w16_S8x1x128_w32 (ix3 s (0 : Fin 1) l) = z (ix3 s p l) := by
    intro p s
    refine congrArg z ?_
    funext c
    match c with
    | ⟨0, _⟩ => rfl
    | ⟨1, _⟩ => exact Fin.ext (show 2 * 0 + p.val = p.val by omega)
    | ⟨2, _⟩ => rfl
  refine (interleave2 _ _ _ ρ l).trans ?_
  by_cases h0 : ρ.val % 2 = 0
  · rw [if_pos h0]
    refine (cast3 _ _ l).trans ((par 0 _).trans ?_)
    congr 2
    exact Fin.ext h0.symm
  · rw [if_neg h0]
    refine (cast3 _ _ l).trans ((par 1 _).trans ?_)
    congr 2
    exact Fin.ext (show 1 = ρ.val % 2 by omega)

theorem vHalf_apply (iv ds : FVec Ideal S8x128 .f32) (z : Vec Ideal S8x2x128 .bf16) (ρ : Fin 16) (l : Fin 128) (g v : EReal)
    (hv : iv (ix2 (⟨ρ.val / 2, by omega⟩ : Fin 8) l) = v) (hg : ds (ix2 (⟨ρ.val / 2, by omega⟩ : Fin 8) l) = g * v) :
    vHalf iv ds z (ix2 ρ l) = Mvue.code (z (ix3 (⟨ρ.val / 2, by omega⟩ : Fin 8) (⟨ρ.val % 2, by omega⟩ : Fin 2) l)) g v := by
  have hm : vMag iv ds z (ix2 ρ l) = Mvue.mag (vZ z (ix2 ρ l)) g v := by
    show max (min ((Ideal.ofBits .bf16 0x0000#16 - Mvue.ab (vZ z (ix2 ρ l))) * interleaveRows S16x128 iv iv _ (ix2 ρ l))
      (interleaveRows S16x128 ds ds _ (ix2 ρ l))) (Ideal.ofBits .bf16 0xC760#16) = _
    rw [interleave_same, interleave_same, hv, hg]; rfl
  rw [← vZ_apply z ρ l]
  show Scalar.select (Ideal.cmp .olt (vZ z (ix2 ρ l)) (Ideal.ofBits .bf16 0x0000#16)) (Ideal.ofBits .bf16 0x0000#16 - Mvue.ab (vMag iv ds z (ix2 ρ l)))
    (Mvue.ab (vMag iv ds z (ix2 ρ l))) = _
  rw [hm]; rfl

theorem vDq_apply (iv : FVec Ideal S8x128 .f32) (dv : FVec Ideal S32x128 .f32) (r : Fin 32) (l : Fin 128) :
    vDq iv dv (ix2 r l) = dv (ix2 r l) * iv (ix2 (⟨r.val % 8, by omega⟩ : Fin 8) l) := by
  show dv (ix2 r l) * concatenate S32x128 0 [⟨S8x128, iv⟩, ⟨S8x128, iv⟩, ⟨S8x128, iv⟩, ⟨S8x128, iv⟩] concatenates_S8x128_S8x128_S8x128_S8x128_S32x128_d0 (ix2 r l) = _
  congr 1
  refine concatenate_replicate_apply (t := S32x128) (s₁ := S8x128) 0 4 iv concatenates_S8x128_S8x128_S8x128_S8x128_S32x128_d0 rfl (ix2 r l) _ rfl ?_
  intro b hb
  match b with
  | ⟨0, _⟩ => exact absurd rfl hb
  | ⟨1, _⟩ => rfl

/-- A stored code, where the inverse scale of its lane is `v` and the gap of its group `g`. -/
theorem vCode_apply (iv : FVec Ideal S8x128 .f32) (dv : FVec Ideal S32x128 .f32) (n n' : ℕ) (h : S32x128.Slices ![n, 0] S8x128)
    (h' : S32x128.Slices ![n', 0] S8x128) (hn : n + 8 ≤ 32) (hn' : n' + 8 ≤ 32) (z z' : Vec Ideal S8x2x128 .bf16) (ρ : Fin 32) (l : Fin 128) (v g w : EReal)
    (hv : ∀ s, iv (ix2 s l) = v)
    (hz : ∀ hρ : ρ.val < 16, dv (ix2 (⟨n + ρ.val / 2, by omega⟩ : Fin 32) l) = g ∧ z (ix3 (⟨ρ.val / 2, by omega⟩ : Fin 8) (⟨ρ.val % 2, by omega⟩ : Fin 2) l) = w)
    (hz' : ∀ hρ : 16 ≤ ρ.val, dv (ix2 (⟨n' + (ρ.val - 16) / 2, by omega⟩ : Fin 32) l) = g ∧
      z' (ix3 (⟨(ρ.val - 16) / 2, by omega⟩ : Fin 8) (⟨(ρ.val - 16) % 2, by omega⟩ : Fin 2) l) = w) :
    vCode iv dv ![n, 0] ![n', 0] h h' z z' (ix3 0 ρ l) = Mvue.code w g v := by
  have sl : ∀ (n : ℕ) (h : S32x128.Slices ![n, 0] S8x128) (hn : n + 8 ≤ 32) (s : Fin 8), extractStridedSlice S8x128 ![n, 0] (vDq iv dv) h (ix2 s l)
      = dv (ix2 (⟨n + s.val, by omega⟩ : Fin 32) l) * v := by
    intro n h hn s
    refine (extractStridedSlice_apply ![n, 0] (vDq iv dv) h (ix2 s l) (ix2 (⟨n + s.val, by omega⟩ : Fin 32) l) ?_).trans ?_
    · intro a
      match a with
      | ⟨0, _⟩ => rfl
      | ⟨1, _⟩ => show l.val = 0 + l.val; omega
    · rw [vDq_apply, hv]
  refine (shapeCast_ab_1ab_apply _ _ _ ρ l).trans ?_
  by_cases hρ : ρ.val < 16
  · refine (concatenate_pair_apply_left (t := S32x128) (s₁ := S16x128) (s₂ := S16x128) 0 _ _ concatenates_S16x128_S16x128_S32x128_d0 (ix2 ρ l) rfl
      (ix2 (⟨ρ.val, hρ⟩ : Fin 16) l) (fun b => by match b with | ⟨0, _⟩ => rfl | ⟨1, _⟩ => rfl)).trans ?_
    obtain ⟨h1, h2⟩ := hz hρ
    refine (vHalf_apply _ _ _ _ _ g v (hv _) ((sl _ _ hn _).trans ?_)).trans ?_
    · exact congrArg (· * v) h1
    · exact congrArg (Mvue.code · g v) h2
  · refine (concatenate_pair_apply_right (t := S32x128) (s₁ := S16x128) (s₂ := S16x128) 0 _ _ concatenates_S16x128_S16x128_S32x128_d0 (ix2 ρ l) rfl rfl
      (ix2 (⟨ρ.val - 16, by omega⟩ : Fin 16) l) (fun b hb => by match b with | ⟨0, _⟩ => exact absurd rfl hb | ⟨1, _⟩ => rfl)
      (show ρ.val - 16 + 16 = ρ.val by omega)).trans ?_
    obtain ⟨h1, h2⟩ := hz' (by omega)
    refine (vHalf_apply _ _ _ _ _ g v (hv _) ((sl _ _ hn' _).trans ?_)).trans ?_
    · exact congrArg (· * v) h1
    · exact congrArg (Mvue.code · g v) h2

end Cert.KernelIdeal.Block
-- ==== Proof.KernI.Vladder.lean ====
/- The scale of a block, computed from its largest step: the kernel's lines at one lane are the scalar ladder. -/
module

public import proofs.«01_k».proof.Proof.KernI.Vreg

@[expose] public section

noncomputable section

namespace Cert.KernelIdeal.Block

open Cert.KernelIdeal Cert.KernelIdeal.Gen
open Idealize.ShloMosaic Idealize.ShloMosaic.ValueIdx

variable (v0 v1 v2 v3 v4 v5 v6 v7 : Vec Ideal S8x128 .f32) (c : IVec S8x128 1) (w : FVec Ideal S8x128 .f32) (i : S8x128.Idx) (a : EReal)

theorem pay862_at : k0_pay862 (F := Ideal) v0 v1 v2 v3 v4 v5 v6 v7 i = Mvue.lad0 (k0_pay859 (F := Ideal) v0 v1 v2 v3 v4 v5 v6 v7 i) := rfl
theorem pay861_at : k0_pay861 (F := Ideal) v0 v1 v2 v3 v4 v5 v6 v7 i
    = Ideal.cmp .olt (Mvue.ratio (k0_pay859 (F := Ideal) v0 v1 v2 v3 v4 v5 v6 v7 i)) (Ideal.ofBits .f32 0x3F800000#32) := rfl
theorem pay864_at : k0_pay864 (F := Ideal) w i = Mvue.rungV (w i) 0x5F800000#32 0x1F800000#32 := rfl
theorem pay866_at : k0_pay866 (F := Ideal) w i = Mvue.rungV (k0_pay864 (F := Ideal) w i) 0x4F800000#32 0x2F800000#32 := by
  unfold k0_pay866 k0_pay865
  generalize k0_pay864 (F := Ideal) w = u
  rfl
theorem pay868_at : k0_pay868 (F := Ideal) w i = Mvue.rungV (k0_pay866 (F := Ideal) w i) 0x47800000#32 0x37800000#32 := by
  unfold k0_pay868 k0_pay867
  generalize k0_pay866 (F := Ideal) w = u
  rfl
theorem pay870_at : k0_pay870 (F := Ideal) w i = Mvue.rungV (k0_pay868 (F := Ideal) w i) 0x43800000#32 0x3B800000#32 := by
  unfold k0_pay870 k0_pay869
  generalize k0_pay868 (F := Ideal) w = u
  rfl
theorem pay872_at : k0_pay872 (F := Ideal) w i = Mvue.rungV (k0_pay870 (F := Ideal) w i) 0x41800000#32 0x3D800000#32 := by
  unfold k0_pay872 k0_pay871
  generalize k0_pay870 (F := Ideal) w = u
  rfl
theorem pay873_at : k0_pay873 (F := Ideal) c w i
    = Mvue.rungE (k0_pay870 (F := Ideal) w i) (Mvue.rungE (k0_pay868 (F := Ideal) w i) (Mvue.rungE (k0_pay866 (F := Ideal) w i)
        (Mvue.rungE (k0_pay864 (F := Ideal) w i) (Mvue.rungE (w i) (Scalar.select (c i) 4294967170#32 1#32) 0x5F800000#32 64#32) 0x4F800000#32 32#32)
        0x47800000#32 16#32) 0x43800000#32 8#32) 0x41800000#32 4#32 := by
  unfold k0_pay873 k0_pay863 k0_pay865 k0_pay867 k0_pay869 k0_pay871
  generalize k0_pay870 (F := Ideal) w = u1
  generalize k0_pay868 (F := Ideal) w = u2
  generalize k0_pay866 (F := Ideal) w = u3
  generalize k0_pay864 (F := Ideal) w = u4
  unfold Mvue.rungE
  rfl
theorem pay874_at (u : FVec Ideal S8x128 .f32) (n : IVec S8x128 32) : k0_pay874 (F := Ideal) u w n i
    = Scalar.select (Ideal.cmp .oeq (u i) (Ideal.ofBits .f32 0x00000000#32)) 0#32
        (Mvue.rungE (Mvue.rungV (w i) 0x40800000#32 0x3E800000#32) (Mvue.rungE (w i) (n i) 0x40800000#32 2#32) 0x40000000#32 1#32) := rfl

theorem expo_at (u : FVec Ideal S8x128 .f32) (hu : u i = a) (hw : w i = Mvue.lad0 a)
    (hc : c i = Ideal.cmp .olt (Mvue.ratio a) (Ideal.ofBits .f32 0x3F800000#32)) :
    k0_pay874 (F := Ideal) u (k0_pay872 (F := Ideal) w) (k0_pay873 (F := Ideal) c w) i = Mvue.expo a := by
  have h1 : k0_pay864 (F := Ideal) w i = Mvue.lad1 a := by rw [pay864_at, hw]; rfl
  have h2 : k0_pay866 (F := Ideal) w i = Mvue.lad2 a := by rw [pay866_at, h1]; rfl
  have h3 : k0_pay868 (F := Ideal) w i = Mvue.lad3 a := by rw [pay868_at, h2]; rfl
  have h4 : k0_pay870 (F := Ideal) w i = Mvue.lad4 a := by rw [pay870_at, h3]; rfl
  have h5 : k0_pay872 (F := Ideal) w i = Mvue.lad5 a := by rw [pay872_at, h4]; rfl
  rw [pay874_at, pay873_at, h1, h2, h3, h4, h5, hw, hc, hu]
  rfl

theorem scale_lane (u : FVec Ideal S8x128 .f32) (n : IVec S8x128 32) (p : Fin 8) (l : Fin 128) (h : k0_pay874 (F := Ideal) u w n (ix2 p l) = Mvue.expo a) :
    k0_pay875 (F := Ideal) u w n (ix3 0 p l) = Mvue.scale a := by
  unfold k0_pay875
  refine (shapeCast_ab_1ab_apply _ _ _ p l).trans ?_
  show Ideal.ofBits .f32 (IntOp.shli .vector (IntOp.addi (k0_pay874 (F := Ideal) u w n (ix2 p l)) 127#32) 23#32) = _
  rw [h]; rfl

theorem inv_lane (u : FVec Ideal S8x128 .f32) (n : IVec S8x128 32) (h : k0_pay874 (F := Ideal) u w n i = Mvue.expo a) :
    k0_pay876 (F := Ideal) u w n i = Mvue.inv a := by
  unfold k0_pay876
  refine (congrFun (shapeCast_self _ _) i).trans ?_
  show Ideal.ofBits .f32 (IntOp.shli .vector (IntOp.subi 127#32 (k0_pay874 (F := Ideal) u w n i)) 23#32) = _
  rw [h]; rfl

end Cert.KernelIdeal.Block
-- ==== Proof.KernI.TripReads.lean ====
/- One trip of the loop: what its loads from the scratch arrays give, and the scales. -/
module

public import proofs.«01_k».proof.Proof.KernI.TripWords
public import proofs.«01_k».proof.Proof.KernI.TripGaps
public import proofs.«01_k».proof.Proof.KernI.TripKept
public import proofs.«01_k».proof.Proof.KernI.TripMax
public import proofs.«01_k».proof.Proof.KernI.Vcode
public import proofs.«01_k».proof.Proof.KernI.Vladder
public import Idealize.ShloMosaic.Lib.Pipeline.ValueKit.Tiles
public import Idealize.ShloMosaic.Lib.Ring
public import Idealize.ShloMosaic.Lib.BitcastPair

@[expose] public section

noncomputable section

namespace Cert.KernelIdeal.Block

open Cert.KernelIdeal Cert.KernelIdeal.Gen Cert.KernelIdeal.Own
open Idealize.ShloMosaic Idealize.ShloMosaic.ValueIdx Idealize.ShloMosaic.TcCoe

variable (arg2 : Memref sig .tc .vmem S1x2048x128 .bf16) (harg2 : arg2.IsWhole) (arg3 : Memref sig .tc .vmem S1x512x128 .i32)
  (arg7 : Memref sig .tc .vmem S256x2x128 .bf16) (arg8 : Memref sig .tc .vmem S256x128 .f32) (arg9 : Memref sig .tc .vmem S256x128 .i32)
  (arg10 : Memref sig .tc .vmem S64x128 .f32) (arg11 : Memref sig .tc .vmem S8x128 .f32)
  (X_arg2 : BufTy.Contents (Elt Ideal) arg2.view.ty) (X_arg3 : BufTy.Contents (Elt Ideal) arg3.view.ty) (k : Fin k0_t1_loop.trips)

theorem words_read (B : LoadRect S256x128) (j : B.shape.Idx) :
    arg9.view.readCov (trip_k0_t1.sl.HW_arg9_32 (F := Ideal) arg2 harg2 arg3 X_arg2 X_arg3 k) B j = words arg2 arg3 X_arg2 X_arg3 k (B.idx j) := by
  rw [View.readCov_eq_canon']
  exact View.canon_apply_of_pieces _ _ (words_pieces arg2 harg2 arg3 X_arg2 X_arg3 k).mem _
    (View.cover_of_tiledL (trip_k0_t1.sl.HW_arg9_32 (F := Ideal) arg2 harg2 arg3 X_arg2 X_arg3 k) S8x128.size (by sl_kernel_rfl) _)

theorem gaps_read (B : LoadRect S256x128) (j : B.shape.Idx) :
    arg8.view.readCov (trip_k0_t1.sl.HW_arg8_32 (F := Ideal) arg2 harg2 X_arg2 k) B j = gaps arg2 X_arg2 k (B.idx j) := by
  rw [View.readCov_eq_canon']
  exact View.canon_apply_of_pieces _ _ (gaps_pieces arg2 harg2 X_arg2 k).mem _
    (View.cover_of_tiledL (trip_k0_t1.sl.HW_arg8_32 (F := Ideal) arg2 harg2 X_arg2 k) S8x128.size (by sl_kernel_rfl) _)

theorem kepts_read (B : LoadRect S256x2x128) (j : B.shape.Idx) :
    arg7.view.readCov (trip_k0_t1.sl.HW_arg7_32 (F := Ideal) arg2 harg2 arg3 X_arg2 X_arg3 k) B j = kepts arg2 arg3 X_arg2 X_arg3 k (B.idx j) := by
  rw [View.readCov_eq_canon']
  exact View.canon_apply_of_pieces _ _ (kepts_pieces arg2 harg2 arg3 X_arg2 X_arg3 k).mem _
    (View.cover_of_tiledL (trip_k0_t1.sl.HW_arg7_32 (F := Ideal) arg2 harg2 arg3 X_arg2 X_arg3 k) S8x2x128.size (by sl_kernel_rfl) _)

theorem colMaxes_read (B : LoadRect S64x128) (j : B.shape.Idx) :
    arg10.view.readCov (trip_k0_t1.sl.HW_arg10_8 (F := Ideal) arg2 harg2 X_arg2 k) B j = colMaxes arg2 X_arg2 k (B.idx j) := by
  rw [View.readCov_eq_canon']
  exact View.canon_apply_of_pieces _ _ (colMaxes_pieces arg2 harg2 X_arg2 k).mem _
    (View.cover_of_tiledL (trip_k0_t1.sl.HW_arg10_8 (F := Ideal) arg2 harg2 X_arg2 k) S8x128.size (by sl_kernel_rfl) _)

/-- One of the eight columns' maxima, for block `p` of the trip. -/
theorem colMax_read (j : ℕ) (hj : j < 8) (inb) (p : Fin 8) (l : Fin 128) :
    arg10.view.readCov (trip_k0_t1.sl.HW_arg10_8 (F := Ideal) arg2 harg2 X_arg2 k) (⟨![j, 0], S8x128.size, ![8, 1], inb⟩ : LoadRect S64x128) (ix2 p l)
      = colMax (inX arg2 X_arg2) (32 * (8 * k.val + p.val) + j) l := by
  refine (colMaxes_read arg2 harg2 arg10 X_arg2 k _ _).trans ?_
  show colMax (inX arg2 X_arg2) (256 * k.val + 32 * ((j + 8 * p.val) / 8) + (j + 8 * p.val) % 8) (⟨0 + 1 * l.val, _⟩ : Fin 128) = _
  have e : 256 * k.val + 32 * ((j + 8 * p.val) / 8) + (j + 8 * p.val) % 8 = 32 * (8 * k.val + p.val) + j := by omega
  rw [e]
  congr 1
  exact Fin.ext (by show 0 + 1 * l.val = l.val; omega)

/-- The largest step of block `p` of the trip. -/
theorem amax_at (p : Fin 8) (l : Fin 128) : trip_k0_t1.sl.r_374 (F := Ideal) arg2 harg2 arg10 X_arg2 k (ix2 p l)
    = amaxAt (inX arg2 X_arg2) (8 * k.val + p.val) l := by
  have h := fun (j : ℕ) (hj : j < 8) (inb) => colMax_read arg2 harg2 arg10 X_arg2 k j hj inb p l
  show max (max (max (max (max (max (max (trip_k0_t1.sl.v2501 (F := Ideal) arg2 harg2 arg10 X_arg2 k (ix2 p l)) (trip_k0_t1.sl.v2502 (F := Ideal) arg2 harg2 arg10 X_arg2 k (ix2 p l)))
    (trip_k0_t1.sl.v2504 (F := Ideal) arg2 harg2 arg10 X_arg2 k (ix2 p l))) (trip_k0_t1.sl.v2506 (F := Ideal) arg2 harg2 arg10 X_arg2 k (ix2 p l)))
    (trip_k0_t1.sl.v2508 (F := Ideal) arg2 harg2 arg10 X_arg2 k (ix2 p l))) (trip_k0_t1.sl.v2510 (F := Ideal) arg2 harg2 arg10 X_arg2 k (ix2 p l)))
    (trip_k0_t1.sl.v2512 (F := Ideal) arg2 harg2 arg10 X_arg2 k (ix2 p l))) (trip_k0_t1.sl.v2514 (F := Ideal) arg2 harg2 arg10 X_arg2 k (ix2 p l)) = _
  unfold trip_k0_t1.sl.v2501 trip_k0_t1.sl.v2502 trip_k0_t1.sl.v2504 trip_k0_t1.sl.v2506 trip_k0_t1.sl.v2508 trip_k0_t1.sl.v2510 trip_k0_t1.sl.v2512 trip_k0_t1.sl.v2514
  rw [h 0 (by omega), h 1 (by omega), h 2 (by omega), h 3 (by omega), h 4 (by omega), h 5 (by omega), h 6 (by omega), h 7 (by omega)]
  rfl

theorem expo_lane (p : Fin 8) (l : Fin 128) :
    k0_pay874 (F := Ideal) (trip_k0_t1.sl.r_374 (F := Ideal) arg2 harg2 arg10 X_arg2 k) (trip_k0_t1.sl.r_377 (F := Ideal) arg2 harg2 arg10 X_arg2 k)
      (trip_k0_t1.sl.r_378 (F := Ideal) arg2 harg2 arg10 X_arg2 k) (ix2 p l) = Mvue.expo (amaxAt (inX arg2 X_arg2) (8 * k.val + p.val) l) := by
  rw [← amax_at arg2 harg2 arg10 X_arg2 k p l]
  unfold trip_k0_t1.sl.r_377 trip_k0_t1.sl.r_378
  refine expo_at _ _ _ _ _ rfl ?_ ?_
  · unfold trip_k0_t1.sl.r_374 trip_k0_t1.sl.r_376
    exact pay862_at _ _ _ _ _ _ _ _ _
  · unfold trip_k0_t1.sl.r_374 trip_k0_t1.sl.r_375
    exact pay861_at _ _ _ _ _ _ _ _ _

/-- The scale stored for block `p` of the trip. -/
theorem scale_at (p : Fin 8) (l : Fin 128) :
    k0_pay875 (F := Ideal) (trip_k0_t1.sl.r_374 (F := Ideal) arg2 harg2 arg10 X_arg2 k) (trip_k0_t1.sl.r_377 (F := Ideal) arg2 harg2 arg10 X_arg2 k)
      (trip_k0_t1.sl.r_378 (F := Ideal) arg2 harg2 arg10 X_arg2 k) (ix3 0 p l) = Mvue.scale (amaxAt (inX arg2 X_arg2) (8 * k.val + p.val) l) := by
  exact scale_lane _ _ _ _ p l (expo_lane arg2 harg2 arg10 X_arg2 k p l)

/-- The inverse scale kept for block `p` of the trip. -/
theorem inv_at (p : Fin 8) (l : Fin 128) :
    k0_pay876 (F := Ideal) (trip_k0_t1.sl.r_374 (F := Ideal) arg2 harg2 arg10 X_arg2 k) (trip_k0_t1.sl.r_377 (F := Ideal) arg2 harg2 arg10 X_arg2 k)
      (trip_k0_t1.sl.r_378 (F := Ideal) arg2 harg2 arg10 X_arg2 k) (ix2 p l) = Mvue.inv (amaxAt (inX arg2 X_arg2) (8 * k.val + p.val) l) := by
  exact inv_lane _ _ _ _ _ (expo_lane arg2 harg2 arg10 X_arg2 k p l)

/-- The trip's inverse scales, by block. -/
def invs (y : S8x128.Idx) : EReal := Mvue.inv (amaxAt (inX arg2 X_arg2) (8 * k.val + (y 0).val) (y 1))

theorem invs_pieces : View.PiecesOf (invs arg2 X_arg2 k) (trip_k0_t1.sl.HW_arg11_1 (F := Ideal) arg2 harg2 arg10 X_arg2 k) := by
  unfold trip_k0_t1.sl.HW_arg11_1
  refine ⟨?_, trivial⟩
  intro x
  have e : (Rect.unit (s := S8x128) ![0, 0] S8x128.size inb_S8x128_S8x128_0_0).emb x = ix2 (x 0 : Fin 8) (x 1 : Fin 128) := by
    funext a
    match a with
    | ⟨0, _⟩ => exact Fin.ext (by show 0 + 1 * (x 0).val = (x 0).val; omega)
    | ⟨1, _⟩ => exact Fin.ext (by show 0 + 1 * (x 1).val = (x 1).val; omega)
  show _ = invs arg2 X_arg2 k ((Rect.unit (s := S8x128) ![0, 0] S8x128.size inb_S8x128_S8x128_0_0).emb x)
  rw [e]
  have ex : x = ix2 (x 0 : Fin 8) (x 1 : Fin 128) := eq_ix2 x
  refine Eq.trans ?_ (inv_at arg2 harg2 arg10 X_arg2 k (x 0) (x 1))
  exact congrArg _ ex

theorem invs_read (b : ℕ) (hb : b < 8) (inb) (s : Fin 8) (l : Fin 128) :
    arg11.view.readCov (trip_k0_t1.sl.HW_arg11_1 (F := Ideal) arg2 harg2 arg10 X_arg2 k) (⟨![b, 0], S8x128.size, ![0, 1], inb⟩ : LoadRect S8x128) (ix2 s l)
      = Mvue.inv (amaxAt (inX arg2 X_arg2) (8 * k.val + b) l) := by
  rw [View.readCov_eq_canon']
  refine (View.canon_apply_of_pieces _ _ (invs_pieces arg2 harg2 arg10 X_arg2 k).mem _
    (View.cover_of_tiledL (trip_k0_t1.sl.HW_arg11_1 (F := Ideal) arg2 harg2 arg10 X_arg2 k) S8x128.size (by sl_kernel_rfl) _)).trans ?_
  show Mvue.inv (amaxAt (inX arg2 X_arg2) (8 * k.val + (b + 0 * s.val)) (⟨0 + 1 * l.val, _⟩ : Fin 128)) = _
  have e : b + 0 * s.val = b := by omega
  rw [e]
  congr 2
  exact Fin.ext (by show 0 + 1 * l.val = l.val; omega)

/-- A row of words, for the byte rows of meta tile `t` of the trip. -/
theorem word_read (t j : ℕ) (hj : j < 8) (inb) (w : Fin 8) (l : Fin 128) :
    arg9.view.readCov (trip_k0_t1.sl.HW_arg9_32 (F := Ideal) arg2 harg2 arg3 X_arg2 X_arg3 k) (⟨![64 * t + j, 0], S8x128.size, ![8, 1], inb⟩ : LoadRect S256x128) (ix2 w l)
      = wordAt (inX arg2 X_arg2) (inR arg3 X_arg3) (8 * (32 * k.val + 8 * t + w.val) + j) l := by
  refine (words_read arg2 harg2 arg3 arg9 X_arg2 X_arg3 k _ _).trans ?_
  show wordAt (inX arg2 X_arg2) (inR arg3 X_arg3) (256 * k.val + (64 * t + j + 8 * w.val)) (⟨0 + 1 * l.val, _⟩ : Fin 128) = _
  have e : 256 * k.val + (64 * t + j + 8 * w.val) = 8 * (32 * k.val + 8 * t + w.val) + j := by omega
  rw [e]
  congr 1
  exact Fin.ext (by show 0 + 1 * l.val = l.val; omega)

/-- A gap loaded for block `b` of the trip. -/
theorem gap_read (b : ℕ) (inb) (r : Fin 32) (l : Fin 128) :
    arg8.view.readCov (trip_k0_t1.sl.HW_arg8_32 (F := Ideal) arg2 harg2 X_arg2 k) (Rect.unit (s := S256x128) ![32 * b, 0] S32x128.size inb).toLoadRect (ix2 r l)
      = gapAt (inX arg2 X_arg2) (256 * k.val + 32 * b + r.val) l := by
  refine (gaps_read arg2 harg2 arg8 X_arg2 k _ _).trans ?_
  show gapAt (inX arg2 X_arg2) (256 * k.val + (32 * b + 1 * r.val)) (⟨0 + 1 * l.val, _⟩ : Fin 128) = _
  have e : 256 * k.val + (32 * b + 1 * r.val) = 256 * k.val + 32 * b + r.val := by omega
  rw [e]
  congr 1
  exact Fin.ext (by show 0 + 1 * l.val = l.val; omega)

/-- A kept number loaded from register `v` of the trip. -/
theorem kept_read (v : ℕ) (inb) (s : Fin 8) (p : Fin 2) (l : Fin 128) :
    arg7.view.readCov (trip_k0_t1.sl.HW_arg7_32 (F := Ideal) arg2 harg2 arg3 X_arg2 X_arg3 k) (Rect.unit (s := S256x2x128) ![8 * v, 0, 0] S8x2x128.size inb).toLoadRect (ix3 s p l)
      = if p.val = 0 then loAt (inX arg2 X_arg2) (inR arg3 X_arg3) (256 * k.val + 8 * v + s.val) l
        else hiAt (inX arg2 X_arg2) (inR arg3 X_arg3) (256 * k.val + 8 * v + s.val) l := by
  refine (kepts_read arg2 harg2 arg3 arg7 X_arg2 X_arg3 k _ _).trans ?_
  show (if 0 + 1 * p.val = 0 then loAt (inX arg2 X_arg2) (inR arg3 X_arg3) (256 * k.val + (8 * v + 1 * s.val)) (⟨0 + 1 * l.val, _⟩ : Fin 128)
        else hiAt (inX arg2 X_arg2) (inR arg3 X_arg3) (256 * k.val + (8 * v + 1 * s.val)) (⟨0 + 1 * l.val, _⟩ : Fin 128)) = _
  have e : 256 * k.val + (8 * v + 1 * s.val) = 256 * k.val + 8 * v + s.val := by omega
  have el : (⟨0 + 1 * l.val, by omega⟩ : Fin 128) = l := Fin.ext (by show 0 + 1 * l.val = l.val; omega)
  have ep : 0 + 1 * p.val = p.val := by omega
  rw [e, ep, el]

end Cert.KernelIdeal.Block
-- ==== Proof.KernI.TripPieces.lean ====
/- One trip of the loop: what it stores into the three results' blocks. -/
module

public import proofs.«01_k».proof.Proof.KernI.TripReads

@[expose] public section

noncomputable section

namespace Cert.KernelIdeal.Block

open Cert.KernelIdeal Cert.KernelIdeal.Gen Cert.KernelIdeal.Own
open Idealize.ShloMosaic Idealize.ShloMosaic.ValueIdx Idealize.ShloMosaic.TcCoe

variable (arg2 : Memref sig .tc .vmem S1x2048x128 .bf16) (harg2 : arg2.IsWhole) (arg3 : Memref sig .tc .vmem S1x512x128 .i32)
  (arg7 : Memref sig .tc .vmem S256x2x128 .bf16) (arg8 : Memref sig .tc .vmem S256x128 .f32) (arg9 : Memref sig .tc .vmem S256x128 .i32)
  (arg10 : Memref sig .tc .vmem S64x128 .f32) (arg11 : Memref sig .tc .vmem S8x128 .f32)
  (X_arg2 : BufTy.Contents (Elt Ideal) arg2.view.ty) (X_arg3 : BufTy.Contents (Elt Ideal) arg3.view.ty) (k : Fin k0_t1_loop.trips)

/-- What a block of codes holds. -/
def codes (y : S1x1024x128.Idx) : EReal := codeAt (inX arg2 X_arg2) (inR arg3 X_arg3) (y 1).val (y 2)
/-- What a block of scales holds. -/
def scales (y : S1x16x128.Idx) : EReal := Mvue.scale (amaxAt (inX arg2 X_arg2) (y 1).val (y 2))
/-- What a block of places holds. -/
def metas (y : S1x256x128.Idx) : BitVec 8 := metaAt (inX arg2 X_arg2) (inR arg3 X_arg3) (y 1).val (y 2)

theorem code_piece (b h : ℕ) (hb : b < 8) (hh : h < 2) (i1) (i2) (i3) (i4) (s1) (s2) (off : Fin 3 → ℕ) (hoff : off = ![0, 512 * k.val + 32 * (2 * b + h), 0])
    (inb : ∀ a, off a + S1x32x128.size a ≤ S1x1024x128.size a) (x : S1x32x128.Idx) :
    vCode (arg11.view.readCov (trip_k0_t1.sl.HW_arg11_1 (F := Ideal) arg2 harg2 arg10 X_arg2 k) (⟨![b, 0], S8x128.size, ![0, 1], i1⟩ : LoadRect S8x128))
      (arg8.view.readCov (trip_k0_t1.sl.HW_arg8_32 (F := Ideal) arg2 harg2 X_arg2 k) (Rect.unit (s := S256x128) ![32 * b, 0] S32x128.size i2).toLoadRect)
      ![16 * h, 0] ![16 * h + 8, 0] s1 s2
      (arg7.view.readCov (trip_k0_t1.sl.HW_arg7_32 (F := Ideal) arg2 harg2 arg3 X_arg2 X_arg3 k) (Rect.unit (s := S256x2x128) ![8 * (4 * b + 2 * h), 0, 0] S8x2x128.size i3).toLoadRect)
      (arg7.view.readCov (trip_k0_t1.sl.HW_arg7_32 (F := Ideal) arg2 harg2 arg3 X_arg2 X_arg3 k) (Rect.unit (s := S256x2x128) ![8 * (4 * b + 2 * h + 1), 0, 0] S8x2x128.size i4).toLoadRect) x
      = codes arg2 arg3 X_arg2 X_arg3 ((Rect.unit (s := S1x1024x128) off S1x32x128.size inb).emb x) := by
  subst hoff
  obtain ⟨ρ, l, rfl⟩ : ∃ (ρ : Fin 32) (l : Fin 128), x = ix3 0 ρ l := ⟨x 1, x 2, by
    refine (eq_ix3 x).trans ?_
    congr 1
    exact Fin.ext (by have : (x 0).val < 1 := (x 0).isLt; show (x 0).val = 0; omega)⟩
  have hρ : ρ.val < 32 := ρ.isLt
  refine (vCode_apply _ _ (16 * h) (16 * h + 8) s1 s2 (by omega) (by omega) _ _ ρ l
    (Mvue.inv (amaxAt (inX arg2 X_arg2) (8 * k.val + b) l))
    (gapAt (inX arg2 X_arg2) (256 * k.val + 16 * (2 * b + h) + ρ.val / 2) l)
    (if ρ.val % 2 = 0 then loAt (inX arg2 X_arg2) (inR arg3 X_arg3) (256 * k.val + 16 * (2 * b + h) + ρ.val / 2) l
      else hiAt (inX arg2 X_arg2) (inR arg3 X_arg3) (256 * k.val + 16 * (2 * b + h) + ρ.val / 2) l)
    (fun s => invs_read arg2 harg2 arg10 arg11 X_arg2 k b hb _ s l) ?_ ?_).trans ?_
  · intro hr
    constructor
    · refine (gap_read arg2 harg2 arg8 X_arg2 k b _ _ l).trans ?_
      congr 1
      show 256 * k.val + 32 * b + (16 * h + ρ.val / 2) = _
      omega
    · refine (kept_read arg2 harg2 arg3 arg7 X_arg2 X_arg3 k (4 * b + 2 * h) _ _ _ l).trans ?_
      have e : 256 * k.val + 8 * (4 * b + 2 * h) + ρ.val / 2 = 256 * k.val + 16 * (2 * b + h) + ρ.val / 2 := by omega
      show (if ρ.val % 2 = 0 then loAt _ _ (256 * k.val + 8 * (4 * b + 2 * h) + ρ.val / 2) l else hiAt _ _ (256 * k.val + 8 * (4 * b + 2 * h) + ρ.val / 2) l) = _
      rw [e]
  · intro hr
    have e2 : (ρ.val - 16) % 2 = ρ.val % 2 := by omega
    constructor
    · refine (gap_read arg2 harg2 arg8 X_arg2 k b _ _ l).trans ?_
      congr 1
      show 256 * k.val + 32 * b + (16 * h + 8 + (ρ.val - 16) / 2) = _
      omega
    · refine (kept_read arg2 harg2 arg3 arg7 X_arg2 X_arg3 k (4 * b + 2 * h + 1) _ _ _ l).trans ?_
      have e : 256 * k.val + 8 * (4 * b + 2 * h + 1) + (ρ.val - 16) / 2 = 256 * k.val + 16 * (2 * b + h) + ρ.val / 2 := by omega
      show (if (ρ.val - 16) % 2 = 0 then loAt _ _ (256 * k.val + 8 * (4 * b + 2 * h + 1) + (ρ.val - 16) / 2) l
        else hiAt _ _ (256 * k.val + 8 * (4 * b + 2 * h + 1) + (ρ.val - 16) / 2) l) = _
      rw [e, e2]
  · unfold codes codeAt
    have e1 : ((Rect.unit (s := S1x1024x128) ![0, 512 * k.val + 32 * (2 * b + h), 0] S1x32x128.size inb).emb (ix3 0 ρ l) 1).val = 512 * k.val + 32 * (2 * b + h) + ρ.val := by
      show 512 * k.val + 32 * (2 * b + h) + 1 * ρ.val = _
      omega
    have e2 : (Rect.unit (s := S1x1024x128) ![0, 512 * k.val + 32 * (2 * b + h), 0] S1x32x128.size inb).emb (ix3 0 ρ l) 2 = (l : Fin 128) :=
      Fin.ext (by show 0 + 1 * l.val = l.val; omega)
    have e3 : (512 * k.val + 32 * (2 * b + h) + ρ.val) % 2 = ρ.val % 2 := by omega
    have e4 : (512 * k.val + 32 * (2 * b + h) + ρ.val) / 2 = 256 * k.val + 16 * (2 * b + h) + ρ.val / 2 := by omega
    have e5 : (512 * k.val + 32 * (2 * b + h) + ρ.val) / 64 = 8 * k.val + b := by omega
    rw [e1, e2, e3, e4, e5]

/-- Eight rows of words joined, as rows of bytes, stored. -/
def vMeta (w0 w1 w2 w3 w4 w5 w6 w7 : Vec Ideal S8x128 .i32) : IVec S1x32x128 8 :=
  shapeCast S1x32x128 (bitcast S32x128 8 (ori (ori (ori (ori (ori (ori (ori w0 w1) w2) w3) w4) w5) w6) w7) bitcasts_S8x128_w32_S32x128_w8) shapeCasts_S32x128_S1x32x128

theorem bytes_apply (v : IVec S8x128 32) (ρ : Fin 32) (l : Fin 128) :
    bitcast S32x128 8 v bitcasts_S8x128_w32_S32x128_w8 (ix2 ρ l) = (v (ix2 (⟨ρ.val / 4, by omega⟩ : Fin 8) l)).extractLsb' (8 * (ρ.val % 4)) 8 := by
  apply BitVec.eq_of_getLsbD_eq
  intro q hq
  rw [bitcast_getLsbD v bitcasts_S8x128_w32_S32x128_w8 (ix2 ρ l) q hq (by decide), BitVec.getLsbD_extractLsb']
  have hrow : S32x128.row (ix2 ρ l) = ρ.val := rfl
  have e1 : (S32x128.row (ix2 ρ l) * 8 + q) % 32 = 8 * (ρ.val % 4) + q := by rw [hrow]; omega
  have e2 : (S32x128.row (ix2 ρ l) * 8 + q) / 32 = ρ.val / 4 := by rw [hrow]; omega
  rw [e1]
  simp only [hq, decide_true, Bool.true_and]
  congr 2
  funext c
  match c with
  | ⟨0, _⟩ => exact Fin.ext ((bitcasts_S8x128_w32_S32x128_w8.srcIdx_row _ _ _ ⟨0, Nat.zero_lt_two⟩ rfl).trans e2)
  | ⟨1, _⟩ => exact Fin.ext (bitcasts_S8x128_w32_S32x128_w8.srcIdx_other _ _ _ ⟨1, Nat.one_lt_two⟩ (by show ¬ 1 + 2 = 2; omega))

theorem vMeta_apply (w0 w1 w2 w3 w4 w5 w6 w7 : Vec Ideal S8x128 .i32) (ρ : Fin 32) (l : Fin 128) (o0 o1 o2 o3 o4 o5 o6 o7 : BitVec 32)
    (h0 : w0 (ix2 (⟨ρ.val / 4, by omega⟩ : Fin 8) l) = o0) (h1 : w1 (ix2 (⟨ρ.val / 4, by omega⟩ : Fin 8) l) = o1)
    (h2 : w2 (ix2 (⟨ρ.val / 4, by omega⟩ : Fin 8) l) = o2) (h3 : w3 (ix2 (⟨ρ.val / 4, by omega⟩ : Fin 8) l) = o3)
    (h4 : w4 (ix2 (⟨ρ.val / 4, by omega⟩ : Fin 8) l) = o4) (h5 : w5 (ix2 (⟨ρ.val / 4, by omega⟩ : Fin 8) l) = o5)
    (h6 : w6 (ix2 (⟨ρ.val / 4, by omega⟩ : Fin 8) l) = o6) (h7 : w7 (ix2 (⟨ρ.val / 4, by omega⟩ : Fin 8) l) = o7) :
    vMeta w0 w1 w2 w3 w4 w5 w6 w7 (ix3 0 ρ l) = (IntOp.ori (IntOp.ori (IntOp.ori (IntOp.ori (IntOp.ori (IntOp.ori (IntOp.ori o0 o1) o2) o3) o4) o5) o6) o7).extractLsb' (8 * (ρ.val % 4)) 8 := by
  subst h0 h1 h2 h3 h4 h5 h6 h7
  exact (shapeCast_ab_1ab_apply _ _ _ ρ l).trans (bytes_apply _ ρ l)

theorem meta_piece (t : ℕ) (ht : t < 4) (i0) (i1) (i2) (i3) (i4) (i5) (i6) (i7) (off : Fin 3 → ℕ) (hoff : off = ![0, 128 * k.val + 32 * t, 0])
    (inb : ∀ a, off a + S1x32x128.size a ≤ S1x256x128.size a) (x : S1x32x128.Idx) :
    vMeta
      (arg9.view.readCov (trip_k0_t1.sl.HW_arg9_32 (F := Ideal) arg2 harg2 arg3 X_arg2 X_arg3 k) (⟨![64 * t + 0, 0], S8x128.size, ![8, 1], i0⟩ : LoadRect S256x128))
      (arg9.view.readCov (trip_k0_t1.sl.HW_arg9_32 (F := Ideal) arg2 harg2 arg3 X_arg2 X_arg3 k) (⟨![64 * t + 1, 0], S8x128.size, ![8, 1], i1⟩ : LoadRect S256x128))
      (arg9.view.readCov (trip_k0_t1.sl.HW_arg9_32 (F := Ideal) arg2 harg2 arg3 X_arg2 X_arg3 k) (⟨![64 * t + 2, 0], S8x128.size, ![8, 1], i2⟩ : LoadRect S256x128))
      (arg9.view.readCov (trip_k0_t1.sl.HW_arg9_32 (F := Ideal) arg2 harg2 arg3 X_arg2 X_arg3 k) (⟨![64 * t + 3, 0], S8x128.size, ![8, 1], i3⟩ : LoadRect S256x128))
      (arg9.view.readCov (trip_k0_t1.sl.HW_arg9_32 (F := Ideal) arg2 harg2 arg3 X_arg2 X_arg3 k) (⟨![64 * t + 4, 0], S8x128.size, ![8, 1], i4⟩ : LoadRect S256x128))
      (arg9.view.readCov (trip_k0_t1.sl.HW_arg9_32 (F := Ideal) arg2 harg2 arg3 X_arg2 X_arg3 k) (⟨![64 * t + 5, 0], S8x128.size, ![8, 1], i5⟩ : LoadRect S256x128))
      (arg9.view.readCov (trip_k0_t1.sl.HW_arg9_32 (F := Ideal) arg2 harg2 arg3 X_arg2 X_arg3 k) (⟨![64 * t + 6, 0], S8x128.size, ![8, 1], i6⟩ : LoadRect S256x128))
      (arg9.view.readCov (trip_k0_t1.sl.HW_arg9_32 (F := Ideal) arg2 harg2 arg3 X_arg2 X_arg3 k) (⟨![64 * t + 7, 0], S8x128.size, ![8, 1], i7⟩ : LoadRect S256x128))
      x = metas arg2 arg3 X_arg2 X_arg3 ((Rect.unit (s := S1x256x128) off S1x32x128.size inb).emb x) := by
  subst hoff
  obtain ⟨ρ, l, rfl⟩ : ∃ (ρ : Fin 32) (l : Fin 128), x = ix3 0 ρ l := ⟨x 1, x 2, by
    refine (eq_ix3 x).trans ?_
    congr 1
    exact Fin.ext (by have : (x 0).val < 1 := (x 0).isLt; show (x 0).val = 0; omega)⟩
  have hρ : ρ.val < 32 := ρ.isLt
  have w := fun (j : ℕ) (hj : j < 8) (inb) => word_read arg2 harg2 arg3 arg9 X_arg2 X_arg3 k t j hj inb (⟨ρ.val / 4, by omega⟩ : Fin 8) l
  refine (vMeta_apply _ _ _ _ _ _ _ _ ρ l _ _ _ _ _ _ _ _ (w 0 (by omega) i0) (w 1 (by omega) i1) (w 2 (by omega) i2) (w 3 (by omega) i3)
    (w 4 (by omega) i4) (w 5 (by omega) i5) (w 6 (by omega) i6) (w 7 (by omega) i7)).trans ?_
  · unfold metas metaAt octAt
    have e1 : ((Rect.unit (s := S1x256x128) ![0, 128 * k.val + 32 * t, 0] S1x32x128.size inb).emb (ix3 0 ρ l) 1).val = 128 * k.val + 32 * t + ρ.val := by
      show 128 * k.val + 32 * t + 1 * ρ.val = _
      omega
    have e2 : (Rect.unit (s := S1x256x128) ![0, 128 * k.val + 32 * t, 0] S1x32x128.size inb).emb (ix3 0 ρ l) 2 = (l : Fin 128) :=
      Fin.ext (by show 0 + 1 * l.val = l.val; omega)
    have e3 : (128 * k.val + 32 * t + ρ.val) % 4 = ρ.val % 4 := by omega
    have e4 : (128 * k.val + 32 * t + ρ.val) / 4 = 32 * k.val + 8 * t + ρ.val / 4 := by omega
    rw [e1, e2, e3, e4]
    rfl

theorem scale_piece (off : Fin 3 → ℕ) (hoff : off = ![0, 8 * k.val, 0]) (inb : ∀ a, off a + S1x8x128.size a ≤ S1x16x128.size a) (x : S1x8x128.Idx) :
    k0_pay875 (F := Ideal) (trip_k0_t1.sl.r_374 (F := Ideal) arg2 harg2 arg10 X_arg2 k) (trip_k0_t1.sl.r_377 (F := Ideal) arg2 harg2 arg10 X_arg2 k)
      (trip_k0_t1.sl.r_378 (F := Ideal) arg2 harg2 arg10 X_arg2 k) x = scales arg2 X_arg2 ((Rect.unit (s := S1x16x128) off S1x8x128.size inb).emb x) := by
  subst hoff
  obtain ⟨p, l, rfl⟩ : ∃ (p : Fin 8) (l : Fin 128), x = ix3 0 p l := ⟨x 1, x 2, by
    refine (eq_ix3 x).trans ?_
    congr 1
    exact Fin.ext (by have : (x 0).val < 1 := (x 0).isLt; show (x 0).val = 0; omega)⟩
  rw [scale_at arg2 harg2 arg10 X_arg2 k p l]
  unfold scales
  have e1 : ((Rect.unit (s := S1x16x128) ![0, 8 * k.val, 0] S1x8x128.size inb).emb (ix3 0 p l) 1).val = 8 * k.val + p.val := by
    show 8 * k.val + 1 * p.val = _
    omega
  have e2 : (Rect.unit (s := S1x16x128) ![0, 8 * k.val, 0] S1x8x128.size inb).emb (ix3 0 p l) 2 = (l : Fin 128) :=
    Fin.ext (by show 0 + 1 * l.val = l.val; omega)
  rw [e1, e2]

theorem at66 : k0_off66 k = ![0, 8 * k.val, 0] := by revert k; decide +kernel
theorem at68_0 : k0_off68 k 0#32 = ![0, 512 * k.val + 32 * (2 * 0 + 0), 0] := by revert k; decide +kernel
theorem at68_1 : k0_off68 k 32#32 = ![0, 512 * k.val + 32 * (2 * 0 + 1), 0] := by revert k; decide +kernel
theorem at68_2 : k0_off68 k 64#32 = ![0, 512 * k.val + 32 * (2 * 1 + 0), 0] := by revert k; decide +kernel
theorem at68_3 : k0_off68 k 96#32 = ![0, 512 * k.val + 32 * (2 * 1 + 1), 0] := by revert k; decide +kernel
theorem at68_4 : k0_off68 k 128#32 = ![0, 512 * k.val + 32 * (2 * 2 + 0), 0] := by revert k; decide +kernel
theorem at68_5 : k0_off68 k 160#32 = ![0, 512 * k.val + 32 * (2 * 2 + 1), 0] := by revert k; decide +kernel
theorem at68_6 : k0_off68 k 192#32 = ![0, 512 * k.val + 32 * (2 * 3 + 0), 0] := by revert k; decide +kernel
theorem at68_7 : k0_off68 k 224#32 = ![0, 512 * k.val + 32 * (2 * 3 + 1), 0] := by revert k; decide +kernel
theorem at68_8 : k0_off68 k 256#32 = ![0, 512 * k.val + 32 * (2 * 4 + 0), 0] := by revert k; decide +kernel
theorem at68_9 : k0_off68 k 288#32 = ![0, 512 * k.val + 32 * (2 * 4 + 1), 0] := by revert k; decide +kernel
theorem at68_10 : k0_off68 k 320#32 = ![0, 512 * k.val + 32 * (2 * 5 + 0), 0] := by revert k; decide +kernel
theorem at68_11 : k0_off68 k 352#32 = ![0, 512 * k.val + 32 * (2 * 5 + 1), 0] := by revert k; decide +kernel
theorem at68_12 : k0_off68 k 384#32 = ![0, 512 * k.val + 32 * (2 * 6 + 0), 0] := by revert k; decide +kernel
theorem at68_13 : k0_off68 k 416#32 = ![0, 512 * k.val + 32 * (2 * 6 + 1), 0] := by revert k; decide +kernel
theorem at68_14 : k0_off68 k 448#32 = ![0, 512 * k.val + 32 * (2 * 7 + 0), 0] := by revert k; decide +kernel
theorem at68_15 : k0_off68 k 480#32 = ![0, 512 * k.val + 32 * (2 * 7 + 1), 0] := by revert k; decide +kernel
theorem at67_0 : k0_off67 k 0#32 = ![0, 128 * k.val + 32 * 0, 0] := by revert k; decide +kernel
theorem at67_1 : k0_off67 k 32#32 = ![0, 128 * k.val + 32 * 1, 0] := by revert k; decide +kernel
theorem at67_2 : k0_off67 k 64#32 = ![0, 128 * k.val + 32 * 2, 0] := by revert k; decide +kernel
theorem at67_3 : k0_off67 k 96#32 = ![0, 128 * k.val + 32 * 3, 0] := by revert k; decide +kernel

end Cert.KernelIdeal.Block
-- ==== Proof.KernI.TripCodes.lean ====
/- One trip of the loop: the codes it stores. -/
module

public import proofs.«01_k».proof.Proof.KernI.TripPieces

@[expose] public section

noncomputable section

namespace Cert.KernelIdeal.Block

open Cert.KernelIdeal Cert.KernelIdeal.Gen Cert.KernelIdeal.Own
open Idealize.ShloMosaic Idealize.ShloMosaic.ValueIdx Idealize.ShloMosaic.TcCoe

variable (𝒱 : Variants) (c : Dev nD) (bd : Option 𝒱.V) (i : grid0.Coords) (arg2 : Memref sig .tc .vmem S1x2048x128 .bf16) (harg2 : arg2.IsWhole)
  (arg3 : Memref sig .tc .vmem S1x512x128 .i32) (harg3 : arg3.IsWhole) (arg4 : Memref sig .tc .vmem S1x1024x128 .fp8e5m2) (harg4 : arg4.IsWhole)
  (arg5 : Memref sig .tc .vmem S1x16x128 .f32) (harg5 : arg5.IsWhole) (arg6 : Memref sig .tc .vmem S1x256x128 .i8) (harg6 : arg6.IsWhole)
  (arg7 : Memref sig .tc .vmem S256x2x128 .bf16) (harg7 : arg7.IsWhole) (arg8 : Memref sig .tc .vmem S256x128 .f32) (harg8 : arg8.IsWhole)
  (arg9 : Memref sig .tc .vmem S256x128 .i32) (harg9 : arg9.IsWhole) (arg10 : Memref sig .tc .vmem S64x128 .f32) (harg10 : arg10.IsWhole)
  (arg11 : Memref sig .tc .vmem S8x128 .f32) (harg11 : arg11.IsWhole)
  (X_arg2 : BufTy.Contents (Elt Ideal) arg2.view.ty) (X_arg3 : BufTy.Contents (Elt Ideal) arg3.view.ty) (k : Fin k0_t1_loop.trips)

/-- The codes a trip stores are the block's codes. -/
theorem codes_pieces : View.PiecesOf (codes arg2 arg3 X_arg2 X_arg3) (trip_k0_t1 (F := Ideal) 𝒱 c bd i arg2 harg2 arg3 harg3 arg4 harg4 arg5 harg5 arg6 harg6 arg7 harg7 arg8 harg8 arg9 harg9 arg10 harg10 arg11 harg11 X_arg2 X_arg3 k).1 := by
  unfold trip_k0_t1
  refine ⟨?_, ?_, ?_, ?_, ?_, ?_, ?_, ?_, ?_, ?_, ?_, ?_, ?_, ?_, ?_, ?_, trivial⟩
  · intro x; exact code_piece arg2 harg2 arg3 arg7 arg8 arg10 arg11 X_arg2 X_arg3 k 7 1 (by omega) (by omega) inb_S8x128_S8x128_7_0_s_0_1 inb_S256x128_S32x128_224_0
      inb_S256x2x128_S8x2x128_240_0_0 inb_S256x2x128_S8x2x128_248_0_0 slices_S32x128_o16_0_S8x128 slices_S32x128_o24_0_S8x128 (k0_off68 k 480#32) (at68_15 k) (k0_off68_inb k 15) x
  · intro x; exact code_piece arg2 harg2 arg3 arg7 arg8 arg10 arg11 X_arg2 X_arg3 k 7 0 (by omega) (by omega) inb_S8x128_S8x128_7_0_s_0_1 inb_S256x128_S32x128_224_0
      inb_S256x2x128_S8x2x128_224_0_0 inb_S256x2x128_S8x2x128_232_0_0 slices_S32x128_o0_0_S8x128 slices_S32x128_o8_0_S8x128 (k0_off68 k 448#32) (at68_14 k) (k0_off68_inb k 14) x
  · intro x; exact code_piece arg2 harg2 arg3 arg7 arg8 arg10 arg11 X_arg2 X_arg3 k 6 1 (by omega) (by omega) inb_S8x128_S8x128_6_0_s_0_1 inb_S256x128_S32x128_192_0
      inb_S256x2x128_S8x2x128_208_0_0 inb_S256x2x128_S8x2x128_216_0_0 slices_S32x128_o16_0_S8x128 slices_S32x128_o24_0_S8x128 (k0_off68 k 416#32) (at68_13 k) (k0_off68_inb k 13) x
  · intro x; exact code_piece arg2 harg2 arg3 arg7 arg8 arg10 arg11 X_arg2 X_arg3 k 6 0 (by omega) (by omega) inb_S8x128_S8x128_6_0_s_0_1 inb_S256x128_S32x128_192_0
      inb_S256x2x128_S8x2x128_192_0_0 inb_S256x2x128_S8x2x128_200_0_0 slices_S32x128_o0_0_S8x128 slices_S32x128_o8_0_S8x128 (k0_off68 k 384#32) (at68_12 k) (k0_off68_inb k 12) x
  · intro x; exact code_piece arg2 harg2 arg3 arg7 arg8 arg10 arg11 X_arg2 X_arg3 k 5 1 (by omega) (by omega) inb_S8x128_S8x128_5_0_s_0_1 inb_S256x128_S32x128_160_0
      inb_S256x2x128_S8x2x128_176_0_0 inb_S256x2x128_S8x2x128_184_0_0 slices_S32x128_o16_0_S8x128 slices_S32x128_o24_0_S8x128 (k0_off68 k 352#32) (at68_11 k) (k0_off68_inb k 11) x
  · intro x; exact code_piece arg2 harg2 arg3 arg7 arg8 arg10 arg11 X_arg2 X_arg3 k 5 0 (by omega) (by omega) inb_S8x128_S8x128_5_0_s_0_1 inb_S256x128_S32x128_160_0
      inb_S256x2x128_S8x2x128_160_0_0 inb_S256x2x128_S8x2x128_168_0_0 slices_S32x128_o0_0_S8x128 slices_S32x128_o8_0_S8x128 (k0_off68 k 320#32) (at68_10 k) (k0_off68_inb k 10) x
  · intro x; exact code_piece arg2 harg2 arg3 arg7 arg8 arg10 arg11 X_arg2 X_arg3 k 4 1 (by omega) (by omega) inb_S8x128_S8x128_4_0_s_0_1 inb_S256x128_S32x128_128_0
      inb_S256x2x128_S8x2x128_144_0_0 inb_S256x2x128_S8x2x128_152_0_0 slices_S32x128_o16_0_S8x128 slices_S32x128_o24_0_S8x128 (k0_off68 k 288#32) (at68_9 k) (k0_off68_inb k 9) x
  · intro x; exact code_piece arg2 harg2 arg3 arg7 arg8 arg10 arg11 X_arg2 X_arg3 k 4 0 (by omega) (by omega) inb_S8x128_S8x128_4_0_s_0_1 inb_S256x128_S32x128_128_0
      inb_S256x2x128_S8x2x128_128_0_0 inb_S256x2x128_S8x2x128_136_0_0 slices_S32x128_o0_0_S8x128 slices_S32x128_o8_0_S8x128 (k0_off68 k 256#32) (at68_8 k) (k0_off68_inb k 8) x
  · intro x; exact code_piece arg2 harg2 arg3 arg7 arg8 arg10 arg11 X_arg2 X_arg3 k 3 1 (by omega) (by omega) inb_S8x128_S8x128_3_0_s_0_1 inb_S256x128_S32x128_96_0
      inb_S256x2x128_S8x2x128_112_0_0 inb_S256x2x128_S8x2x128_120_0_0 slices_S32x128_o16_0_S8x128 slices_S32x128_o24_0_S8x128 (k0_off68 k 224#32) (at68_7 k) (k0_off68_inb k 7) x
  · intro x; exact code_piece arg2 harg2 arg3 arg7 arg8 arg10 arg11 X_arg2 X_arg3 k 3 0 (by omega) (by omega) inb_S8x128_S8x128_3_0_s_0_1 inb_S256x128_S32x128_96_0
      inb_S256x2x128_S8x2x128_96_0_0 inb_S256x2x128_S8x2x128_104_0_0 slices_S32x128_o0_0_S8x128 slices_S32x128_o8_0_S8x128 (k0_off68 k 192#32) (at68_6 k) (k0_off68_inb k 6) x
  · intro x; exact code_piece arg2 harg2 arg3 arg7 arg8 arg10 arg11 X_arg2 X_arg3 k 2 1 (by omega) (by omega) inb_S8x128_S8x128_2_0_s_0_1 inb_S256x128_S32x128_64_0
      inb_S256x2x128_S8x2x128_80_0_0 inb_S256x2x128_S8x2x128_88_0_0 slices_S32x128_o16_0_S8x128 slices_S32x128_o24_0_S8x128 (k0_off68 k 160#32) (at68_5 k) (k0_off68_inb k 5) x
  · intro x; exact code_piece arg2 harg2 arg3 arg7 arg8 arg10 arg11 X_arg2 X_arg3 k 2 0 (by omega) (by omega) inb_S8x128_S8x128_2_0_s_0_1 inb_S256x128_S32x128_64_0
      inb_S256x2x128_S8x2x128_64_0_0 inb_S256x2x128_S8x2x128_72_0_0 slices_S32x128_o0_0_S8x128 slices_S32x128_o8_0_S8x128 (k0_off68 k 128#32) (at68_4 k) (k0_off68_inb k 4) x
  · intro x; exact code_piece arg2 harg2 arg3 arg7 arg8 arg10 arg11 X_arg2 X_arg3 k 1 1 (by omega) (by omega) inb_S8x128_S8x128_1_0_s_0_1 inb_S256x128_S32x128_32_0
      inb_S256x2x128_S8x2x128_48_0_0 inb_S256x2x128_S8x2x128_56_0_0 slices_S32x128_o16_0_S8x128 slices_S32x128_o24_0_S8x128 (k0_off68 k 96#32) (at68_3 k) (k0_off68_inb k 3) x
  · intro x; exact code_piece arg2 harg2 arg3 arg7 arg8 arg10 arg11 X_arg2 X_arg3 k 1 0 (by omega) (by omega) inb_S8x128_S8x128_1_0_s_0_1 inb_S256x128_S32x128_32_0
      inb_S256x2x128_S8x2x128_32_0_0 inb_S256x2x128_S8x2x128_40_0_0 slices_S32x128_o0_0_S8x128 slices_S32x128_o8_0_S8x128 (k0_off68 k 64#32) (at68_2 k) (k0_off68_inb k 2) x
  · intro x; exact code_piece arg2 harg2 arg3 arg7 arg8 arg10 arg11 X_arg2 X_arg3 k 0 1 (by omega) (by omega) inb_S8x128_S8x128_0_0_s_0_1 inb_S256x128_S32x128_0_0
      inb_S256x2x128_S8x2x128_16_0_0 inb_S256x2x128_S8x2x128_24_0_0 slices_S32x128_o16_0_S8x128 slices_S32x128_o24_0_S8x128 (k0_off68 k 32#32) (at68_1 k) (k0_off68_inb k 1) x
  · intro x; exact code_piece arg2 harg2 arg3 arg7 arg8 arg10 arg11 X_arg2 X_arg3 k 0 0 (by omega) (by omega) inb_S8x128_S8x128_0_0_s_0_1 inb_S256x128_S32x128_0_0
      inb_S256x2x128_S8x2x128_0_0_0 inb_S256x2x128_S8x2x128_8_0_0 slices_S32x128_o0_0_S8x128 slices_S32x128_o8_0_S8x128 (k0_off68 k 0#32) (at68_0 k) (k0_off68_inb k 0) x

end Cert.KernelIdeal.Block
-- ==== Proof.KernI.TripRest.lean ====
/- One trip of the loop: the scales and the places it stores. -/
module

public import proofs.«01_k».proof.Proof.KernI.TripPieces

@[expose] public section

noncomputable section

namespace Cert.KernelIdeal.Block

open Cert.KernelIdeal Cert.KernelIdeal.Gen Cert.KernelIdeal.Own
open Idealize.ShloMosaic Idealize.ShloMosaic.ValueIdx Idealize.ShloMosaic.TcCoe

variable (𝒱 : Variants) (c : Dev nD) (bd : Option 𝒱.V) (i : grid0.Coords) (arg2 : Memref sig .tc .vmem S1x2048x128 .bf16) (harg2 : arg2.IsWhole)
  (arg3 : Memref sig .tc .vmem S1x512x128 .i32) (harg3 : arg3.IsWhole) (arg4 : Memref sig .tc .vmem S1x1024x128 .fp8e5m2) (harg4 : arg4.IsWhole)
  (arg5 : Memref sig .tc .vmem S1x16x128 .f32) (harg5 : arg5.IsWhole) (arg6 : Memref sig .tc .vmem S1x256x128 .i8) (harg6 : arg6.IsWhole)
  (arg7 : Memref sig .tc .vmem S256x2x128 .bf16) (harg7 : arg7.IsWhole) (arg8 : Memref sig .tc .vmem S256x128 .f32) (harg8 : arg8.IsWhole)
  (arg9 : Memref sig .tc .vmem S256x128 .i32) (harg9 : arg9.IsWhole) (arg10 : Memref sig .tc .vmem S64x128 .f32) (harg10 : arg10.IsWhole)
  (arg11 : Memref sig .tc .vmem S8x128 .f32) (harg11 : arg11.IsWhole)
  (X_arg2 : BufTy.Contents (Elt Ideal) arg2.view.ty) (X_arg3 : BufTy.Contents (Elt Ideal) arg3.view.ty) (k : Fin k0_t1_loop.trips)

/-- The scales a trip stores are the block's scales. -/
theorem scales_pieces : View.PiecesOf (scales arg2 X_arg2) (trip_k0_t1 (F := Ideal) 𝒱 c bd i arg2 harg2 arg3 harg3 arg4 harg4 arg5 harg5 arg6 harg6 arg7 harg7 arg8 harg8 arg9 harg9 arg10 harg10 arg11 harg11 X_arg2 X_arg3 k).2.1 := by
  unfold trip_k0_t1
  refine ⟨?_, trivial⟩
  intro x; exact scale_piece arg2 harg2 arg10 X_arg2 k (k0_off66 k) (at66 k) (k0_off66_inb k) x

/-- The places a trip stores are the block's places. -/
theorem metas_pieces : View.PiecesOf (metas arg2 arg3 X_arg2 X_arg3) (trip_k0_t1 (F := Ideal) 𝒱 c bd i arg2 harg2 arg3 harg3 arg4 harg4 arg5 harg5 arg6 harg6 arg7 harg7 arg8 harg8 arg9 harg9 arg10 harg10 arg11 harg11 X_arg2 X_arg3 k).2.2.1 := by
  unfold trip_k0_t1
  refine ⟨?_, ?_, ?_, ?_, trivial⟩
  · intro x; exact meta_piece arg2 harg2 arg3 arg9 X_arg2 X_arg3 k 3 (by omega) inb_S256x128_S8x128_192_0_s_8_1 inb_S256x128_S8x128_193_0_s_8_1 inb_S256x128_S8x128_194_0_s_8_1 inb_S256x128_S8x128_195_0_s_8_1 inb_S256x128_S8x128_196_0_s_8_1 inb_S256x128_S8x128_197_0_s_8_1 inb_S256x128_S8x128_198_0_s_8_1 inb_S256x128_S8x128_199_0_s_8_1 (k0_off67 k 96#32) (at67_3 k) (k0_off67_inb k 3) x
  · intro x; exact meta_piece arg2 harg2 arg3 arg9 X_arg2 X_arg3 k 2 (by omega) inb_S256x128_S8x128_128_0_s_8_1 inb_S256x128_S8x128_129_0_s_8_1 inb_S256x128_S8x128_130_0_s_8_1 inb_S256x128_S8x128_131_0_s_8_1 inb_S256x128_S8x128_132_0_s_8_1 inb_S256x128_S8x128_133_0_s_8_1 inb_S256x128_S8x128_134_0_s_8_1 inb_S256x128_S8x128_135_0_s_8_1 (k0_off67 k 64#32) (at67_2 k) (k0_off67_inb k 2) x
  · intro x; exact meta_piece arg2 harg2 arg3 arg9 X_arg2 X_arg3 k 1 (by omega) inb_S256x128_S8x128_64_0_s_8_1 inb_S256x128_S8x128_65_0_s_8_1 inb_S256x128_S8x128_66_0_s_8_1 inb_S256x128_S8x128_67_0_s_8_1 inb_S256x128_S8x128_68_0_s_8_1 inb_S256x128_S8x128_69_0_s_8_1 inb_S256x128_S8x128_70_0_s_8_1 inb_S256x128_S8x128_71_0_s_8_1 (k0_off67 k 32#32) (at67_1 k) (k0_off67_inb k 1) x
  · intro x; exact meta_piece arg2 harg2 arg3 arg9 X_arg2 X_arg3 k 0 (by omega) inb_S256x128_S8x128_0_0_s_8_1 inb_S256x128_S8x128_1_0_s_8_1 inb_S256x128_S8x128_2_0_s_8_1 inb_S256x128_S8x128_3_0_s_8_1 inb_S256x128_S8x128_4_0_s_8_1 inb_S256x128_S8x128_5_0_s_8_1 inb_S256x128_S8x128_6_0_s_8_1 inb_S256x128_S8x128_7_0_s_8_1 (k0_off67 k 0#32) (at67_0 k) (k0_off67_inb k 0) x

end Cert.KernelIdeal.Block
-- ==== Proof.KernI.Out.lean ====
/- One trip of the loop: what a whole run stores into the three results' blocks. -/
module

public import proofs.«01_k».proof.Proof.KernI.TripCodes
public import proofs.«01_k».proof.Proof.KernI.TripRest
public import proofs.«01_k».proof.Proof.KernI.Frame

@[expose] public section

noncomputable section

namespace Cert.KernelIdeal.Block

open Cert.KernelIdeal Cert.KernelIdeal.Gen Cert.KernelIdeal.Own
open Idealize.ShloMosaic Idealize.ShloMosaic.ValueIdx Idealize.ShloMosaic.TcCoe

variable (𝒱 : Variants) (c : Dev nD) (bd : Option 𝒱.V) (i : grid0.Coords) (arg2 : Memref sig .tc .vmem S1x2048x128 .bf16) (harg2 : arg2.IsWhole)
  (arg3 : Memref sig .tc .vmem S1x512x128 .i32) (harg3 : arg3.IsWhole) (arg4 : Memref sig .tc .vmem S1x1024x128 .fp8e5m2) (harg4 : arg4.IsWhole)
  (arg5 : Memref sig .tc .vmem S1x16x128 .f32) (harg5 : arg5.IsWhole) (arg6 : Memref sig .tc .vmem S1x256x128 .i8) (harg6 : arg6.IsWhole)
  (arg7 : Memref sig .tc .vmem S256x2x128 .bf16) (harg7 : arg7.IsWhole) (arg8 : Memref sig .tc .vmem S256x128 .f32) (harg8 : arg8.IsWhole)
  (arg9 : Memref sig .tc .vmem S256x128 .i32) (harg9 : arg9.IsWhole) (arg10 : Memref sig .tc .vmem S64x128 .f32) (harg10 : arg10.IsWhole)
  (arg11 : Memref sig .tc .vmem S8x128 .f32) (harg11 : arg11.IsWhole)
  (X_arg2 : BufTy.Contents (Elt Ideal) arg2.view.ty) (X_arg3 : BufTy.Contents (Elt Ideal) arg3.view.ty)

/-- Everything the trips store up to one of them is a piece of the block's contents. -/
theorem trips_pieces (n : ℕ) (hn : n ≤ k0_t1_loop.trips) :
    (∀ p ∈ (pb_k0_t1 (F := Ideal) 𝒱 c bd i arg2 harg2 arg3 harg3 arg4 harg4 arg5 harg5 arg6 harg6 arg7 harg7 arg8 harg8 arg9 harg9 arg10 harg10 arg11 harg11 X_arg2 X_arg3 n).1, ∀ x, p.2 x = codes arg2 arg3 X_arg2 X_arg3 (p.1.emb x))
    ∧ (∀ p ∈ (pb_k0_t1 (F := Ideal) 𝒱 c bd i arg2 harg2 arg3 harg3 arg4 harg4 arg5 harg5 arg6 harg6 arg7 harg7 arg8 harg8 arg9 harg9 arg10 harg10 arg11 harg11 X_arg2 X_arg3 n).2.1, ∀ x, p.2 x = scales arg2 X_arg2 (p.1.emb x))
    ∧ (∀ p ∈ (pb_k0_t1 (F := Ideal) 𝒱 c bd i arg2 harg2 arg3 harg3 arg4 harg4 arg5 harg5 arg6 harg6 arg7 harg7 arg8 harg8 arg9 harg9 arg10 harg10 arg11 harg11 X_arg2 X_arg3 n).2.2.1, ∀ x, p.2 x = metas arg2 arg3 X_arg2 X_arg3 (p.1.emb x)) := by
  induction n with
  | zero => exact ⟨fun p hp => absurd hp List.not_mem_nil, fun p hp => absurd hp List.not_mem_nil, fun p hp => absurd hp List.not_mem_nil⟩
  | succ n ih =>
    obtain ⟨h1, h2, h3⟩ := ih (by omega)
    rw [pb_k0_t1_succ 𝒱 c bd i arg2 harg2 arg3 harg3 arg4 harg4 arg5 harg5 arg6 harg6 arg7 harg7 arg8 harg8 arg9 harg9 arg10 harg10 arg11 harg11 X_arg2 X_arg3 ⟨n, hn⟩]
    refine ⟨fun p hp => ?_, fun p hp => ?_, fun p hp => ?_⟩
    · rcases List.mem_append.mp hp with hp | hp
      · exact (codes_pieces 𝒱 c bd i arg2 harg2 arg3 harg3 arg4 harg4 arg5 harg5 arg6 harg6 arg7 harg7 arg8 harg8 arg9 harg9 arg10 harg10 arg11 harg11 X_arg2 X_arg3 ⟨n, hn⟩).mem p hp
      · exact h1 p hp
    · rcases List.mem_append.mp hp with hp | hp
      · exact (scales_pieces 𝒱 c bd i arg2 harg2 arg3 harg3 arg4 harg4 arg5 harg5 arg6 harg6 arg7 harg7 arg8 harg8 arg9 harg9 arg10 harg10 arg11 harg11 X_arg2 X_arg3 ⟨n, hn⟩).mem p hp
      · exact h2 p hp
    · rcases List.mem_append.mp hp with hp | hp
      · exact (metas_pieces 𝒱 c bd i arg2 harg2 arg3 harg3 arg4 harg4 arg5 harg5 arg6 harg6 arg7 harg7 arg8 harg8 arg9 harg9 arg10 harg10 arg11 harg11 X_arg2 X_arg3 ⟨n, hn⟩).mem p hp
      · exact h3 p hp

variable (x0 : Vec Ideal S1x2048x128 .bf16) (x1 : Vec Ideal S1x512x128 .i32)

theorem inX_unread : inX arg2 (harg2.unread x0) = x0 := Memref.IsWhole.read_unread _ _
theorem inR_unread : inR arg3 (harg3.unread x1) = x1 := Memref.IsWhole.read_unread _ _

/-- The block of codes a run leaves. -/
theorem out2_apply (y : S1x1024x128.Idx) : out0_A_2 (F := Ideal) c i arg2 harg2 arg3 harg3 arg4 harg4 arg5 harg5 arg6 harg6 arg7 harg7 arg8 harg8 arg9 harg9 arg10 harg10 arg11 harg11 x0 x1 y = codeAt x0 x1 (y 1).val (y 2) := by
  unfold out0_A_2
  refine (View.read_writes_apply_of_pieces _ _ (codes arg2 arg3 (harg2.unread x0) (harg3.unread x1)) _ (trips_pieces Variants.none c none i arg2 harg2 arg3 harg3 arg4 harg4 arg5 harg5 arg6 harg6 arg7 harg7 arg8 harg8 arg9 harg9 arg10 harg10 arg11 harg11 (harg2.unread x0) (harg3.unread x1) _ (le_refl _)).1 y
    (cover0_A_2 (F := Ideal) c i arg2 harg2 arg3 harg3 arg4 harg4 arg5 harg5 arg6 harg6 arg7 harg7 arg8 harg8 arg9 harg9 arg10 harg10 arg11 harg11 x0 x1 y)).trans ?_
  unfold codes
  rw [inX_unread, inR_unread]

/-- The block of scales a run leaves. -/
theorem out3_apply (y : S1x16x128.Idx) : out0_A_3 (F := Ideal) c i arg2 harg2 arg3 harg3 arg4 harg4 arg5 harg5 arg6 harg6 arg7 harg7 arg8 harg8 arg9 harg9 arg10 harg10 arg11 harg11 x0 x1 y = Mvue.scale (amaxAt x0 (y 1).val (y 2)) := by
  unfold out0_A_3
  refine (View.read_writes_apply_of_pieces _ _ (scales arg2 (harg2.unread x0)) _ (trips_pieces Variants.none c none i arg2 harg2 arg3 harg3 arg4 harg4 arg5 harg5 arg6 harg6 arg7 harg7 arg8 harg8 arg9 harg9 arg10 harg10 arg11 harg11 (harg2.unread x0) (harg3.unread x1) _ (le_refl _)).2.1 y
    (cover0_A_3 (F := Ideal) c i arg2 harg2 arg3 harg3 arg4 harg4 arg5 harg5 arg6 harg6 arg7 harg7 arg8 harg8 arg9 harg9 arg10 harg10 arg11 harg11 x0 x1 y)).trans ?_
  unfold scales
  rw [inX_unread]

/-- The block of places a run leaves. -/
theorem out4_apply (y : S1x256x128.Idx) : out0_A_4 (F := Ideal) c i arg2 harg2 arg3 harg3 arg4 harg4 arg5 harg5 arg6 harg6 arg7 harg7 arg8 harg8 arg9 harg9 arg10 harg10 arg11 harg11 x0 x1 y = metaAt x0 x1 (y 1).val (y 2) := by
  unfold out0_A_4
  refine (View.read_writes_apply_of_pieces _ _ (metas arg2 arg3 (harg2.unread x0) (harg3.unread x1)) _ (trips_pieces Variants.none c none i arg2 harg2 arg3 harg3 arg4 harg4 arg5 harg5 arg6 harg6 arg7 harg7 arg8 harg8 arg9 harg9 arg10 harg10 arg11 harg11 (harg2.unread x0) (harg3.unread x1) _ (le_refl _)).2.2 y
    (cover0_A_4 (F := Ideal) c i arg2 harg2 arg3 harg3 arg4 harg4 arg5 harg5 arg6 harg6 arg7 harg7 arg8 harg8 arg9 harg9 arg10 harg10 arg11 harg11 x0 x1 y)).trans ?_
  unfold metas
  rw [inX_unread, inR_unread]

end Cert.KernelIdeal.Block
-- ==== Proof.KernI.Final.lean ====
/- The kernel's three result arrays, element by element, from its blocks. -/
module

public import proofs.«01_k».proof.Proof.KernI.Value
public import proofs.«01_k».proof.Proof.KernI.Out
public import proofs.«01_k».proof.Proof.Math.Column
public import Idealize.ShloMosaic.Lib.Pipeline.ValueKit.Geometry
public import Idealize.ShloMosaic.Lib.ValueIdxCore

@[expose] public section

noncomputable section

namespace Cert.KernelIdeal.Final

open Cert.KernelIdeal Cert.KernelIdeal.Gen Cert.KernelIdeal.Own Cert.KernelIdeal.Block Cert.KernelIdeal.Value
open Idealize.ShloMosaic Idealize.ShloMosaic.TcCoe Idealize.ShloMosaic.ValueIdx Idealize.SL.Sem
open Cert.Mvue

/-- Column `d` of matrix `b` of the numbers. -/
def col (A : S12x2048x7168.Idx → EReal) (b : Fin 12) (d : Fin 7168) : ℕ → EReal := fun n => if h : n < 2048 then A (ix3 b ⟨n, h⟩ d) else 0
/-- Column `d` of matrix `b` of the random words. -/
def rcol (A : S12x512x7168.Idx → BitVec 32) (b : Fin 12) (d : Fin 7168) : ℕ → BitVec 32 := fun q => if h : q < 512 then A (ix3 b ⟨q, h⟩ d) else 0

/-- The codes, the scales and the places of the whole arrays. -/
def codes (A : S12x2048x7168.Idx → EReal) (B : S12x512x7168.Idx → BitVec 32) (i : S12x1024x7168.Idx) : EReal :=
  Col.code (col A (i 0) (i 2)) (rcol B (i 0) (i 2)) (i 1).val
def scales (A : S12x2048x7168.Idx → EReal) (i : S12x16x7168.Idx) : EReal :=
  Mvue.scale (Col.amax (col A (i 0) (i 2)) (i 1).val)
def places (A : S12x2048x7168.Idx → EReal) (B : S12x512x7168.Idx → BitVec 32) (i : S12x256x7168.Idx) : BitVec 8 :=
  Col.places (col A (i 0) (i 2)) (rcol B (i 0) (i 2)) (i 1).val

/-! ## The blocks of a point -/

theorem e0 : ∀ t : Fin cfg0.N, win0_0.index t = ![t.val / 56, 0, t.val % 56] := (by decide +kernel : ∀ t : Fin grid0.N, _)
theorem e1 : ∀ t : Fin cfg0.N, win0_1.index t = ![t.val / 56, 0, t.val % 56] := (by decide +kernel : ∀ t : Fin grid0.N, _)
theorem e2 : ∀ t : Fin cfg0.N, win0_2.index t = ![t.val / 56, 0, t.val % 56] := (by decide +kernel : ∀ t : Fin grid0.N, _)
theorem e3 : ∀ t : Fin cfg0.N, win0_3.index t = ![t.val / 56, 0, t.val % 56] := (by decide +kernel : ∀ t : Fin grid0.N, _)
theorem e4 : ∀ t : Fin cfg0.N, win0_4.index t = ![t.val / 56, 0, t.val % 56] := (by decide +kernel : ∀ t : Fin grid0.N, _)

variable (m : (ℓ : Loc nD τ sig) → Buf (Elt Ideal) ℓ)

theorem col_of (c : Dev nD) (t : Fin cfg0.N) (l : Fin 128) (b : Fin 12) (d : Fin 7168) (hb : b.val = t.val / 56) (hd : d.val = t.val % 56 * 128 + l.val) :
    (fun n => el (iblk m c 0 t) n l) = col (V m c main_arg0) b d := by
  funext n
  unfold el col
  by_cases h : n < 2048
  · rw [dif_pos h, dif_pos h]
    refine congrArg (V m c main_arg0) ?_
    blk_ext [e0, hb, hd]
  · rw [dif_neg h, dif_neg h]

theorem rcol_of (c : Dev nD) (t : Fin cfg0.N) (l : Fin 128) (b : Fin 12) (d : Fin 7168) (hb : b.val = t.val / 56) (hd : d.val = t.val % 56 * 128 + l.val) :
    (fun n => rnd (iblk m c 1 t) n l) = rcol (V m c main_arg1) b d := by
  funext n
  unfold rnd rcol
  by_cases h : n < 512
  · rw [dif_pos h, dif_pos h]
    refine congrArg (V m c main_arg1) ?_
    blk_ext [e1, hb, hd]
  · rw [dif_neg h, dif_neg h]

theorem codeAt_eq (X : S1x2048x128.Idx → EReal) (R : S1x512x128.Idx → BitVec 32) (p : ℕ) (l : Fin 128) :
    codeAt X R p l = Col.code (fun n => el X n l) (fun q => rnd R q l) p := rfl
theorem amaxAt_eq (X : S1x2048x128.Idx → EReal) (p : ℕ) (l : Fin 128) :
    amaxAt X p l = Col.amax (fun n => el X n l) p := rfl
theorem metaAt_eq (X : S1x2048x128.Idx → EReal) (R : S1x512x128.Idx → BitVec 32) (p : ℕ) (l : Fin 128) :
    metaAt X R p l = Col.places (fun n => el X n l) (fun q => rnd R q l) p := rfl

theorem codes_of (c : Dev nD) (t : Fin cfg0.N) (p : ℕ) (l : Fin 128) (i : S12x1024x7168.Idx)
    (h0 : (i 0).val = t.val / 56) (h1 : (i 1).val = p) (h2 : (i 2).val = t.val % 56 * 128 + l.val) :
    codeAt (iblk m c 0 t) (iblk m c 1 t) p l = codes (V m c main_arg0) (V m c main_arg1) i := by
  rw [codeAt_eq, col_of m c t l (i 0) (i 2) h0 h2, rcol_of m c t l (i 0) (i 2) h0 h2, ← h1]
  rfl

theorem scales_of (c : Dev nD) (t : Fin cfg0.N) (p : ℕ) (l : Fin 128) (i : S12x16x7168.Idx)
    (h0 : (i 0).val = t.val / 56) (h1 : (i 1).val = p) (h2 : (i 2).val = t.val % 56 * 128 + l.val) :
    Mvue.scale (amaxAt (iblk m c 0 t) p l) = scales (V m c main_arg0) i := by
  rw [amaxAt_eq, col_of m c t l (i 0) (i 2) h0 h2, ← h1]
  rfl

theorem places_of (c : Dev nD) (t : Fin cfg0.N) (p : ℕ) (l : Fin 128) (i : S12x256x7168.Idx)
    (h0 : (i 0).val = t.val / 56) (h1 : (i 1).val = p) (h2 : (i 2).val = t.val % 56 * 128 + l.val) :
    metaAt (iblk m c 0 t) (iblk m c 1 t) p l = places (V m c main_arg0) (V m c main_arg1) i := by
  rw [metaAt_eq, col_of m c t l (i 0) (i 2) h0 h2, rcol_of m c t l (i 0) (i 2) h0 h2, ← h1]
  rfl

/-! ## The whole arrays -/

theorem final2 (c : Dev nD) : (dats m 0 c).arrAt 2 cfg0.N = codes (V m c main_arg0) (V m c main_arg1) := by
  refine (dats m 0 c).arrAt_eq_of_covers 2 _ (by decide +kernel) fun t hf y => ?_
  blk_simp
  rw [after0_2]
  refine (out2_apply c (grid0.coords t) _ _ _ _ _ _ _ _ _ _ _ _ _ _ _ _ _ _ _ _ (iblk m c 0 t) (iblk m c 1 t) y).trans ?_
  refine codes_of m c t _ _ _ ?_ ?_ ?_
  · blk_simp [e2]
  · blk_simp [e2]
  · blk_simp [e2]

theorem final3 (c : Dev nD) : (dats m 0 c).arrAt 3 cfg0.N = scales (V m c main_arg0) := by
  refine (dats m 0 c).arrAt_eq_of_covers 3 _ (by decide +kernel) fun t hf y => ?_
  blk_simp
  rw [after0_3]
  refine (out3_apply c (grid0.coords t) _ _ _ _ _ _ _ _ _ _ _ _ _ _ _ _ _ _ _ _ (iblk m c 0 t) (iblk m c 1 t) y).trans ?_
  refine scales_of m c t _ _ _ ?_ ?_ ?_
  · blk_simp [e3]
  · blk_simp [e3]
  · blk_simp [e3]

theorem final4 (c : Dev nD) : (dats m 0 c).arrAt 4 cfg0.N = places (V m c main_arg0) (V m c main_arg1) := by
  refine (dats m 0 c).arrAt_eq_of_covers 4 _ (by decide +kernel) fun t hf y => ?_
  blk_simp
  rw [after0_4]
  refine (out4_apply c (grid0.coords t) _ _ _ _ _ _ _ _ _ _ _ _ _ _ _ _ _ _ _ _ (iblk m c 0 t) (iblk m c 1 t) y).trans ?_
  refine places_of m c t _ _ _ ?_ ?_ ?_
  · blk_simp [e4]
  · blk_simp [e4]
  · blk_simp [e4]

end Cert.KernelIdeal.Final
-- ==== Proof.RefI.Cells.lean ====
/- The reference's vectors, one element at a time: the group's own terms. -/
module

public import proofs.«01_k».proof.Proof.Gen.ReferenceIdeal.Frame
public import proofs.«01_k».proof.Proof.Math.Column
public import Idealize.ShloMosaic.Lib.ValueIdxCore
public import Idealize.ShloMosaic.PureOps.Reduce
public import Idealize.ShloMosaic.Lib.Pipeline.Value

@[expose] public section

noncomputable section

namespace Cert.ReferenceIdeal.Cells

open Cert.ReferenceIdeal Cert.ReferenceIdeal.Gen
open Idealize.ShloMosaic Idealize.ShloMosaic.ValueIdx
open Cert.Mvue

/-- Column `d` of matrix `b` of the numbers. -/
def col (A : S12x2048x7168.Idx → EReal) (b : Fin 12) (d : Fin 7168) : ℕ → EReal := fun n => if h : n < 2048 then A (ix3 b ⟨n, h⟩ d) else 0
/-- Column `d` of matrix `b` of the random words. -/
def rcol (A : S12x512x7168.Idx → BitVec 32) (b : Fin 12) (d : Fin 7168) : ℕ → BitVec 32 := fun q => if h : q < 512 then A (ix3 b ⟨q, h⟩ d) else 0

variable (x0 : FVec Ideal S12x2048x7168 .bf16) (x1 : IVec S12x512x7168 32)

theorem ld0 : View.ld (Val := Elt Ideal) (e' := .bf16) x0 r0_0 = x0 :=
  View.ld_unit_zero (Val := Elt Ideal) (e := .bf16) (S := S12x2048x7168) (off := ![0, 0, 0]) (by funext a; match a with | ⟨0, _⟩ => rfl | ⟨1, _⟩ => rfl | ⟨2, _⟩ => rfl) _ x0
theorem ld1 : View.ld (Val := Elt Ideal) (e' := .i32) x1 r0_1 = x1 :=
  View.ld_unit_zero (Val := Elt Ideal) (e := .i32) (S := S12x512x7168) (off := ![0, 0, 0]) (by funext a; match a with | ⟨0, _⟩ => rfl | ⟨1, _⟩ => rfl | ⟨2, _⟩ => rfl) _ x1

/-! ## A group's numbers -/

theorem slice_apply (k : ℕ) (hk : k < 4) (y : S12x512x7168.Idx)
    (h : Shape.Slices S12x512x28672 ![0, 0, 7168 * k] S12x512x7168) :
    extractStridedSlice S12x512x7168 ![0, 0, 7168 * k] (shapeCast S12x512x28672 x0 shapeCasts_S12x2048x7168_S12x512x28672) h y
      = col x0 (y 0) (y 2) (4 * (y 1).val + k) := by
  have h0 : (y 0).val < 12 := (y 0).isLt
  have h1 : (y 1).val < 512 := (y 1).isLt
  have h2 : (y 2).val < 7168 := (y 2).isLt
  have hn : 4 * (y 1).val + k < 2048 := by omega
  have hm : 7168 * k + (y 2).val < 28672 := by omega
  refine (extractStridedSlice_apply _ _ h y (ix3 (y 0) (y 1) ⟨7168 * k + (y 2).val, hm⟩) ?_).trans ?_
  · intro a
    match a with
    | ⟨0, _⟩ => exact (Nat.zero_add _).symm
    | ⟨1, _⟩ => exact (Nat.zero_add _).symm
    | ⟨2, _⟩ => rfl
  · refine (shapeCast_apply _ _ _ (ix3 (y 0) ⟨4 * (y 1).val + k, hn⟩ (y 2)) ?_).trans ?_
    · rw [Shape.rowMajor_val_three, Shape.rowMajor_val_three]
      show ((y 0).val * 2048 + (4 * (y 1).val + k)) * 7168 + (y 2).val = ((y 0).val * 512 + (y 1).val) * 28672 + (7168 * k + (y 2).val)
      omega
    · unfold col
      rw [dif_pos hn]
      rfl

theorem v4_apply (y : S12x512x7168.Idx) : k0_pay42 (F := Ideal) x0 x1 y = col x0 (y 0) (y 2) (4 * (y 1).val) := by
  unfold k0_pay42; rw [ld0]; exact slice_apply x0 0 (by omega) y slices_S12x512x28672_o0_0_0_S12x512x7168
theorem v6_apply (y : S12x512x7168.Idx) : k0_pay43 (F := Ideal) x0 x1 y = col x0 (y 0) (y 2) (4 * (y 1).val + 1) := by
  unfold k0_pay43; rw [ld0]; exact slice_apply x0 1 (by omega) y slices_S12x512x28672_o0_0_7168_S12x512x7168
theorem v8_apply (y : S12x512x7168.Idx) : k0_pay44 (F := Ideal) x0 x1 y = col x0 (y 0) (y 2) (4 * (y 1).val + 2) := by
  unfold k0_pay44; rw [ld0]; exact slice_apply x0 2 (by omega) y slices_S12x512x28672_o0_0_14336_S12x512x7168
theorem v10_apply (y : S12x512x7168.Idx) : k0_pay45 (F := Ideal) x0 x1 y = col x0 (y 0) (y 2) (4 * (y 1).val + 3) := by
  unfold k0_pay45; rw [ld0]; exact slice_apply x0 3 (by omega) y slices_S12x512x28672_o0_0_21504_S12x512x7168
theorem v1_apply (y : S12x512x7168.Idx) : View.ld (Val := Elt Ideal) (e' := .i32) x1 r0_1 y = rcol x1 (y 0) (y 2) (y 1).val := by
  rw [ld1]
  unfold rcol
  rw [dif_pos (show (y 1).val < 512 from (y 1).isLt)]
  refine congrArg x1 ?_
  funext a
  match a with
  | ⟨0, _⟩ => rfl
  | ⟨1, _⟩ => rfl
  | ⟨2, _⟩ => rfl

/-! ## Element by element -/

/-- The value kept at a position, from the group's numbers and terms. -/
def keptOf (x0 x1 x2 x3 : EReal) (dom : BitVec 1) (first : BitVec 32) (rest half : EReal) (p : BitVec 32) : EReal :=
  Scalar.select dom
    (Scalar.select (IntOp.cmpi .eq p first) (Ref.pick x0 x1 x2 x3 p)
      (Scalar.select (Ideal.cmp .oeq rest (Ideal.ofBits .f32 0x00000000#32)) (Ideal.ofBits .f32 0x00000000#32)
        (Ref.sgn (Ref.pick x0 x1 x2 x3 p) * rest)))
    (Ref.sgn (Ref.pick x0 x1 x2 x3 p) * half)

theorem kept_eq (x0 x1 x2 x3 : EReal) (p : BitVec 32) :
    Ref.kept x0 x1 x2 x3 p = keptOf x0 x1 x2 x3 (Ref.dom x0 x1 x2 x3) (Ref.first x0 x1 x2 x3) (Ref.rest x0 x1 x2 x3) (Ref.half x0 x1 x2 x3) p := rfl

section
variable (v4 v6 v8 v10 v17 v20 v36 v70 : FVec Ideal S12x512x7168 .f32) (v30 v67 v82 v68 v90 v92 : IVec S12x512x7168 32) (v98 : IVec S12x512x7168 1)

theorem pay32_apply (y : S12x512x7168.Idx) : k0_pay32 (F := Ideal) v4 v6 v8 v10 v17 v20 v30 v36 v67 v70 v82 y
    = keptOf (v4 y) (v6 y) (v8 y) (v10 y) (k0_pay29 (F := Ideal) v17 v20 y) (v30 y) (v36 y) (v70 y) (k0_pay30 (F := Ideal) v17 v20 v67 v82 y) := rfl

theorem pay36_gen : k0_pay36 (F := Ideal) v30 v36 v70 v98 (k0_pay31 (F := Ideal) v17 v20 v68 v90 v92)
      (k0_pay33 (F := Ideal) v4 v6 v8 v10 v17 v20 v68 v90 v92) (k0_pay34 (F := Ideal) v4 v6 v8 v10 v17 v20 v68 v90 v92)
    = shapeCast S12x16x32x7168 (fun y => keptOf (v4 y) (v6 y) (v8 y) (v10 y) (v98 y) (v30 y) (v36 y) (v70 y) (k0_pay31 (F := Ideal) v17 v20 v68 v90 v92 y))
      shapeCasts_S12x512x7168_S12x16x32x7168 := rfl
end

section
variable (y : S12x512x7168.Idx)

theorem tot_apply : k0_pay51 (F := Ideal) x0 x1 y = tot (k0_pay42 (F := Ideal) x0 x1 y) (k0_pay43 (F := Ideal) x0 x1 y) (k0_pay44 (F := Ideal) x0 x1 y) (k0_pay45 (F := Ideal) x0 x1 y) := rfl
theorem top_apply : k0_pay52 (F := Ideal) x0 x1 y = top (k0_pay42 (F := Ideal) x0 x1 y) (k0_pay43 (F := Ideal) x0 x1 y) (k0_pay44 (F := Ideal) x0 x1 y) (k0_pay45 (F := Ideal) x0 x1 y) := rfl
theorem first_apply : k0_pay53 (F := Ideal) x0 x1 y = Ref.first (k0_pay42 (F := Ideal) x0 x1 y) (k0_pay43 (F := Ideal) x0 x1 y) (k0_pay44 (F := Ideal) x0 x1 y) (k0_pay45 (F := Ideal) x0 x1 y) := rfl
theorem frac_apply : k0_pay54 (F := Ideal) x0 x1 y = Ref.frac (View.ld (Val := Elt Ideal) (e' := .i32) x1 r0_1 y) := rfl
theorem rest_apply : k0_pay55 (F := Ideal) x0 x1 y = Ref.rest (k0_pay42 (F := Ideal) x0 x1 y) (k0_pay43 (F := Ideal) x0 x1 y) (k0_pay44 (F := Ideal) x0 x1 y) (k0_pay45 (F := Ideal) x0 x1 y) := rfl
theorem half_apply : k0_pay60 (F := Ideal) x0 x1 y = Ref.half (k0_pay42 (F := Ideal) x0 x1 y) (k0_pay43 (F := Ideal) x0 x1 y) (k0_pay44 (F := Ideal) x0 x1 y) (k0_pay45 (F := Ideal) x0 x1 y) := rfl
theorem dom_apply : k0_pay64 (F := Ideal) x0 x1 y = Ref.dom (k0_pay42 (F := Ideal) x0 x1 y) (k0_pay43 (F := Ideal) x0 x1 y) (k0_pay44 (F := Ideal) x0 x1 y) (k0_pay45 (F := Ideal) x0 x1 y) := rfl
theorem lowMin_apply : k0_pay58 (F := Ideal) x0 x1 y = IntOp.minsi (Ref.first (k0_pay42 (F := Ideal) x0 x1 y) (k0_pay43 (F := Ideal) x0 x1 y) (k0_pay44 (F := Ideal) x0 x1 y) (k0_pay45 (F := Ideal) x0 x1 y)) (Ref.other (k0_pay42 (F := Ideal) x0 x1 y) (k0_pay43 (F := Ideal) x0 x1 y) (k0_pay44 (F := Ideal) x0 x1 y) (k0_pay45 (F := Ideal) x0 x1 y) (View.ld (Val := Elt Ideal) (e' := .i32) x1 r0_1 y)) := rfl
theorem highMax_apply : k0_pay59 (F := Ideal) x0 x1 y = IntOp.maxsi (Ref.first (k0_pay42 (F := Ideal) x0 x1 y) (k0_pay43 (F := Ideal) x0 x1 y) (k0_pay44 (F := Ideal) x0 x1 y) (k0_pay45 (F := Ideal) x0 x1 y)) (Ref.other (k0_pay42 (F := Ideal) x0 x1 y) (k0_pay43 (F := Ideal) x0 x1 y) (k0_pay44 (F := Ideal) x0 x1 y) (k0_pay45 (F := Ideal) x0 x1 y) (View.ld (Val := Elt Ideal) (e' := .i32) x1 r0_1 y)) := rfl
theorem lowCount_apply : k0_pay61 (F := Ideal) x0 x1 y = Ref.lowCount (k0_pay42 (F := Ideal) x0 x1 y) (k0_pay43 (F := Ideal) x0 x1 y) (k0_pay44 (F := Ideal) x0 x1 y) (k0_pay45 (F := Ideal) x0 x1 y) (View.ld (Val := Elt Ideal) (e' := .i32) x1 r0_1 y) := rfl
theorem highCount_apply : k0_pay62 (F := Ideal) x0 x1 y = Ref.highCount (k0_pay42 (F := Ideal) x0 x1 y) (k0_pay43 (F := Ideal) x0 x1 y) (k0_pay44 (F := Ideal) x0 x1 y) (k0_pay45 (F := Ideal) x0 x1 y) (View.ld (Val := Elt Ideal) (e' := .i32) x1 r0_1 y) := rfl
theorem hi_apply : k0_pay65 (F := Ideal) x0 x1 y = Ref.hi (k0_pay42 (F := Ideal) x0 x1 y) (k0_pay43 (F := Ideal) x0 x1 y) (k0_pay44 (F := Ideal) x0 x1 y) (k0_pay45 (F := Ideal) x0 x1 y) (View.ld (Val := Elt Ideal) (e' := .i32) x1 r0_1 y) := rfl

/-- The lower positions. -/
def loV : IVec S12x512x7168 32 := k0_pay30 (F := Ideal) (k0_pay51 (F := Ideal) x0 x1) (k0_pay52 (F := Ideal) x0 x1) (k0_pay58 (F := Ideal) x0 x1) (k0_pay61 (F := Ideal) x0 x1)
theorem lo_apply : loV x0 x1 y = Ref.lo (k0_pay42 (F := Ideal) x0 x1 y) (k0_pay43 (F := Ideal) x0 x1 y) (k0_pay44 (F := Ideal) x0 x1 y) (k0_pay45 (F := Ideal) x0 x1 y) (View.ld (Val := Elt Ideal) (e' := .i32) x1 r0_1 y) := rfl

theorem keptLo_apply : k0_pay66 (F := Ideal) x0 x1 y = Ref.kept (k0_pay42 (F := Ideal) x0 x1 y) (k0_pay43 (F := Ideal) x0 x1 y) (k0_pay44 (F := Ideal) x0 x1 y) (k0_pay45 (F := Ideal) x0 x1 y) (loV x0 x1 y) := by
  refine (pay32_apply _ _ _ _ _ _ _ _ _ _ _ y).trans ?_
  rw [first_apply, rest_apply, half_apply, kept_eq]
  rfl

/-- The upper kept values. -/
def keptHiV : FVec Ideal S12x512x7168 .f32 := fun y =>
  keptOf (k0_pay42 (F := Ideal) x0 x1 y) (k0_pay43 (F := Ideal) x0 x1 y) (k0_pay44 (F := Ideal) x0 x1 y) (k0_pay45 (F := Ideal) x0 x1 y) (k0_pay64 (F := Ideal) x0 x1 y) (k0_pay53 (F := Ideal) x0 x1 y) (k0_pay55 (F := Ideal) x0 x1 y) (k0_pay60 (F := Ideal) x0 x1 y) (k0_pay65 (F := Ideal) x0 x1 y)

theorem pay36_eq : k0_pay36 (F := Ideal) (k0_pay53 (F := Ideal) x0 x1) (k0_pay55 (F := Ideal) x0 x1) (k0_pay60 (F := Ideal) x0 x1) (k0_pay64 (F := Ideal) x0 x1) (k0_pay65 (F := Ideal) x0 x1) (k0_pay67 (F := Ideal) x0 x1) (k0_pay68 (F := Ideal) x0 x1)
    = shapeCast S12x16x32x7168 (keptHiV x0 x1) shapeCasts_S12x512x7168_S12x16x32x7168 :=
  pay36_gen _ _ _ _ _ _ _ _ _ _ _ _ _

theorem keptHi_apply : keptHiV x0 x1 y = Ref.kept (k0_pay42 (F := Ideal) x0 x1 y) (k0_pay43 (F := Ideal) x0 x1 y) (k0_pay44 (F := Ideal) x0 x1 y) (k0_pay45 (F := Ideal) x0 x1 y) (k0_pay65 (F := Ideal) x0 x1 y) := by
  unfold keptHiV
  rw [first_apply, rest_apply, half_apply, dom_apply, kept_eq]

end

/-! ## In the column's terms -/

section
variable (y : S12x512x7168.Idx)

theorem lo_col : loV x0 x1 y = Col.rlo (col x0 (y 0) (y 2)) (rcol x1 (y 0) (y 2)) (y 1).val := by
  rw [lo_apply, v4_apply, v6_apply, v8_apply, v10_apply, v1_apply]; rfl
theorem hi_col : k0_pay65 (F := Ideal) x0 x1 y = Col.rhi (col x0 (y 0) (y 2)) (rcol x1 (y 0) (y 2)) (y 1).val := by
  rw [hi_apply, v4_apply, v6_apply, v8_apply, v10_apply, v1_apply]; rfl
theorem keptLo_col : k0_pay66 (F := Ideal) x0 x1 y = Col.keptLo (col x0 (y 0) (y 2)) (rcol x1 (y 0) (y 2)) (y 1).val := by
  rw [keptLo_apply, lo_col, v4_apply, v6_apply, v8_apply, v10_apply]; rfl
theorem keptHi_col : keptHiV x0 x1 y = Col.keptHi (col x0 (y 0) (y 2)) (rcol x1 (y 0) (y 2)) (y 1).val := by
  rw [keptHi_apply, hi_col, v4_apply, v6_apply, v8_apply, v10_apply]; rfl

end

/-! ## Thirty-two groups' largest -/

theorem four_apply (v : FVec Ideal S12x512x7168 .f32) (b : Fin 12) (p : Fin 16) (j : Fin 32) (d : Fin 7168) :
    shapeCast S12x16x32x7168 v shapeCasts_S12x512x7168_S12x16x32x7168 (ix4 b p j d) = v (ix3 b ⟨32 * p.val + j.val, by omega⟩ d) := by
  refine shapeCast_apply _ _ _ _ ?_
  rw [Shape.rowMajor_val_three, Shape.rowMajor_val_four]
  show (b.val * 512 + (32 * p.val + j.val)) * 7168 + d.val = ((b.val * 16 + p.val) * 32 + j.val) * 7168 + d.val
  omega

instance : Std.Commutative (FloatOps.maximumf (F := Ideal) (φ := .f32)) := ⟨fun a b => max_comm (a : EReal) b⟩
instance : Std.Associative (FloatOps.maximumf (F := Ideal) (φ := .f32)) := ⟨fun a b c => max_assoc (a : EReal) b c⟩

theorem drop_ix4 (b : Fin 12) (p : Fin 16) (j : Fin 32) (d : Fin 7168) :
    reduces_S12x16x32x7168_S12x16x7168.drop (ix4 b p j d) = ix3 b p d := by
  funext a
  match a with
  | ⟨0, _⟩ => exact Fin.ext (reduces_S12x16x32x7168_S12x16x7168.drop_apply_val_of_eq _ 0 0 (by decide))
  | ⟨1, _⟩ => exact Fin.ext (reduces_S12x16x32x7168_S12x16x7168.drop_apply_val_of_eq _ 1 1 (by decide))
  | ⟨2, _⟩ => exact Fin.ext (reduces_S12x16x32x7168_S12x16x7168.drop_apply_val_of_eq _ 2 3 (by decide))

theorem k_bot : (FloatOps.ofBits .f32 0xFF800000#32 : Ideal .f32) = (⊥ : EReal) := by
  show Ideal.ofBits .f32 0xFF800000#32 = ⊥
  simp [Ideal.ofBits, Ideal.ieee]

/-- The largest along the third axis. -/
abbrev red (v : FVec Ideal S12x16x32x7168 .f32) : FVec Ideal S12x16x7168 .f32 :=
  multiReduction .maximumf [2] S12x16x7168 v 0xFF800000#32 reduces_S12x16x32x7168_S12x16x7168 (.inl rfl) rfl

theorem red_fold (v : FVec Ideal S12x16x32x7168 .f32) (i : S12x16x7168.Idx) :
    red v i = (Finset.univ.filter fun k => reduces_S12x16x32x7168_S12x16x7168.drop k = i).fold max (⊥ : EReal) v := by
  refine (multiReduction_maximumf_eq_fold v _ _ _ _ i).trans ?_
  rw [k_bot]
  rfl

theorem le_red (v : FVec Ideal S12x16x32x7168 .f32) (b : Fin 12) (p : Fin 16) (j : Fin 32) (d : Fin 7168) :
    (v (ix4 b p j d) : EReal) ≤ red v (ix3 b p d) := by
  rw [red_fold]
  exact (Finset.le_fold_max _).mpr (Or.inr ⟨ix4 b p j d, by simp [drop_ix4], le_rfl⟩)

theorem red_le (v : FVec Ideal S12x16x32x7168 .f32) (b : Fin 12) (p : Fin 16) (d : Fin 7168) (B : EReal)
    (h : ∀ j, (v (ix4 b p j d) : EReal) ≤ B) : red v (ix3 b p d) ≤ B := by
  rw [red_fold]
  refine (Finset.fold_max_le _).mpr ⟨bot_le, fun k hk => ?_⟩
  have e : reduces_S12x16x32x7168_S12x16x7168.drop k = ix3 b p d := (Finset.mem_filter.mp hk).2
  obtain ⟨b', p', j', d', rfl⟩ : ∃ (b' : Fin 12) (p' : Fin 16) (j' : Fin 32) (d' : Fin 7168), k = ix4 b' p' j' d' :=
    ⟨k 0, k 1, k 2, k 3, eq_ix4 k⟩
  have e' : ix3 b' p' d' = ix3 b p d := (drop_ix4 b' p' j' d').symm.trans e
  have e0 : b' = b := congrFun e' 0
  have e1 : p' = p := congrFun e' 1
  have e3 : d' = d := congrFun e' 2
  subst e0 e1 e3
  exact h _

/-- A block's largest kept magnitude. -/
def amaxV : FVec Ideal S12x16x7168 .f32 := fun i =>
  max (red (absf (k0_pay35 (F := Ideal) (k0_pay66 (F := Ideal) x0 x1))) i : EReal)
    (red (absf (shapeCast S12x16x32x7168 (keptHiV x0 x1) shapeCasts_S12x512x7168_S12x16x32x7168)) i)

theorem isMax (b : Fin 12) (p : Fin 16) (d : Fin 7168) :
    Col.IsMax (col x0 b d) (rcol x1 b d) p.val (amaxV x0 x1 (ix3 b p d)) := by
  have eLo : ∀ j : Fin 32, (absf (k0_pay35 (F := Ideal) (k0_pay66 (F := Ideal) x0 x1)) (ix4 b p j d) : EReal)
      = ab (Col.keptLo (col x0 b d) (rcol x1 b d) (32 * p.val + j.val)) := fun j =>
    congrArg ab ((four_apply _ b p j d).trans (keptLo_col x0 x1 _))
  have eHi : ∀ j : Fin 32, (absf (shapeCast S12x16x32x7168 (keptHiV x0 x1) shapeCasts_S12x512x7168_S12x16x32x7168) (ix4 b p j d) : EReal)
      = ab (Col.keptHi (col x0 b d) (rcol x1 b d) (32 * p.val + j.val)) := fun j =>
    congrArg ab ((four_apply _ b p j d).trans (keptHi_col x0 x1 _))
  constructor
  · intro j hj
    exact (eLo ⟨j, hj⟩).symm.le.trans ((le_red _ b p ⟨j, hj⟩ d).trans (le_max_left _ _))
  · intro j hj
    exact (eHi ⟨j, hj⟩).symm.le.trans ((le_red _ b p ⟨j, hj⟩ d).trans (le_max_right _ _))
  · intro B hl hh
    exact max_le (red_le _ b p d B fun j => (eLo j).le.trans (hl j.val j.isLt)) (red_le _ b p d B fun j => (eHi j).le.trans (hh j.val j.isLt))

end Cert.ReferenceIdeal.Cells
-- ==== Proof.RefI.Out.lean ====
/- The reference's three results, one element at a time: the codes, the scales and the places. -/
module

public import proofs.«01_k».proof.Proof.RefI.Cells

@[expose] public section

noncomputable section

namespace Cert.ReferenceIdeal.Out

open Cert.ReferenceIdeal Cert.ReferenceIdeal.Gen Cert.ReferenceIdeal.Cells
open Idealize.ShloMosaic Idealize.ShloMosaic.ValueIdx
open Cert.Mvue

/-! ## Moving between the arrangements -/

theorem back_apply {α : Type} (v : S12x16x32x7168.Idx → α) (b : Fin 12) (q : Fin 512) (d : Fin 7168) :
    shapeCast S12x512x7168 v shapeCasts_S12x16x32x7168_S12x512x7168 (ix3 b q d) = v (ix4 b ⟨q.val / 32, by omega⟩ ⟨q.val % 32, by omega⟩ d) := by
  refine shapeCast_apply _ _ _ _ ?_
  rw [Shape.rowMajor_val_three, Shape.rowMajor_val_four]
  show ((b.val * 16 + q.val / 32) * 32 + q.val % 32) * 7168 + d.val = (b.val * 512 + q.val) * 7168 + d.val
  omega

theorem spread_apply {α : Type} (u : S12x16x7168.Idx → α) (b : Fin 12) (p : Fin 16) (j : Fin 32) (d : Fin 7168) :
    broadcastTo S12x16x32x7168 (shapeCast S12x16x1x7168 u shapeCasts_S12x16x7168_S12x16x1x7168) broadcasts_S12x16x1x7168_S12x16x32x7168 (ix4 b p j d)
      = u (ix3 b p d) := by
  refine (broadcastTo_apply _ _ _ (ix4 b p 0 d) ?_).trans ?_
  · intro a
    match a with
    | ⟨0, _⟩ => rfl
    | ⟨1, _⟩ => rfl
    | ⟨2, _⟩ => rfl
    | ⟨3, _⟩ => rfl
  · refine shapeCast_apply _ _ _ _ ?_
    rw [Shape.rowMajor_val_three, Shape.rowMajor_val_four]
    show (b.val * 16 + p.val) * 7168 + d.val = ((b.val * 16 + p.val) * 1 + 0) * 7168 + d.val
    omega

theorem two_apply {α : Type} (lo hi : S12x512x7168.Idx → α) (b : Fin 12) (r : Fin 1024) (d : Fin 7168) :
    shapeCast S12x1024x7168
        (concatenate S12x512x14336 2 [⟨S12x512x7168, lo⟩, ⟨S12x512x7168, hi⟩] concatenates_S12x512x7168_S12x512x7168_S12x512x14336_d2)
        shapeCasts_S12x512x14336_S12x1024x7168 (ix3 b r d)
      = if r.val % 2 = 0 then lo (ix3 b ⟨r.val / 2, by omega⟩ d) else hi (ix3 b ⟨r.val / 2, by omega⟩ d) := by
  refine (shapeCast_apply _ _ _ (ix3 b ⟨r.val / 2, by omega⟩ ⟨r.val % 2 * 7168 + d.val, by omega⟩) ?_).trans ?_
  · rw [Shape.rowMajor_val_three, Shape.rowMajor_val_three]
    show (b.val * 512 + r.val / 2) * 14336 + (r.val % 2 * 7168 + d.val) = (b.val * 1024 + r.val) * 7168 + d.val
    omega
  · by_cases h : r.val % 2 = 0
    · rw [if_pos h]
      refine concatenate_pair_apply_left (t := S12x512x14336) 2 lo hi _ _ rfl _ ?_
      intro a
      match a with
      | ⟨0, _⟩ => rfl
      | ⟨1, _⟩ => rfl
      | ⟨2, _⟩ => show d.val = r.val % 2 * 7168 + d.val; omega
    · rw [if_neg h]
      refine concatenate_pair_apply_right (t := S12x512x14336) 2 lo hi _ _ rfl rfl _ ?_ ?_
      · intro a ha
        match a with
        | ⟨0, _⟩ => rfl
        | ⟨1, _⟩ => rfl
        | ⟨2, _⟩ => exact absurd rfl ha
      · show d.val + 7168 = r.val % 2 * 7168 + d.val
        omega

theorem nib_apply {α : Type} (v : S12x512x7168.Idx → α) (k : ℕ) (hk : k < 2) (h : Shape.Slices S12x256x14336 ![0, 0, 7168 * k] S12x256x7168)
    (b : Fin 12) (r : Fin 256) (d : Fin 7168) :
    extractStridedSlice S12x256x7168 ![0, 0, 7168 * k] (shapeCast S12x256x14336 v shapeCasts_S12x512x7168_S12x256x14336) h (ix3 b r d)
      = v (ix3 b ⟨2 * r.val + k, by omega⟩ d) := by
  refine (extractStridedSlice_apply _ _ h _ (ix3 b r ⟨7168 * k + d.val, by omega⟩) ?_).trans ?_
  · intro a
    match a with
    | ⟨0, _⟩ => exact (Nat.zero_add _).symm
    | ⟨1, _⟩ => exact (Nat.zero_add _).symm
    | ⟨2, _⟩ => rfl
  · refine shapeCast_apply _ _ _ _ ?_
    rw [Shape.rowMajor_val_three, Shape.rowMajor_val_three]
    show (b.val * 512 + (2 * r.val + k)) * 7168 + d.val = (b.val * 256 + r.val) * 14336 + (7168 * k + d.val)
    omega

/-! ## The scales -/

/-- The exponents, from the largest kept magnitudes. -/
theorem expo_of (v : FVec Ideal S12x16x7168 .f32) (i : S12x16x7168.Idx) :
    select (cmpf .oeq v (broadcast S12x16x7168 (Scalar.ofBits .f32 0x00000000#32 : Ideal .f32))) (broadcast S12x16x7168 (Scalar.ofBits .f32 0x00000000#32 : Ideal .f32))
      (addf (floor (divf (log (mulf v (broadcast S12x16x7168 (Scalar.ofBits .f32 0x37924925#32 : Ideal .f32)))) (log (broadcast S12x16x7168 (Scalar.ofBits .f32 0x40000000#32 : Ideal .f32)))))
        (broadcast S12x16x7168 (Scalar.ofBits .f32 0x3F800000#32 : Ideal .f32))) i = Ref.expo (v i) := rfl

theorem exp2_of (v : FVec Ideal S12x16x7168 .f32) (i : S12x16x7168.Idx) : exp2 v i = Ideal.exp2 (v i) := rfl

theorem inv_of (v : FVec Ideal S12x16x7168 .f32) (i : S12x16x7168.Idx) :
    exp2 (subf (broadcast S12x16x7168 (Scalar.ofBits .f32 0x00000000#32 : Ideal .f32)) v) i = Ideal.exp2 (Ideal.ofBits .f32 0x00000000#32 - v i) := rfl

/-- The codes, four axes. -/
def codesOf (k w : FVec Ideal S12x16x32x7168 .f32) : FVec Ideal S12x16x32x7168 .fp8e5m2 := fun i => Ref.code (k i) (w i)

theorem codes_of (k w : FVec Ideal S12x16x32x7168 .f32) :
    truncf .fp8e5m2 (minimumf (broadcast S12x16x32x7168 (Scalar.ofBits .f32 0x47600000#32 : Ideal .f32))
      (maximumf (broadcast S12x16x32x7168 (Scalar.ofBits .f32 0xC7600000#32 : Ideal .f32)) (mulf k w))) bitsLt_fp8e5m2_f32 = codesOf k w := rfl

theorem pay35_eq (v : FVec Ideal S12x512x7168 .f32) : k0_pay35 (F := Ideal) v = shapeCast S12x16x32x7168 v shapeCasts_S12x512x7168_S12x16x32x7168 := rfl

section
variable (v30 v100 : IVec S12x512x7168 32) (v36 v70 v128 v137 v143 : FVec Ideal S12x512x7168 .f32) (v98 : IVec S12x512x7168 1)

theorem expo_gen (i : S12x16x7168.Idx) : k0_pay37 (F := Ideal) v30 v36 v70 v98 v100 v128 v137 v143 i
    = Ref.expo (maximumf (red (absf (k0_pay35 (F := Ideal) v128))) (red (absf (k0_pay36 (F := Ideal) v30 v36 v70 v98 v100 v137 v143))) i) := by
  unfold k0_pay37
  exact expo_of _ i

theorem scale_gen (i : S12x16x7168.Idx) : k0_pay38 (F := Ideal) v30 v36 v70 v98 v100 v128 v137 v143 i
    = Ideal.exp2 (k0_pay37 (F := Ideal) v30 v36 v70 v98 v100 v128 v137 v143 i) := by
  unfold k0_pay38
  exact exp2_of _ i

/-- The reciprocal scales. -/
def invOf (v : FVec Ideal S12x16x7168 .f32) : FVec Ideal S12x16x7168 .f32 := exp2 (subf (broadcast S12x16x7168 (Scalar.ofBits .f32 0x00000000#32 : Ideal .f32)) v)

theorem inv_gen : k0_pay39 (F := Ideal) v30 v36 v70 v98 v100 v128 v137 v143
    = shapeCast S12x16x1x7168 (invOf (k0_pay37 (F := Ideal) v30 v36 v70 v98 v100 v128 v137 v143)) shapeCasts_S12x16x7168_S12x16x1x7168 := by
  unfold k0_pay39 invOf
  with_reducible rfl

theorem spread_gen : k0_pay41 (F := Ideal) v30 v36 v70 v98 v100 v128 v137 v143
    = broadcastTo S12x16x32x7168 (k0_pay39 (F := Ideal) v30 v36 v70 v98 v100 v128 v137 v143) broadcasts_S12x16x1x7168_S12x16x32x7168 := by
  unfold k0_pay41
  with_reducible rfl

theorem low_gen : k0_pay40 (F := Ideal) v30 v36 v70 v98 v100 v128 v137 v143
    = shapeCast S12x512x7168 (codesOf (k0_pay35 (F := Ideal) v128) (k0_pay41 (F := Ideal) v30 v36 v70 v98 v100 v128 v137 v143)) shapeCasts_S12x16x32x7168_S12x512x7168 := by
  rw [spread_gen, ← codes_of]
  unfold k0_pay40
  with_reducible rfl
end

theorem both_gen (v158 v190 : FVec Ideal S12x16x32x7168 .f32) (v189 : FVec Ideal S12x512x7168 .fp8e5m2) : k0_pay1 (F := Ideal) v158 v189 v190
    = shapeCast S12x1024x7168
        (concatenate S12x512x14336 2 [⟨S12x512x7168, v189⟩, ⟨S12x512x7168, shapeCast S12x512x7168 (codesOf v158 v190) shapeCasts_S12x16x32x7168_S12x512x7168⟩]
          concatenates_S12x512x7168_S12x512x7168_S12x512x14336_d2)
        shapeCasts_S12x512x14336_S12x1024x7168 := by
  rw [← codes_of]
  unfold k0_pay1
  with_reducible rfl

/-- A word of two places. -/
def nibV (v99 v100 : IVec S12x512x7168 32) : IVec S12x512x7168 8 := fun y => BitVec.setWidth 8 (IntOp.ori (v99 y) (IntOp.shli .vector (v100 y) 2#32))

theorem places_gen (v99 v100 : IVec S12x512x7168 32) (i : S12x256x7168.Idx) : k0_pay2 v99 v100 i
    = IntOp.ori (extractStridedSlice S12x256x7168 ![0, 0, 0] (shapeCast S12x256x14336 (nibV v99 v100) shapeCasts_S12x512x7168_S12x256x14336) slices_S12x256x14336_o0_0_0_S12x256x7168 i)
        (IntOp.shli .vector (extractStridedSlice S12x256x7168 ![0, 0, 7168] (shapeCast S12x256x14336 (nibV v99 v100) shapeCasts_S12x512x7168_S12x256x14336) slices_S12x256x14336_o0_0_7168_S12x256x7168 i) 4#8) := rfl

variable (x0 : FVec Ideal S12x2048x7168 .bf16) (x1 : IVec S12x512x7168 32)

theorem max_of (v w : FVec Ideal S12x16x7168 .f32) (i : S12x16x7168.Idx) : maximumf v w i = (max (v i) (w i) : EReal) := rfl

theorem amaxV_eq (i : S12x16x7168.Idx) : amaxV x0 x1 i
    = (max (red (absf (k0_pay35 (F := Ideal) (k0_pay66 (F := Ideal) x0 x1))) i)
        (red (absf (shapeCast S12x16x32x7168 (keptHiV x0 x1) shapeCasts_S12x512x7168_S12x16x32x7168)) i) : EReal) := by
  unfold amaxV
  with_reducible rfl

theorem expo_apply (i : S12x16x7168.Idx) : k0_pay37 (F := Ideal) (k0_pay53 (F := Ideal) x0 x1) (k0_pay55 (F := Ideal) x0 x1) (k0_pay60 (F := Ideal) x0 x1) (k0_pay64 (F := Ideal) x0 x1) (k0_pay65 (F := Ideal) x0 x1) (k0_pay66 (F := Ideal) x0 x1) (k0_pay67 (F := Ideal) x0 x1) (k0_pay68 (F := Ideal) x0 x1) i = Ref.expo (amaxV x0 x1 i) := by
  rw [expo_gen, pay36_eq]
  exact congrArg Ref.expo (max_of _ _ _ |>.trans (amaxV_eq x0 x1 i).symm)

theorem inv_apply (i : S12x16x7168.Idx) :
    invOf (k0_pay37 (F := Ideal) (k0_pay53 (F := Ideal) x0 x1) (k0_pay55 (F := Ideal) x0 x1) (k0_pay60 (F := Ideal) x0 x1) (k0_pay64 (F := Ideal) x0 x1) (k0_pay65 (F := Ideal) x0 x1) (k0_pay66 (F := Ideal) x0 x1) (k0_pay67 (F := Ideal) x0 x1) (k0_pay68 (F := Ideal) x0 x1)) i = Ref.inv (amaxV x0 x1 i) := by
  unfold invOf
  rw [inv_of, expo_apply]
  unfold Ref.inv
  with_reducible rfl

theorem out3_apply (i : S12x16x7168.Idx) : out0_3 (F := Ideal) x0 x1 i = Ref.scale (amaxV x0 x1 i) := by
  unfold out0_3
  rw [View.canon_unit_zero (Val := Elt Ideal) (e := .f32) (S := S12x16x7168) (off := ![0, 0, 0]) (by funext a; match a with | ⟨0, _⟩ => rfl | ⟨1, _⟩ => rfl | ⟨2, _⟩ => rfl)]
  rw [scale_gen, expo_apply]
  unfold Ref.scale
  with_reducible rfl

/-! ## The codes -/

theorem spread4 (b : Fin 12) (p : Fin 16) (j : Fin 32) (d : Fin 7168) :
    k0_pay41 (F := Ideal) (k0_pay53 (F := Ideal) x0 x1) (k0_pay55 (F := Ideal) x0 x1) (k0_pay60 (F := Ideal) x0 x1) (k0_pay64 (F := Ideal) x0 x1) (k0_pay65 (F := Ideal) x0 x1) (k0_pay66 (F := Ideal) x0 x1) (k0_pay67 (F := Ideal) x0 x1) (k0_pay68 (F := Ideal) x0 x1) (ix4 b p j d) = Ref.inv (amaxV x0 x1 (ix3 b p d)) := by
  rw [spread_gen, inv_gen, spread_apply, inv_apply]

theorem lo4 (b : Fin 12) (p : Fin 16) (j : Fin 32) (d : Fin 7168) :
    shapeCast S12x16x32x7168 (k0_pay66 (F := Ideal) x0 x1) shapeCasts_S12x512x7168_S12x16x32x7168 (ix4 b p j d)
      = Col.keptLo (col x0 b d) (rcol x1 b d) (32 * p.val + j.val) := (four_apply _ b p j d).trans (keptLo_col x0 x1 _)
theorem hi4 (b : Fin 12) (p : Fin 16) (j : Fin 32) (d : Fin 7168) :
    shapeCast S12x16x32x7168 (keptHiV x0 x1) shapeCasts_S12x512x7168_S12x16x32x7168 (ix4 b p j d)
      = Col.keptHi (col x0 b d) (rcol x1 b d) (32 * p.val + j.val) := (four_apply _ b p j d).trans (keptHi_col x0 x1 _)
theorem row_eq (q : ℕ) : 32 * (q / 32) + q % 32 = q := by omega

theorem low_apply (b : Fin 12) (q : Fin 512) (d : Fin 7168) :
    k0_pay40 (F := Ideal) (k0_pay53 (F := Ideal) x0 x1) (k0_pay55 (F := Ideal) x0 x1) (k0_pay60 (F := Ideal) x0 x1) (k0_pay64 (F := Ideal) x0 x1) (k0_pay65 (F := Ideal) x0 x1) (k0_pay66 (F := Ideal) x0 x1) (k0_pay67 (F := Ideal) x0 x1) (k0_pay68 (F := Ideal) x0 x1) (ix3 b q d)
      = Ref.code (Col.keptLo (col x0 b d) (rcol x1 b d) q.val) (Ref.inv (amaxV x0 x1 (ix3 b ⟨q.val / 32, by omega⟩ d))) := by
  rw [low_gen, back_apply]
  unfold codesOf
  rw [spread4, pay35_eq]
  rw [lo4]
  dsimp only
  rw [row_eq]

theorem high_apply (b : Fin 12) (q : Fin 512) (d : Fin 7168) :
    shapeCast S12x512x7168 (codesOf (k0_pay36 (F := Ideal) (k0_pay53 (F := Ideal) x0 x1) (k0_pay55 (F := Ideal) x0 x1) (k0_pay60 (F := Ideal) x0 x1) (k0_pay64 (F := Ideal) x0 x1) (k0_pay65 (F := Ideal) x0 x1) (k0_pay67 (F := Ideal) x0 x1) (k0_pay68 (F := Ideal) x0 x1)) (k0_pay41 (F := Ideal) (k0_pay53 (F := Ideal) x0 x1) (k0_pay55 (F := Ideal) x0 x1) (k0_pay60 (F := Ideal) x0 x1) (k0_pay64 (F := Ideal) x0 x1) (k0_pay65 (F := Ideal) x0 x1) (k0_pay66 (F := Ideal) x0 x1) (k0_pay67 (F := Ideal) x0 x1) (k0_pay68 (F := Ideal) x0 x1))) shapeCasts_S12x16x32x7168_S12x512x7168 (ix3 b q d)
      = Ref.code (Col.keptHi (col x0 b d) (rcol x1 b d) q.val) (Ref.inv (amaxV x0 x1 (ix3 b ⟨q.val / 32, by omega⟩ d))) := by
  rw [back_apply]
  unfold codesOf
  rw [spread4, pay36_eq]
  rw [hi4]
  dsimp only
  rw [row_eq]

theorem out2_apply (b : Fin 12) (r : Fin 1024) (d : Fin 7168) : out0_2 (F := Ideal) x0 x1 (ix3 b r d)
    = Ref.code (if r.val % 2 = 0 then Col.keptLo (col x0 b d) (rcol x1 b d) (r.val / 2) else Col.keptHi (col x0 b d) (rcol x1 b d) (r.val / 2))
        (Ref.inv (amaxV x0 x1 (ix3 b ⟨r.val / 64, by omega⟩ d))) := by
  unfold out0_2
  rw [View.canon_unit_zero (Val := Elt Ideal) (e := .fp8e5m2) (S := S12x1024x7168) (off := ![0, 0, 0]) (by funext a; match a with | ⟨0, _⟩ => rfl | ⟨1, _⟩ => rfl | ⟨2, _⟩ => rfl)]
  rw [both_gen, two_apply, low_apply, high_apply]
  have e : (⟨r.val / 2 / 32, by omega⟩ : Fin 16) = ⟨r.val / 64, by omega⟩ := Fin.ext (by show r.val / 2 / 32 = r.val / 64; omega)
  dsimp only
  rw [e]
  by_cases h : r.val % 2 = 0
  · rw [if_pos h, if_pos h]
  · rw [if_neg h, if_neg h]

/-! ## The places -/

theorem nibV_apply (b : Fin 12) (q : Fin 512) (d : Fin 7168) :
    nibV (loV x0 x1) (k0_pay65 (F := Ideal) x0 x1) (ix3 b q d) = Col.rnib (col x0 b d) (rcol x1 b d) q.val := by
  unfold nibV
  rw [lo_col, hi_col]
  rfl

theorem out4_apply (b : Fin 12) (r : Fin 256) (d : Fin 7168) : out0_4 (F := Ideal) x0 x1 (ix3 b r d)
    = Col.rplaces (col x0 b d) (rcol x1 b d) r.val := by
  unfold out0_4
  rw [View.canon_unit_zero (Val := Elt Ideal) (e := .i8) (S := S12x256x7168) (off := ![0, 0, 0]) (by funext a; match a with | ⟨0, _⟩ => rfl | ⟨1, _⟩ => rfl | ⟨2, _⟩ => rfl)]
  refine (places_gen _ _ _).trans ?_
  have e0 := (nib_apply (nibV (loV x0 x1) (k0_pay65 (F := Ideal) x0 x1)) 0 (by omega) slices_S12x256x14336_o0_0_0_S12x256x7168 b r d).trans (nibV_apply x0 x1 b _ d)
  have e1 := (nib_apply (nibV (loV x0 x1) (k0_pay65 (F := Ideal) x0 x1)) 1 (by omega) slices_S12x256x14336_o0_0_7168_S12x256x7168 b r d).trans (nibV_apply x0 x1 b _ d)
  exact congrArg₂ (fun a c => IntOp.ori a (IntOp.shli .vector c 4#8)) e0 e1

end Cert.ReferenceIdeal.Out
-- ==== Proof.RefI.Final.lean ====
/- The reference's run: what the arrays of its three results hold, the arguments unchanged. -/
module

public import proofs.«01_k».proof.Proof.Gen.ReferenceIdeal.Frame
public import Idealize.ShloMosaic.Lib.Pipeline.Value
public import Idealize.ShloMosaic.PureOps.Ideal
public import Idealize.ShloMosaic.Lib.Pipeline.ValueKit.Geometry

@[expose] public section

noncomputable section

namespace Cert.ReferenceIdeal.Final

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

/-! ## The one block of each array is the array -/

theorem e0 : ∀ t : Fin cfg0.N, win0_0.index t = ![0, 0, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![0, 0, 0] := (by decide +kernel : ∀ t : Fin grid0.N, _)
theorem e3 : ∀ t : Fin cfg0.N, win0_3.index t = ![0, 0, 0] := (by decide +kernel : ∀ t : Fin grid0.N, _)
theorem e4 : ∀ t : Fin cfg0.N, win0_4.index t = ![0, 0, 0] := (by decide +kernel : ∀ t : Fin grid0.N, _)

theorem blk0 (c : Dev nD) (t : Fin cfg0.N) (y : S12x2048x7168.Idx) : iblk m c 0 t y = V m c main_arg0 y := by
  refine congrArg (V m c main_arg0) ?_
  blk_ext [e0]
theorem blk1 (c : Dev nD) (t : Fin cfg0.N) (y : S12x512x7168.Idx) : iblk m c 1 t y = V m c main_arg1 y := by
  refine congrArg (V m c main_arg1) ?_
  blk_ext [e1]

theorem blk0_eq (c : Dev nD) (t : Fin cfg0.N) : iblk m c 0 t = V m c main_arg0 := funext fun y => blk0 m c t y
theorem blk1_eq (c : Dev nD) (t : Fin cfg0.N) : iblk m c 1 t = V m c main_arg1 := funext fun y => blk1 m c t y

/-! ## The whole arrays -/

theorem final2 (c : Dev nD) : (dats m 0 c).arrAt 2 cfg0.N = out0_2 (F := Ideal) (V m c main_arg0) (V m c main_arg1) := by
  refine (dats m 0 c).arrAt_eq_of_covers 2 _ (by decide +kernel) fun t hf y => ?_
  blk_simp
  rw [after0_2, blk0_eq, blk1_eq]
  refine congrArg (out0_2 (F := Ideal) (V m c main_arg0) (V m c main_arg1)) ?_
  blk_ext [e2]

theorem final3 (c : Dev nD) : (dats m 0 c).arrAt 3 cfg0.N = out0_3 (F := Ideal) (V m c main_arg0) (V m c main_arg1) := by
  refine (dats m 0 c).arrAt_eq_of_covers 3 _ (by decide +kernel) fun t hf y => ?_
  blk_simp
  rw [after0_3, blk0_eq, blk1_eq]
  refine congrArg (out0_3 (F := Ideal) (V m c main_arg0) (V m c main_arg1)) ?_
  blk_ext [e3]

theorem final4 (c : Dev nD) : (dats m 0 c).arrAt 4 cfg0.N = out0_4 (F := Ideal) (V m c main_arg0) (V m c main_arg1) := by
  refine (dats m 0 c).arrAt_eq_of_covers 4 _ (by decide +kernel) fun t hf y => ?_
  blk_simp
  rw [after0_4, blk0_eq, blk1_eq]
  refine congrArg (out0_4 (F := Ideal) (V m c main_arg0) (V m c main_arg1)) ?_
  blk_ext [e4]

/-! ## The run -/

theorem post2 (r : PUnit × MemSt nD τ sig (Elt Ideal)) (h : Pipeline.FramePost cfgs (dats m) 0 (V m) r) (c : Dev nD) :
    r.2.mem ((c : Thread nD τ).loc main_v0_0) = (dats m 0 c).arrAt 2 cfg0.N :=
  (h c).1 2
theorem post3 (r : PUnit × MemSt nD τ sig (Elt Ideal)) (h : Pipeline.FramePost cfgs (dats m) 0 (V m) r) (c : Dev nD) :
    r.2.mem ((c : Thread nD τ).loc main_v0_1) = (dats m 0 c).arrAt 3 cfg0.N :=
  (h c).1 3
theorem post4 (r : PUnit × MemSt nD τ sig (Elt Ideal)) (h : Pipeline.FramePost cfgs (dats m) 0 (V m) r) (c : Dev nD) :
    r.2.mem ((c : Thread nD τ).loc main_v0_2) = (dats m 0 c).arrAt 4 cfg0.N :=
  (h c).1 4
theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem run_arrays : θ_run defs (onTc (τ := τ) (main (F := Ideal))) ⟨m, fun _ => 0, ρ⟩ fun r => ∀ c : Dev nD,
      r.2.mem ((c : Thread nD τ).loc main_v0_0) = (dats m 0 c).arrAt 2 cfg0.N
      ∧ r.2.mem ((c : Thread nD τ).loc main_v0_1) = (dats m 0 c).arrAt 3 cfg0.N
      ∧ r.2.mem ((c : Thread nD τ).loc main_v0_2) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post2 m r h c, post3 m r h c, post4 m r h c, kept0 m r h c, kept1 m r h c⟩) (run_main m ρ)

end Cert.ReferenceIdeal.Final
-- ==== Proof.Same.lean ====
/- The three results of the kernel and of the reference are the same arrays. -/
module

public import proofs.«01_k».proof.Defs
public import proofs.«01_k».proof.Proof.Math.Inputs
public import proofs.«01_k».proof.Proof.Math.Places
public import proofs.«01_k».proof.Proof.KernI.Final
public import proofs.«01_k».proof.Proof.RefI.Out
public import proofs.«01_k».proof.Proof.RefI.Final

@[expose] public section

noncomputable section

namespace Cert.Same

open Idealize.ShloMosaic Idealize.ShloMosaic.TcCoe Idealize.ShloMosaic.ValueIdx Idealize.SL.Sem
open Cert.Mvue Cert.Mvue.Inputs
open Cert.KernelIdeal.Final (col rcol codes scales places)
open Cert.KernelIdeal (S12x2048x7168 S12x512x7168 S12x1024x7168 S12x16x7168 S12x256x7168)

variable (A : S12x2048x7168.Idx → EReal) (B : S12x512x7168.Idx → BitVec 32)

theorem col_same (b : Fin 12) (d : Fin 7168) : Cert.ReferenceIdeal.Cells.col A b d = col A b d := rfl
theorem rcol_same (b : Fin 12) (d : Fin 7168) : Cert.ReferenceIdeal.Cells.rcol B b d = rcol B b d := rfl

/-! ## A column of admitted numbers is a column of reals -/

section
variable (hA : ∀ i, Good (A i)) (b : Fin 12) (d : Fin 7168)

/-- The column's reals. -/
def colR : ℕ → ℝ := fun n => (col A b d n).toReal

include hA in
theorem col_good (n : ℕ) : Good (col A b d n) := by
  unfold col
  by_cases h : n < 2048
  · rw [dif_pos h]; exact hA _
  · rw [dif_neg h]; exact good_zero

include hA in
theorem col_up : col A b d = Col.up (colR A b d) := funext fun n => (col_good A hA b d n).real

include hA in
theorem colR_fair (n : ℕ) : Fair (colR A b d n) := (col_good A hA b d n).fair
include hA in
theorem colR_big (n : ℕ) : |colR A b d n| ≤ 255 * 2 ^ 120 := (col_good A hA b d n).most

include hA in
theorem isMax_up (p : Fin 16) :
    Col.IsMax (Col.up (colR A b d)) (rcol B b d) p.val (Cert.ReferenceIdeal.Cells.amaxV A B (ix3 b p d)) := by
  rw [← col_up A hA b d]
  exact Cert.ReferenceIdeal.Cells.isMax A B b p d

/-! ## Element by element -/

include hA in
theorem code_same (r : Fin 1024) : Cert.ReferenceIdeal.Gen.out0_2 (F := Ideal) A B (ix3 b r d) = Col.code (col A b d) (rcol B b d) r.val := by
  rw [Cert.ReferenceIdeal.Out.out2_apply, col_same, rcol_same, col_up A hA b d]
  exact (Col.code_eq (rcol B b d) (colR A b d) (colR_fair A hA b d) (colR_big A hA b d) r.val _ (isMax_up A B hA b d ⟨r.val / 64, by omega⟩)).symm

include hA in
theorem scale_same (p : Fin 16) : Cert.ReferenceIdeal.Gen.out0_3 (F := Ideal) A B (ix3 b p d) = Mvue.scale (Col.amax (col A b d) p.val) := by
  rw [Cert.ReferenceIdeal.Out.out3_apply, col_up A hA b d]
  exact (Col.scale_eq (rcol B b d) (colR A b d) (colR_fair A hA b d) (colR_big A hA b d) p.val _ (isMax_up A B hA b d p)).symm

include hA in
theorem place_same (r : Fin 256) : Cert.ReferenceIdeal.Gen.out0_4 (F := Ideal) A B (ix3 b r d) = Col.places (col A b d) (rcol B b d) r.val := by
  rw [Cert.ReferenceIdeal.Out.out4_apply, col_same, rcol_same, col_up A hA b d]
  exact (Col.places_eq (rcol B b d) (colR A b d) (colR_fair A hA b d) r.val).symm
end

/-! ## The arrays -/

section
variable (hA : ∀ i, Good (A i))

include hA in
theorem codes_same : Cert.ReferenceIdeal.Gen.out0_2 (F := Ideal) A B = codes A B := funext fun i =>
  (congrArg (Cert.ReferenceIdeal.Gen.out0_2 (F := Ideal) A B) (eq_ix3 i)).trans (code_same A B hA (i 0) (i 2) (i 1))
include hA in
theorem scales_same : Cert.ReferenceIdeal.Gen.out0_3 (F := Ideal) A B = scales A := funext fun i =>
  (congrArg (Cert.ReferenceIdeal.Gen.out0_3 (F := Ideal) A B) (eq_ix3 i)).trans (scale_same A B hA (i 0) (i 2) (i 1))
include hA in
theorem places_same : Cert.ReferenceIdeal.Gen.out0_4 (F := Ideal) A B = places A B := funext fun i =>
  (congrArg (Cert.ReferenceIdeal.Gen.out0_4 (F := Ideal) A B) (eq_ix3 i)).trans (place_same A B hA (i 0) (i 2) (i 1))
end

/-! ## The claim -/

section
variable (m : (ℓ : Loc Cert.KernelIdeal.nD Cert.KernelIdeal.τ Cert.KernelIdeal.sig) → Buf (Elt Ideal) ℓ) (c : Dev Cert.KernelIdeal.nD)
variable (m' : (ℓ : Loc Cert.ReferenceIdeal.nD Cert.ReferenceIdeal.τ Cert.ReferenceIdeal.sig) → Buf (Elt Ideal) ℓ)

/-- The numbers and the random words the kernel is given. -/
def nums : S12x2048x7168.Idx → EReal := m ((c.tc : Thread Cert.KernelIdeal.nD Cert.KernelIdeal.τ).loc Cert.KernelIdeal.main_arg0)
def words : S12x512x7168.Idx → BitVec 32 := m ((c.tc : Thread Cert.KernelIdeal.nD Cert.KernelIdeal.τ).loc Cert.KernelIdeal.main_arg1)

theorem nums_good [Cert.Pre_in_range.Facts] (h : Cert.Pre_KernelIdeal_in_range m) (i : S12x2048x7168.Idx) : Good (nums m c i) :=
  good_of_ok _ ((fn_apply (nums m c) (words m c) i).symm.trans (congrFun (h c) i))

theorem kern2 : (Cert.KernelIdeal.Own.dats m 0 c).arrAt 2 Cert.KernelIdeal.cfg0.N = codes (nums m c) (words m c) := by
  rw [Cert.KernelIdeal.Final.final2]
  exact congrArg₂ codes (Cert.KernelIdeal.Own.V_main_arg0 m c) (Cert.KernelIdeal.Own.V_main_arg1 m c)
theorem kern3 : (Cert.KernelIdeal.Own.dats m 0 c).arrAt 3 Cert.KernelIdeal.cfg0.N = scales (nums m c) := by
  rw [Cert.KernelIdeal.Final.final3]
  exact congrArg scales (Cert.KernelIdeal.Own.V_main_arg0 m c)
theorem kern4 : (Cert.KernelIdeal.Own.dats m 0 c).arrAt 4 Cert.KernelIdeal.cfg0.N = places (nums m c) (words m c) := by
  rw [Cert.KernelIdeal.Final.final4]
  exact congrArg₂ places (Cert.KernelIdeal.Own.V_main_arg0 m c) (Cert.KernelIdeal.Own.V_main_arg1 m c)

variable (h0 : m' ((c.tc : Thread Cert.ReferenceIdeal.nD Cert.ReferenceIdeal.τ).loc Cert.ReferenceIdeal.main_arg0) = nums m c)
variable (h1 : m' ((c.tc : Thread Cert.ReferenceIdeal.nD Cert.ReferenceIdeal.τ).loc Cert.ReferenceIdeal.main_arg1) = words m c)
variable (hg : ∀ i, Good (nums m c i))

include h0 h1 hg

theorem ref2 : (Cert.ReferenceIdeal.Gen.dats m' 0 c).arrAt 2 Cert.ReferenceIdeal.cfg0.N = codes (nums m c) (words m c) := by
  rw [Cert.ReferenceIdeal.Final.final2]
  exact (congrArg₂ (Cert.ReferenceIdeal.Gen.out0_2 (F := Ideal)) ((Cert.ReferenceIdeal.Gen.V_main_arg0 m' c).trans h0) ((Cert.ReferenceIdeal.Gen.V_main_arg1 m' c).trans h1)).trans
    (codes_same _ _ hg)
theorem ref3 : (Cert.ReferenceIdeal.Gen.dats m' 0 c).arrAt 3 Cert.ReferenceIdeal.cfg0.N = scales (nums m c) := by
  rw [Cert.ReferenceIdeal.Final.final3]
  exact (congrArg₂ (Cert.ReferenceIdeal.Gen.out0_3 (F := Ideal)) ((Cert.ReferenceIdeal.Gen.V_main_arg0 m' c).trans h0) ((Cert.ReferenceIdeal.Gen.V_main_arg1 m' c).trans h1)).trans
    (scales_same _ (words m c) hg)
theorem ref4 : (Cert.ReferenceIdeal.Gen.dats m' 0 c).arrAt 4 Cert.ReferenceIdeal.cfg0.N = places (nums m c) (words m c) := by
  rw [Cert.ReferenceIdeal.Final.final4]
  exact (congrArg₂ (Cert.ReferenceIdeal.Gen.out0_4 (F := Ideal)) ((Cert.ReferenceIdeal.Gen.V_main_arg0 m' c).trans h0) ((Cert.ReferenceIdeal.Gen.V_main_arg1 m' c).trans h1)).trans
    (places_same _ _ hg)
end

/-- Both programs end with the same codes, scales and places, their arguments unchanged. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hargs
  have hg : ∀ c i, Good (nums m c i) := fun c i => nums_good m c (h := hpre) i
  refine ⟨fun c => codes (nums m c) (words m c), fun c => scales (nums m c), fun c => places (nums m c) (words m c), ?_, ?_⟩
  · refine (θ_run _ _ _).mono (fun r h c => ?_) (Cert.KernelIdeal.Value.run_blocks m g)
    obtain ⟨a, b, d, e, f⟩ := h c
    exact ⟨a.trans (kern2 m c), b.trans (kern3 m c), d.trans (kern4 m c), e, f⟩
  · refine (θ_run _ _ _).mono (fun r h c => ?_) (Cert.ReferenceIdeal.Final.run_arrays m' g')
    obtain ⟨a, b, d, e, f⟩ := h c
    exact ⟨a.trans (ref2 m c m' (hargs c).1 (hargs c).2 (hg c)), b.trans (ref3 m c m' (hargs c).1 (hargs c).2 (hg c)),
      d.trans (ref4 m c m' (hargs c).1 (hargs c).2 (hg c)), e, f⟩

end Cert.Same
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_in_range
public import proofs.«01_k».proof.Proof.Kern.Frame
public import proofs.«01_k».proof.Proof.KernI.Frame
public import proofs.«01_k».proof.Proof.Same
public import Idealize.ShloMosaic.Adequacy
public import Idealize.ShloMosaic.Init
public import Idealize.ShloMosaic.Lib.Bf16PairInverse

@[expose] public section

noncomputable section

namespace Cert.Proof

open Idealize.ShloMosaic Idealize.SL.Sem Cert.Kernel

/-- What the idealization rests on: every rule it applied, at the shapes it applied it to. -/
theorem preserved : Cert.preserves_Kernel_KernelIdeal :=
  ⟨IdealRules.bf16_pair.bufferStatement _ _, IdealRules.bf16_pair.statement _ _, IdealRules.bf16_pair.statement _ _,
    IdealRules.bf16_pair.statement _ _, IdealRules.bf16_pack.statement _, IdealRules.sign_bit.maskStatement _ _⟩

theorem claim : Cert.Claim := ⟨Cert.Kernel.Gen.facts, Cert.KernelIdeal.Gen.facts, Cert.ReferenceIdeal.Gen.facts, Cert.Pre_in_range.Gen.facts,
  fun m ρ _ => Cert.Kernel.Own.frame m ρ, fun m ρ _ => Cert.KernelIdeal.Own.frame m ρ,
  fun m ρ _ => Cert.KernelIdeal.Own.frame m ρ, fun m ρ _ => Cert.ReferenceIdeal.Gen.frame m ρ,
  fun m ρ _ => Cert.ReferenceIdeal.Gen.frame m ρ, preserved, Cert.Same.algebraic⟩

end Cert.Proof

end
